-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_lse [hPre_finite_lse : Cert.Pre_finite_lse.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_lse.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_lse [hPre_finite_lse : Cert.Pre_finite_lse.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_lse.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_qk [hPre_finite_qk : Cert.Pre_finite_qk.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_qk.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_qk [hPre_finite_qk : Cert.Pre_finite_qk.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_qk.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Kernel2Ideal_pre_finite_lse [hKernel2Ideal : Cert.Kernel2Ideal.Facts] [hPre_finite_lse : Cert.Pre_finite_lse.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_lse m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Reference2Ideal_pre_finite_lse [hReference2Ideal : Cert.Reference2Ideal.Facts] [hPre_finite_lse : Cert.Pre_finite_lse.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_lse m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite_qk [hKernel3Ideal : Cert.Kernel3Ideal.Facts] [hPre_finite_qk : Cert.Pre_finite_qk.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_qk m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite_qk [hReference3Ideal : Cert.Reference3Ideal.Facts] [hPre_finite_qk : Cert.Pre_finite_qk.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_qk m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite_lse [hKernel2Ideal : Cert.Kernel2Ideal.Facts] [hReference2Ideal : Cert.Reference2Ideal.Facts] [hPre_finite_lse : Cert.Pre_finite_lse.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_lse m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v21)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v21) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal_pre_finite_qk [hKernel3Ideal : Cert.Kernel3Ideal.Facts] [hReference3Ideal : Cert.Reference3Ideal.Facts] [hPre_finite_qk : Cert.Pre_finite_qk.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_qk m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v60_0)) (v1 : (c : Dev Cert.Kernel3Ideal.nD) → Buf (Elt Ideal) ((c.tc : Thread Cert.Kernel3Ideal.nD Cert.Kernel3Ideal.τ).loc Cert.Kernel3Ideal.main_v60_1)) (v2 : (c : Dev Cert.Kernel3Ideal.nD) → Buf (Elt Ideal) ((c.tc : Thread Cert.Kernel3Ideal.nD Cert.Kernel3Ideal.τ).loc Cert.Kernel3Ideal.main_v60_2)) (v3 : (c : Dev Cert.Kernel3Ideal.nD) → Buf (Elt Ideal) ((c.tc : Thread Cert.Kernel3Ideal.nD Cert.Kernel3Ideal.τ).loc Cert.Kernel3Ideal.main_v60_3)) (v4 : (c : Dev Cert.Kernel3Ideal.nD) → Buf (Elt Ideal) ((c.tc : Thread Cert.Kernel3Ideal.nD Cert.Kernel3Ideal.τ).loc Cert.Kernel3Ideal.main_v60_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v60_0) = v0 c
          ∧ r.2.mem ((c.tc : Thread Cert.Kernel3Ideal.nD Cert.Kernel3Ideal.τ).loc Cert.Kernel3Ideal.main_v60_1) = v1 c
          ∧ r.2.mem ((c.tc : Thread Cert.Kernel3Ideal.nD Cert.Kernel3Ideal.τ).loc Cert.Kernel3Ideal.main_v60_2) = v2 c
          ∧ r.2.mem ((c.tc : Thread Cert.Kernel3Ideal.nD Cert.Kernel3Ideal.τ).loc Cert.Kernel3Ideal.main_v60_3) = v3 c
          ∧ r.2.mem ((c.tc : Thread Cert.Kernel3Ideal.nD Cert.Kernel3Ideal.τ).loc Cert.Kernel3Ideal.main_v60_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v122) = v0 c
          ∧ r.2.mem ((c.tc : Thread Cert.Reference3Ideal.nD Cert.Reference3Ideal.τ).loc Cert.Reference3Ideal.main_v124) = v1 c
          ∧ r.2.mem ((c.tc : Thread Cert.Reference3Ideal.nD Cert.Reference3Ideal.τ).loc Cert.Reference3Ideal.main_v125) = v2 c
          ∧ r.2.mem ((c.tc : Thread Cert.Reference3Ideal.nD Cert.Reference3Ideal.τ).loc Cert.Reference3Ideal.main_v109) = v3 c
          ∧ r.2.mem ((c.tc : Thread Cert.Reference3Ideal.nD Cert.Reference3Ideal.τ).loc Cert.Reference3Ideal.main_v120) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite_lse : Cert.Pre_finite_lse.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_lse (hKernel2Ideal := hKernel2Ideal) (hPre_finite_lse := hPre_finite_lse)
    ∧ quiescent_Reference2Ideal (hReference2Ideal := hReference2Ideal)
    ∧ quiescent_Reference2Ideal_pre_finite_lse (hReference2Ideal := hReference2Ideal) (hPre_finite_lse := hPre_finite_lse)
    ∧ quiescent_Kernel3 (hKernel3 := hKernel3)
    ∧ quiescent_Kernel3Ideal (hKernel3Ideal := hKernel3Ideal)
    ∧ quiescent_Kernel3Ideal_pre_finite_qk (hKernel3Ideal := hKernel3Ideal) (hPre_finite_qk := hPre_finite_qk)
    ∧ quiescent_Reference3Ideal (hReference3Ideal := hReference3Ideal)
    ∧ quiescent_Reference3Ideal_pre_finite_qk (hReference3Ideal := hReference3Ideal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_lse (hKernel2Ideal := hKernel2Ideal) (hReference2Ideal := hReference2Ideal) (hPre_finite_lse := hPre_finite_lse)
    ∧ preserves_Kernel3_Kernel3Ideal
    ∧ algebraic_Kernel3Ideal_Reference3Ideal_pre_finite_qk (hKernel3Ideal := hKernel3Ideal) (hReference3Ideal := hReference3Ideal) (hPre_finite_qk := hPre_finite_qk)
-- ==== Pre_finite.lean ====
abbrev S8x2048x1536 : Shape := ⟨3, ![8, 2048, 1536]⟩
abbrev S_ : Shape := ⟨0, ![]⟩

class Facts : Prop where
  bcast_S_S8x2048x1536 : S_.BroadcastsInDim S8x2048x1536 (![] : Fin 0 → Fin S8x2048x1536.rank)

variable [Facts]

def fn {F : FTy → Type} [FloatOps F] (main_arg0 : FVec F S8x2048x1536 .bf16) (main_arg1 : FVec F S8x2048x1536 .bf16) (main_arg2 : FVec F S8x2048x1536 .bf16) : IVec S8x2048x1536 1 :=
  let main_v0 : FVec F S8x2048x1536 .bf16 := Host.absf main_arg0
  let main_cst : FVec F S_ .bf16 := constant S_ .bf16 0x7F80#16
  let main_v1 : FVec F S8x2048x1536 .bf16 := broadcastInDim S8x2048x1536 ![] bcast_S_S8x2048x1536 main_cst
  let main_v2 : IVec S8x2048x1536 1 := cmpf .olt main_v0 main_v1
  let main_v3 : FVec F S8x2048x1536 .bf16 := Host.absf main_arg1
  let main_cst_0 : FVec F S_ .bf16 := constant S_ .bf16 0x7F80#16
  let main_v4 : FVec F S8x2048x1536 .bf16 := broadcastInDim S8x2048x1536 ![] bcast_S_S8x2048x1536 main_cst_0
  let main_v5 : IVec S8x2048x1536 1 := cmpf .olt main_v3 main_v4
  let main_v6 : IVec S8x2048x1536 1 := andi main_v2 main_v5
  main_v6
-- ==== Pre_finite_lse.lean ====
abbrev S16384x1024 : Shape := ⟨2, ![16384, 1024]⟩
abbrev S16384x512 : Shape := ⟨2, ![16384, 512]⟩
abbrev S16384x128 : Shape := ⟨2, ![16384, 128]⟩
abbrev S16384x2048 : Shape := ⟨2, ![16384, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S16384x8 : Shape := ⟨2, ![16384, 8]⟩
abbrev S_ : Shape := ⟨0, ![]⟩

class Facts : Prop where
  slices_S16384x128_S16384x8_0_0 : S16384x128.Slices ![0, 0] S16384x8
  bcast_S_S16384x8 : S_.BroadcastsInDim S16384x8 (![] : Fin 0 → Fin S16384x8.rank)

variable [Facts]

def fn {F : FTy → Type} [FloatOps F] (main_arg0 : FVec F S16384x1024 .f32) (main_arg1 : FVec F S16384x512 .bf16) (main_arg2 : FVec F S16384x512 .bf16) (main_arg3 : FVec F S16384x512 .bf16) (main_arg4 : FVec F S16384x128 .f32) (main_arg5 : FVec F S16384x128 .f32) (main_arg6 : FVec F S16384x128 .f32) (main_arg7 : FVec F S16384x512 .bf16) (main_arg8 : FVec F S16384x2048 .f32) (main_arg9 : FVec F S1x512x1024 .f32) (main_arg10 : FVec F S1x512x1024 .f32) (main_arg11 : FVec F S1x1024x1024 .f32) (main_arg12 : FVec F S1x1024 .f32) (main_arg13 : FVec F S1x1024x5632 .f32) (main_arg14 : FVec F S1x2816x1024 .f32) : IVec S16384x8 1 :=
  let main_v0 : FVec F S16384x8 .f32 := (extractStridedSlice S16384x8 ![0, 0] · slices_S16384x128_S16384x8_0_0) main_arg4
  let main_v1 : FVec F S16384x8 .f32 := Host.absf main_v0
  let main_cst : FVec F S_ .f32 := constant S_ .f32 0x7F800000#32
  let main_v2 : FVec F S16384x8 .f32 := broadcastInDim S16384x8 ![] bcast_S_S16384x8 main_cst
  let main_v3 : IVec S16384x8 1 := cmpf .olt main_v1 main_v2
  let main_v4 : FVec F S16384x8 .f32 := (extractStridedSlice S16384x8 ![0, 0] · slices_S16384x128_S16384x8_0_0) main_arg5
  let main_v5 : FVec F S16384x8 .f32 := Host.absf main_v4
  let main_cst_0 : FVec F S_ .f32 := constant S_ .f32 0x7F800000#32
  let main_v6 : FVec F S16384x8 .f32 := broadcastInDim S16384x8 ![] bcast_S_S16384x8 main_cst_0
  let main_v7 : IVec S16384x8 1 := cmpf .olt main_v5 main_v6
  let main_v8 : IVec S16384x8 1 := andi main_v3 main_v7
  let main_v9 : FVec F S16384x8 .f32 := (extractStridedSlice S16384x8 ![0, 0] · slices_S16384x128_S16384x8_0_0) main_arg6
  let main_v10 : FVec F S16384x8 .f32 := Host.absf main_v9
  let main_cst_1 : FVec F S_ .f32 := constant S_ .f32 0x7F800000#32
  let main_v11 : FVec F S16384x8 .f32 := broadcastInDim S16384x8 ![] bcast_S_S16384x8 main_cst_1
  let main_v12 : IVec S16384x8 1 := cmpf .olt main_v10 main_v11
  let main_v13 : IVec S16384x8 1 := andi main_v8 main_v12
  main_v13
-- ==== Pre_finite_qk.lean ====
abbrev S16384x1024 : Shape := ⟨2, ![16384, 1024]⟩
abbrev S16384 : Shape := ⟨1, ![16384]⟩
abbrev S1x1024 : Shape := ⟨2, ![1, 1024]⟩
abbrev S1x1024x7680 : Shape := ⟨3, ![1, 1024, 7680]⟩
abbrev S1x2x1024 : Shape := ⟨3, ![1, 2, 1024]⟩
abbrev S1x64 : Shape := ⟨2, ![1, 64]⟩
abbrev S1024 : Shape := ⟨1, ![1024]⟩
abbrev S_ : Shape := ⟨0, ![]⟩
abbrev S16384x1 : Shape := ⟨2, ![16384, 1]⟩
abbrev S1024x7680 : Shape := ⟨2, ![1024, 7680]⟩
abbrev S1024x3072 : Shape := ⟨2, ![1024, 3072]⟩
abbrev S16384x3072 : Shape := ⟨2, ![16384, 3072]⟩

class Facts : Prop where
  shapeCasts_S1x1024_S1024 : S1x1024.ShapeCasts S1024
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S1x1024x7680_S1024x7680 : S1x1024x7680.ShapeCasts S1024x7680
  slices_S1024x7680_S1024x3072_0_0 : S1024x7680.Slices ![0, 0] S1024x3072
  bcast_S_S16384x3072 : S_.BroadcastsInDim S16384x3072 (![] : Fin 0 → Fin S16384x3072.rank)
  dot_S16384x1024_S1024x3072_S16384x3072_1_0_0_1_n_n_wf : DotDims.WF S16384x1024 S1024x3072 S16384x3072 [1] [0] [0] [1] [] []

variable [Facts]

def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf
def fn {F : FTy → Type} [FloatOps F] (main_arg0 : FVec F S16384x1024 .f32) (main_arg1 : IVec S16384 32) (main_arg2 : FVec F S1x1024 .f32) (main_arg3 : FVec F S1x1024x7680 .f32) (main_arg4 : FVec F S1x2x1024 .f32) (main_arg5 : FVec F S1x64 .f32) (main_arg6 : FVec F S1x64 .f32) : IVec S16384x3072 1 :=
  let main_v0 : FVec F S1024 .f32 := shapeCast S1024 main_arg2 shapeCasts_S1x1024_S1024
  let main_v1 : FVec F S16384x1024 .f32 := mulf main_arg0 main_arg0
  let main_cst : FVec F S_ .f32 := constant S_ .f32 0x00000000#32
  let main_v2 : FVec F S16384 .f32 := (fun x v => Host.reduceAdd x v reducesTo_S16384x1024_S16384_d1 h_S_) main_v1 main_cst
  let main_v3 : FVec F S16384x1 .f32 := broadcastInDim S16384x1 ![0] bcast_S16384_S16384x1_0 main_v2
  let main_cst_0 : FVec F S_ .f32 := constant S_ .f32 0x44800000#32
  let main_v4 : FVec F S16384x1 .f32 := broadcastInDim S16384x1 ![] bcast_S_S16384x1 main_cst_0
  let main_v5 : FVec F S16384x1 .f32 := Host.divf main_v3 main_v4
  let main_cst_1 : FVec F S_ .f32 := constant S_ .f32 0x358637BD#32
  let main_v6 : FVec F S16384x1 .f32 := broadcastInDim S16384x1 ![] bcast_S_S16384x1 main_cst_1
  let main_v7 : FVec F S16384x1 .f32 := addf main_v5 main_v6
  let main_v8 : FVec F S16384x1 .f32 := Host.rsqrt main_v7
  let main_v9 : FVec F S16384x1024 .f32 := broadcastInDim S16384x1024 ![0, 1] bcast_S16384x1_S16384x1024_0_1 main_v8
  let main_v10 : FVec F S16384x1024 .f32 := mulf main_arg0 main_v9
  let main_v11 : FVec F S1x1024 .f32 := broadcastInDim S1x1024 ![1] bcast_S1024_S1x1024_1 main_v0
  let main_v12 : FVec F S16384x1024 .f32 := broadcastInDim S16384x1024 ![0, 1] bcast_S1x1024_S16384x1024_0_1 main_v11
  let main_v13 : FVec F S16384x1024 .f32 := mulf main_v10 main_v12
  let main_v14 : FVec F S1024x7680 .f32 := shapeCast S1024x7680 main_arg3 shapeCasts_S1x1024x7680_S1024x7680
  let main_v15 : FVec F S1024x3072 .f32 := (extractStridedSlice S1024x3072 ![0, 0] · slices_S1024x7680_S1024x3072_0_0) main_v14
  let main_v16 : FVec F S16384x3072 .f32 := (fun l r => Host.dotGeneral dot_S16384x1024_S1024x3072_S16384x3072_1_0_0_1_n_n none l r) main_v13 main_v15
  let main_v17 : FVec F S16384x3072 .f32 := Host.absf main_v16
  let main_cst_2 : FVec F S_ .f32 := constant S_ .f32 0x7F800000#32
  let main_v18 : FVec F S16384x3072 .f32 := broadcastInDim S16384x3072 ![] bcast_S_S16384x3072 main_cst_2
  let main_v19 : IVec S16384x3072 1 := cmpf .olt main_v17 main_v18
  main_v19
-- ==== Kernel.lean ====
abbrev S8x2048x1536 : Shape := ⟨3, ![8, 2048, 1536]⟩
abbrev S8x2048x512 : Shape := ⟨3, ![8, 2048, 512]⟩
abbrev S8x2048x128 : Shape := ⟨3, ![8, 2048, 128]⟩
abbrev S1x2048x512 : Shape := ⟨3, ![1, 2048, 512]⟩
abbrev S1x2048x128 : Shape := ⟨3, ![1, 2048, 128]⟩
abbrev S1x128 : Shape := ⟨2, ![1, 128]⟩
abbrev S128x256 : Shape := ⟨2, ![128, 256]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x1536, .bf16⟩
  | .hbm, ⟨2, _⟩ => ⟨S8x2048x1536, .bf16⟩
  | .hbm, ⟨3, _⟩ => ⟨S8x2048x512, .bf16⟩
  | .hbm, ⟨4, _⟩ => ⟨S8x2048x128, .f32⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x128, .f32⟩
  | .local _ .vmem, ⟨9, _⟩ => ⟨S1x2048x128, .f32⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 1], ![false, false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  v7
def k0_mult2 (k0_t1 : Fin k0_t1_loop.trips) : BitVec 32 :=
  let c1792_i32 : BitVec 32 := 1792#32
  let c0_i32_2 : BitVec 32 := 0#32
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  let v8 : BitVec 32 := v7
  let c64_i32_1 : BitVec 32 := 64#32
  let v9 : BitVec 32 := Scalar.subi v8 c64_i32_1
  let v10 : BitVec 32 := Scalar.maxsi c0_i32_2 v9
  let v11 : BitVec 32 := Scalar.minsi c1792_i32 v10
  v11
def k0_off1 (k0_t1 : Fin k0_t1_loop.trips) : Fin 3 → Nat :=
  let c0 : Index := 0#32
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  let v8 : BitVec 32 := v7
  let v25 : Index := Scalar.indexCast v8
  let c0_6 : Index := 0#32
  ![0, v25.toNat, 0]
def k0_off2 (k0_t1 : Fin k0_t1_loop.trips) : Fin 3 → Nat :=
  let c0_7 : Index := 0#32
  let c1792_i32 : BitVec 32 := 1792#32
  let c0_i32_2 : BitVec 32 := 0#32
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  let v8 : BitVec 32 := v7
  let c64_i32_1 : BitVec 32 := 64#32
  let v9 : BitVec 32 := Scalar.subi v8 c64_i32_1
  let v10 : BitVec 32 := Scalar.maxsi c0_i32_2 v9
  let v11 : BitVec 32 := Scalar.minsi c1792_i32 v10
  let v12 : BitVec 32 := v11
  let v28 : Index := Scalar.indexCast v12
  let c0_8 : Index := 0#32
  ![0, v28.toNat, 0]
def k0_off3 (k0_t1 : Fin k0_t1_loop.trips) : Fin 3 → Nat :=
  let c0_31 : Index := 0#32
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  let v8 : BitVec 32 := v7
  let v111 : Index := Scalar.indexCast v8
  let c128 : Index := 128#32
  ![0, v111.toNat, 128]
def k0_off4 (k0_t1 : Fin k0_t1_loop.trips) : Fin 3 → Nat :=
  let c0_32 : Index := 0#32
  let c1792_i32 : BitVec 32 := 1792#32
  let c0_i32_2 : BitVec 32 := 0#32
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  let v8 : BitVec 32 := v7
  let c64_i32_1 : BitVec 32 := 64#32
  let v9 : BitVec 32 := Scalar.subi v8 c64_i32_1
  let v10 : BitVec 32 := Scalar.maxsi c0_i32_2 v9
  let v11 : BitVec 32 := Scalar.minsi c1792_i32 v10
  let v12 : BitVec 32 := v11
  let v114 : Index := Scalar.indexCast v12
  let c128_33 : Index := 128#32
  ![0, v114.toNat, 128]
def k0_off5 (k0_t1 : Fin k0_t1_loop.trips) : Fin 3 → Nat :=
  let c0_54 : Index := 0#32
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  let v8 : BitVec 32 := v7
  let v197 : Index := Scalar.indexCast v8
  let c256 : Index := 256#32
  ![0, v197.toNat, 256]
def k0_off6 (k0_t1 : Fin k0_t1_loop.trips) : Fin 3 → Nat :=
  let c0_55 : Index := 0#32
  let c1792_i32 : BitVec 32 := 1792#32
  let c0_i32_2 : BitVec 32 := 0#32
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  let v8 : BitVec 32 := v7
  let c64_i32_1 : BitVec 32 := 64#32
  let v9 : BitVec 32 := Scalar.subi v8 c64_i32_1
  let v10 : BitVec 32 := Scalar.maxsi c0_i32_2 v9
  let v11 : BitVec 32 := Scalar.minsi c1792_i32 v10
  let v12 : BitVec 32 := v11
  let v200 : Index := Scalar.indexCast v12
  let c256_56 : Index := 256#32
  ![0, v200.toNat, 256]
def k0_off7 (k0_t1 : Fin k0_t1_loop.trips) : Fin 3 → Nat :=
  let c0_77 : Index := 0#32
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  let v8 : BitVec 32 := v7
  let v283 : Index := Scalar.indexCast v8
  let c384 : Index := 384#32
  ![0, v283.toNat, 384]
def k0_off8 (k0_t1 : Fin k0_t1_loop.trips) : Fin 3 → Nat :=
  let c0_78 : Index := 0#32
  let c1792_i32 : BitVec 32 := 1792#32
  let c0_i32_2 : BitVec 32 := 0#32
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  let v8 : BitVec 32 := v7
  let c64_i32_1 : BitVec 32 := 64#32
  let v9 : BitVec 32 := Scalar.subi v8 c64_i32_1
  let v10 : BitVec 32 := Scalar.maxsi c0_i32_2 v9
  let v11 : BitVec 32 := Scalar.minsi c1792_i32 v10
  let v12 : BitVec 32 := v11
  let v286 : Index := Scalar.indexCast v12
  let c384_79 : Index := 384#32
  ![0, v286.toNat, 384]
def k0_off9 (k0_t1 : Fin k0_t1_loop.trips) : Fin 3 → Nat :=
  let c0_100 : Index := 0#32
  let c0_i32 : BitVec 32 := 0#32
  let c1_i32 : BitVec 32 := 1#32
  let arg7 : BitVec 32 := Scf.iv c0_i32 c1_i32 k0_t1
  let c128_i32 : BitVec 32 := 128#32
  let v7 : BitVec 32 := Scalar.muli arg7 c128_i32
  let v8 : BitVec 32 := v7
  let v369 : Index := Scalar.indexCast v8
  let c0_101 : Index := 0#32
  ![0, v369.toNat, 0]
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let c0_i32_1 : BitVec 32 := 0#32
  ![arg0.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let c0_i32_1 : BitVec 32 := 0#32
  ![arg0.toNat, c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.muli arg1 c3_i32
  let c0_i32 : BitVec 32 := 0#32
  let v1 : BitVec 32 := Scalar.addi v0 c0_i32
  let c0_i32_0 : BitVec 32 := 0#32
  let c0_i32_1 : BitVec 32 := 0#32
  ![arg0.toNat, c0_i32_0.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x1536 : Shape := ⟨3, ![8, 2048, 1536]⟩
abbrev S8x2048x3x8x64 : Shape := ⟨5, ![8, 2048, 3, 8, 64]⟩
abbrev S8x2048x1x8x64 : Shape := ⟨5, ![8, 2048, 1, 8, 64]⟩
abbrev S8x2048x8x64 : Shape := ⟨4, ![8, 2048, 8, 64]⟩
abbrev S8x1x8x2048x64 : Shape := ⟨5, ![8, 1, 8, 2048, 64]⟩
abbrev S_ : Shape := ⟨0, ![]⟩
abbrev S8x1x8x32x64x64 : Shape := ⟨6, ![8, 1, 8, 32, 64, 64]⟩
abbrev S8x1x8x2176x64 : Shape := ⟨5, ![8, 1, 8, 2176, 64]⟩
abbrev S8x1x8x34x64x64 : Shape := ⟨6, ![8, 1, 8, 34, 64, 64]⟩
abbrev S8x1x8x32x192x64 : Shape := ⟨6, ![8, 1, 8, 32, 192, 64]⟩
abbrev S32 : Shape := ⟨1, ![32]⟩
abbrev S32x1 : Shape := ⟨2, ![32, 1]⟩
abbrev S64 : Shape := ⟨1, ![64]⟩
abbrev S1x64 : Shape := ⟨2, ![1, 64]⟩
abbrev S32x64 : Shape := ⟨2, ![32, 64]⟩
abbrev S192 : Shape := ⟨1, ![192]⟩
abbrev S1x192 : Shape := ⟨2, ![1, 192]⟩
abbrev S32x192 : Shape := ⟨2, ![32, 192]⟩
abbrev S32x64x1 : Shape := ⟨3, ![32, 64, 1]⟩
abbrev S32x1x192 : Shape := ⟨3, ![32, 1, 192]⟩
abbrev S32x64x192 : Shape := ⟨3, ![32, 64, 192]⟩
abbrev S8x1x8x32x64x192 : Shape := ⟨6, ![8, 1, 8, 32, 64, 192]⟩
abbrev S8x1x8x32x64 : Shape := ⟨5, ![8, 1, 8, 32, 64]⟩
abbrev S8x1x8x32x64x1 : Shape := ⟨6, ![8, 1, 8, 32, 64, 1]⟩
abbrev S8x1x8x2048 : Shape := ⟨4, ![8, 1, 8, 2048]⟩
abbrev S8x2048x1x8 : Shape := ⟨4, ![8, 2048, 1, 8]⟩
abbrev S8x2048x8 : Shape := ⟨3, ![8, 2048, 8]⟩
abbrev S8x2048x512 : Shape := ⟨3, ![8, 2048, 512]⟩
abbrev S8x2048x128 : Shape := ⟨3, ![8, 2048, 128]⟩

abbrev nBuf : Space → Nat
  | .hbm => 117
  | .vmem => 0
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x1536, .bf16⟩
  | .hbm, ⟨2, _⟩ => ⟨S8x2048x1536, .bf16⟩
  | .hbm, ⟨3, _⟩ => ⟨S8x2048x1536, .f32⟩
  | .hbm, ⟨4, _⟩ => ⟨S8x2048x3x8x64, .f32⟩
  | .hbm, ⟨5, _⟩ => ⟨S8x2048x1536, .f32⟩
  | .hbm, ⟨6, _⟩ => ⟨S8x2048x3x8x64, .f32⟩
  | .hbm, ⟨7, _⟩ => ⟨S8x2048x1536, .f32⟩
  | .hbm, ⟨8, _⟩ => ⟨S8x2048x3x8x64, .f32⟩
  | .hbm, ⟨9, _⟩ => ⟨S8x2048x1x8x64, .f32⟩
  | .hbm, ⟨10, _⟩ => ⟨S8x2048x8x64, .f32⟩
  | .hbm, ⟨11, _⟩ => ⟨S8x2048x1x8x64, .f32⟩
  | .hbm, ⟨12, _⟩ => ⟨S8x2048x8x64, .f32⟩
  | .hbm, ⟨13, _⟩ => ⟨S8x2048x1x8x64, .f32⟩
  | .hbm, ⟨14, _⟩ => ⟨S8x2048x8x64, .f32⟩
  | .hbm, ⟨15, _⟩ => ⟨S8x2048x1x8x64, .f32⟩
  | .hbm, ⟨16, _⟩ => ⟨S8x1x8x2048x64, .f32⟩
  | .hbm, ⟨17, _⟩ => ⟨S8x2048x1x8x64, .f32⟩
  | .hbm, ⟨18, _⟩ => ⟨S8x1x8x2048x64, .f32⟩
  | .hbm, ⟨19, _⟩ => ⟨S8x2048x1x8x64, .f32⟩
  | .hbm, ⟨20, _⟩ => ⟨S8x1x8x2048x64, .f32⟩
  | .hbm, ⟨21, _⟩ => ⟨S_, .i32⟩
  | .hbm, ⟨22, _⟩ => ⟨S_, .f32⟩
  | .hbm, ⟨23, _⟩ => ⟨S8x1x8x2048x64, .f32⟩
  | .hbm, ⟨24, _⟩ => ⟨S8x1x8x32x64x64, .f32⟩
  | .hbm, ⟨25, _⟩ => ⟨S_, .i32⟩
  | .hbm, ⟨26, _⟩ => ⟨S_, .f32⟩
  | .hbm, ⟨27, _⟩ => ⟨S8x1x8x2176x64, .f32⟩
  | .hbm, ⟨28, _⟩ => ⟨S8x1x8x34x64x64, .f32⟩
  | .hbm, ⟨29, _⟩ => ⟨S8x1x8x32x64x64, .f32⟩
  | .hbm, ⟨30, _⟩ => ⟨S8x1x8x32x64x64, .f32⟩
  | .hbm, ⟨31, _⟩ => ⟨S8x1x8x32x64x64, .f32⟩
  | .hbm, ⟨32, _⟩ => ⟨S8x1x8x32x192x64, .f32⟩
  | .hbm, ⟨33, _⟩ => ⟨S_, .i32⟩
  | .hbm, ⟨34, _⟩ => ⟨S_, .f32⟩
  | .hbm, ⟨35, _⟩ => ⟨S8x1x8x2176x64, .f32⟩
  | .hbm, ⟨36, _⟩ => ⟨S8x1x8x34x64x64, .f32⟩
  | .hbm, ⟨37, _⟩ => ⟨S8x1x8x32x64x64, .f32⟩
  | .hbm, ⟨38, _⟩ => ⟨S8x1x8x32x64x64, .f32⟩
  | .hbm, ⟨39, _⟩ => ⟨S8x1x8x32x64x64, .f32⟩
  | .hbm, ⟨40, _⟩ => ⟨S8x1x8x32x192x64, .f32⟩
  | .hbm, ⟨41, _⟩ => ⟨S32, .i32⟩
  | .hbm, ⟨42, _⟩ => ⟨S32x1, .i32⟩
  | .hbm, ⟨43, _⟩ => ⟨S_, .i32⟩
  | .hbm, ⟨44, _⟩ => ⟨S32x1, .i32⟩
  | .hbm, ⟨45, _⟩ => ⟨S32x1, .i32⟩
  | .hbm, ⟨46, _⟩ => ⟨S64, .i32⟩
  | .hbm, ⟨47, _⟩ => ⟨S1x64, .i32⟩
  | .hbm, ⟨48, _⟩ => ⟨S32x64, .i32⟩
  | .hbm, ⟨49, _⟩ => ⟨S32x64, .i32⟩
  | .hbm, ⟨50, _⟩ => ⟨S32x64, .i32⟩
  | .hbm, ⟨51, _⟩ => ⟨S32, .i32⟩
  | .hbm, ⟨52, _⟩ => ⟨S32x1, .i32⟩
  | .hbm, ⟨53, _⟩ => ⟨S_, .i32⟩
  | .hbm, ⟨54, _⟩ => ⟨S32x1, .i32⟩
  | .hbm, ⟨55, _⟩ => ⟨S32x1, .i32⟩
  | .hbm, ⟨56, _⟩ => ⟨S_, .i32⟩
  | .hbm, ⟨57, _⟩ => ⟨S32x1, .i32⟩
  | .hbm, ⟨58, _⟩ => ⟨S32x1, .i32⟩
  | .hbm, ⟨59, _⟩ => ⟨S192, .i32⟩
  | .hbm, ⟨60, _⟩ => ⟨S1x192, .i32⟩
  | .hbm, ⟨61, _⟩ => ⟨S32x192, .i32⟩
  | .hbm, ⟨62, _⟩ => ⟨S32x192, .i32⟩
  | .hbm, ⟨63, _⟩ => ⟨S32x192, .i32⟩
  | .hbm, ⟨64, _⟩ => ⟨S32x64x1, .i32⟩
  | .hbm, ⟨65, _⟩ => ⟨S32x1x192, .i32⟩
  | .hbm, ⟨66, _⟩ => ⟨S32x64x192, .i32⟩
  | .hbm, ⟨67, _⟩ => ⟨S32x64x192, .i32⟩
  | .hbm, ⟨68, _⟩ => ⟨S32x64x192, .i32⟩
  | .hbm, ⟨69, _⟩ => ⟨S32x64x192, .i32⟩
  | .hbm, ⟨70, _⟩ => ⟨S_, .i32⟩
  | .hbm, ⟨71, _⟩ => ⟨S32x64x192, .i32⟩
  | .hbm, ⟨72, _⟩ => ⟨S32x64x192, .i1⟩
  | .hbm, ⟨73, _⟩ => ⟨S32x1x192, .i32⟩
  | .hbm, ⟨74, _⟩ => ⟨S_, .i32⟩
  | .hbm, ⟨75, _⟩ => ⟨S32x1x192, .i32⟩
  | .hbm, ⟨76, _⟩ => ⟨S32x1x192, .i1⟩
  | .hbm, ⟨77, _⟩ => ⟨S32x64x192, .i1⟩
  | .hbm, ⟨78, _⟩ => ⟨S32x64x192, .i1⟩
  | .hbm, ⟨79, _⟩ => ⟨S32x1x192, .i32⟩
  | .hbm, ⟨80, _⟩ => ⟨S_, .i32⟩
  | .hbm, ⟨81, _⟩ => ⟨S32x1x192, .i32⟩
  | .hbm, ⟨82, _⟩ => ⟨S32x1x192, .i1⟩
  | .hbm, ⟨83, _⟩ => ⟨S32x64x192, .i1⟩
  | .hbm, ⟨84, _⟩ => ⟨S32x64x192, .i1⟩
  | .hbm, ⟨85, _⟩ => ⟨S8x1x8x32x64x192, .f32⟩
  | .hbm, ⟨86, _⟩ => ⟨S_, .f32⟩
  | .hbm, ⟨87, _⟩ => ⟨S_, .f32⟩
  | .hbm, ⟨88, _⟩ => ⟨S8x1x8x32x64x192, .i1⟩
  | .hbm, ⟨89, _⟩ => ⟨S8x1x8x32x64x192, .f32⟩
  | .hbm, ⟨90, _⟩ => ⟨S8x1x8x32x64x192, .f32⟩
  | .hbm, ⟨91, _⟩ => ⟨S_, .f32⟩
  | .hbm, ⟨92, _⟩ => ⟨S8x1x8x32x64, .f32⟩
  | .hbm, ⟨93, _⟩ => ⟨S8x1x8x32x64x1, .f32⟩
  | .hbm, ⟨94, _⟩ => ⟨S8x1x8x32x64x192, .f32⟩
  | .hbm, ⟨95, _⟩ => ⟨S8x1x8x32x64x192, .f32⟩
  | .hbm, ⟨96, _⟩ => ⟨S8x1x8x32x64x192, .f32⟩
  | .hbm, ⟨97, _⟩ => ⟨S_, .f32⟩
  | .hbm, ⟨98, _⟩ => ⟨S8x1x8x32x64, .f32⟩
  | .hbm, ⟨99, _⟩ => ⟨S8x1x8x32x64x1, .f32⟩
  | .hbm, ⟨100, _⟩ => ⟨S8x1x8x32x64x64, .f32⟩
  | .hbm, ⟨101, _⟩ => ⟨S8x1x8x32x64x64, .f32⟩
  | .hbm, ⟨102, _⟩ => ⟨S8x1x8x32x64x64, .f32⟩
  | .hbm, ⟨103, _⟩ => ⟨S8x1x8x32x64x1, .f32⟩
  | .hbm, ⟨104, _⟩ => ⟨S8x1x8x32x64x1, .f32⟩
  | .hbm, ⟨105, _⟩ => ⟨S8x1x8x32x64, .f32⟩
  | .hbm, ⟨106, _⟩ => ⟨S8x1x8x2048x64, .f32⟩
  | .hbm, ⟨107, _⟩ => ⟨S8x2048x1x8x64, .f32⟩
  | .hbm, ⟨108, _⟩ => ⟨S8x2048x8x64, .f32⟩
  | .hbm, ⟨109, _⟩ => ⟨S8x1x8x2048, .f32⟩
  | .hbm, ⟨110, _⟩ => ⟨S8x2048x1x8, .f32⟩
  | .hbm, ⟨111, _⟩ => ⟨S8x2048x8, .f32⟩
  | .hbm, ⟨112, _⟩ => ⟨S8x2048x512, .f32⟩
  | .hbm, ⟨113, _⟩ => ⟨S8x2048x512, .bf16⟩
  | .hbm, ⟨114, _⟩ => ⟨S_, .i32⟩
  | .hbm, ⟨115, _⟩ => ⟨S_, .f32⟩
  | .hbm, ⟨116, _⟩ => ⟨S8x2048x128, .f32⟩
  | _, _ => ⟨S8x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_call0_v0 : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_call1_v0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_1 : Ref sig .tc := ⟨.hbm, 33, rfl⟩
abbrev main_call2_v0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_3 : Ref sig .tc := ⟨.hbm, 53, rfl⟩
abbrev main_v43 : Ref sig .tc := ⟨.hbm, 54, rfl⟩
abbrev main_v44 : Ref sig .tc := ⟨.hbm, 55, rfl⟩
abbrev main_c_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c_5 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_c_6 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_c_7 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_v71 : Ref sig .tc := ⟨.hbm, 90, rfl⟩
abbrev main_cst_8 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_9 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_c_10 : Ref sig .tc := ⟨.hbm, 114, rfl⟩
abbrev main_call4_v0 : Ref sig .tc := ⟨.hbm, 115, rfl⟩
abbrev main_v93 : Ref sig .tc := ⟨.hbm, 116, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S16384x128 : Shape := ⟨2, ![16384, 128]⟩
abbrev S16384x2048 : Shape := ⟨2, ![16384, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S128 : Shape := ⟨1, ![128]⟩
abbrev S128x1 : Shape := ⟨2, ![128, 1]⟩
abbrev S512 : Shape := ⟨1, ![512]⟩
abbrev S1x512 : Shape := ⟨2, ![1, 512]⟩
abbrev S_ : Shape := ⟨0, ![]⟩
abbrev S128x512 : Shape := ⟨2, ![128, 512]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S512x512 : Shape := ⟨2, ![512, 512]⟩
abbrev S512x128 : Shape := ⟨2, ![512, 128]⟩
abbrev S512x2048 : Shape := ⟨2, ![512, 2048]⟩
abbrev S512x2816 : Shape := ⟨2, ![512, 2816]⟩
abbrev S512x1 : Shape := ⟨2, ![512, 1]⟩
abbrev S1024x256 : Shape := ⟨2, ![1024, 256]⟩
abbrev S512x256 : Shape := ⟨2, ![512, 256]⟩

abbrev nBuf : Space → Nat
  | .hbm => 54
  | .vmem => 28
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x512, .bf16⟩
  | .hbm, ⟨8, _⟩ => ⟨S16384x2048, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024x5632, .f32⟩
  | .hbm, ⟨14, _⟩ => ⟨S1x2816x1024, .f32⟩
  | .hbm, ⟨15, _⟩ => ⟨S128, .i32⟩
  | .hbm, ⟨16, _⟩ => ⟨S128x1, .i32⟩
  | .hbm, ⟨17, _⟩ => ⟨S512, .i32⟩
  | .hbm, ⟨18, _⟩ => ⟨S1x512, .i32⟩
  | .hbm, ⟨19, _⟩ => ⟨S_, .i32⟩
  | .hbm, ⟨20, _⟩ => ⟨S_, .i32⟩
  | .hbm, ⟨21, _⟩ => ⟨S1x512, .i32⟩
  | .hbm, ⟨22, _⟩ => ⟨S1x512, .i32⟩
  | .hbm, ⟨23, _⟩ => ⟨S1x512, .i32⟩
  | .hbm, ⟨24, _⟩ => ⟨S_, .i32⟩
  | .hbm, ⟨25, _⟩ => ⟨S1x512, .i32⟩
  | .hbm, ⟨26, _⟩ => ⟨S1x512, .i1⟩
  | .hbm, ⟨27, _⟩ => ⟨S1x512, .i32⟩
  | .hbm, ⟨28, _⟩ => ⟨S1x512, .i32⟩
  | .hbm, ⟨29, _⟩ => ⟨S_, .i32⟩
  | .hbm, ⟨30, _⟩ => ⟨S1x512, .i32⟩
  | .hbm, ⟨31, _⟩ => ⟨S1x512, .i1⟩
  | .hbm, ⟨32, _⟩ => ⟨S1x512, .i1⟩
  | .hbm, ⟨33, _⟩ => ⟨S_, .i32⟩
  | .hbm, ⟨34, _⟩ => ⟨S1x512, .i32⟩
  | .hbm, ⟨35, _⟩ => ⟨S1x512, .i32⟩
  | .hbm, ⟨36, _⟩ => ⟨S1x512, .i32⟩
  | .hbm, ⟨37, _⟩ => ⟨S128x512, .i32⟩
  | .hbm, ⟨38, _⟩ => ⟨S128x512, .i32⟩
  | .hbm, ⟨39, _⟩ => ⟨S128x512, .i1⟩
  | .hbm, ⟨40, _⟩ => ⟨S128x512, .bf16⟩
  | .hbm, ⟨41, _⟩ => ⟨S512x1024, .f32⟩
  | .hbm, ⟨42, _⟩ => ⟨S512x1024, .bf16⟩
  | .hbm, ⟨43, _⟩ => ⟨S512x1024, .f32⟩
  | .hbm, ⟨44, _⟩ => ⟨S512x1024, .bf16⟩
  | .hbm, ⟨45, _⟩ => ⟨S1024x1024, .f32⟩
  | .hbm, ⟨46, _⟩ => ⟨S1024x1024, .bf16⟩
  | .hbm, ⟨47, _⟩ => ⟨S1024, .f32⟩
  | .hbm, ⟨48, _⟩ => ⟨S1x1024, .f32⟩
  | .hbm, ⟨49, _⟩ => ⟨S1024x5632, .f32⟩
  | .hbm, ⟨50, _⟩ => ⟨S1024x5632, .bf16⟩
  | .hbm, ⟨51, _⟩ => ⟨S2816x1024, .f32⟩
  | .hbm, ⟨52, _⟩ => ⟨S2816x1024, .bf16⟩
  | .hbm, ⟨53, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x512, .bf16⟩
  | .local _ .vmem, ⟨15, _⟩ => ⟨S512x512, .bf16⟩
  | .local _ .vmem, ⟨16, _⟩ => ⟨S512x2048, .f32⟩
  | .local _ .vmem, ⟨17, _⟩ => ⟨S512x2048, .f32⟩
  | .local _ .vmem, ⟨18, _⟩ => ⟨S128x512, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1x1024, .f32⟩
  | .local _ .vmem, ⟨23, _⟩ => ⟨S1024x5632, .bf16⟩
  | .local _ .vmem, ⟨24, _⟩ => ⟨S2816x1024, .bf16⟩
  | .local _ .vmem, ⟨25, _⟩ => ⟨S512x1024, .f32⟩
  | .local _ .vmem, ⟨26, _⟩ => ⟨S512x1024, .f32⟩
  | .local _ .vmem, ⟨27, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x5632 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S16384x1024 : Shape := ⟨2, ![16384, 1024]⟩
abbrev S16384x512 : Shape := ⟨2, ![16384, 512]⟩
abbrev S16384x128 : Shape := ⟨2, ![16384, 128]⟩
abbrev S16384x2048 : Shape := ⟨2, ![16384, 2048]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S16384x8x64 : Shape := ⟨3, ![16384, 8, 64]⟩
abbrev S16384x8 : Shape := ⟨2, ![16384, 8]⟩
abbrev S1x16384x8 : Shape := ⟨3, ![1, 16384, 8]⟩
abbrev S3x16384x8 : Shape := ⟨3, ![3, 16384, 8]⟩
abbrev S_ : Shape := ⟨0, ![]⟩
abbrev S3x16384x8x1 : Shape := ⟨4, ![3, 16384, 8, 1]⟩
abbrev S1x16384x8x64 : Shape := ⟨4, ![1, 16384, 8, 64]⟩
abbrev S3x16384x8x64 : Shape := ⟨4, ![3, 16384, 8, 64]⟩
abbrev S512x1024 : Shape := ⟨2, ![512, 1024]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S16384x512, .bf16⟩
  | .hbm, ⟨8, _⟩ => ⟨S16384x2048, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024x5632, .f32⟩
  | .hbm, ⟨14, _⟩ => ⟨S1x2816x1024, .f32⟩
  | .hbm, ⟨15, _⟩ => ⟨S16384x512, .f32⟩
  | .hbm, ⟨16, _⟩ => ⟨S16384x8x64, .f32⟩
  | .hbm, ⟨17, _⟩ => ⟨S16384x512, .f32⟩
  | .hbm, ⟨18, _⟩ => ⟨S16384x8x64, .f32⟩
  | .hbm, ⟨19, _⟩ => ⟨S16384x512, .f32⟩
  | .hbm, ⟨20, _⟩ => ⟨S16384x8x64, .f32⟩
  | .hbm, ⟨21, _⟩ => ⟨S16384x8, .f32⟩
  | .hbm, ⟨22, _⟩ => ⟨S16384x8, .f32⟩
  | .hbm, ⟨23, _⟩ => ⟨S16384x8, .f32⟩
  | .hbm, ⟨24, _⟩ => ⟨S1x16384x8, .f32⟩
  | .hbm, ⟨25, _⟩ => ⟨S1x16384x8, .f32⟩
  | .hbm, ⟨26, _⟩ => ⟨S1x16384x8, .f32⟩
  | .hbm, ⟨27, _⟩ => ⟨S3x16384x8, .f32⟩
  | .hbm, ⟨28, _⟩ => ⟨S_, .f32⟩
  | .hbm, ⟨29, _⟩ => ⟨S16384x8, .f32⟩
  | .hbm, ⟨30, _⟩ => ⟨S_, .f32⟩
  | .hbm, ⟨31, _⟩ => ⟨S16384x8, .f32⟩
  | .hbm, ⟨32, _⟩ => ⟨S16384x8, .f32⟩
  | .hbm, ⟨33, _⟩ => ⟨S1x16384x8, .f32⟩
  | .hbm, ⟨34, _⟩ => ⟨S3x16384x8, .f32⟩
  | .hbm, ⟨35, _⟩ => ⟨S3x16384x8, .f32⟩
  | .hbm, ⟨36, _⟩ => ⟨S3x16384x8, .f32⟩
  | .hbm, ⟨37, _⟩ => ⟨S_, .f32⟩
  | .hbm, ⟨38, _⟩ => ⟨S16384x8, .f32⟩
  | .hbm, ⟨39, _⟩ => ⟨S1x16384x8, .f32⟩
  | .hbm, ⟨40, _⟩ => ⟨S3x16384x8, .f32⟩
  | .hbm, ⟨41, _⟩ => ⟨S3x16384x8, .f32⟩
  | .hbm, ⟨42, _⟩ => ⟨S3x16384x8x1, .f32⟩
  | .hbm, ⟨43, _⟩ => ⟨S1x16384x8x64, .f32⟩
  | .hbm, ⟨44, _⟩ => ⟨S1x16384x8x64, .f32⟩
  | .hbm, ⟨45, _⟩ => ⟨S1x16384x8x64, .f32⟩
  | .hbm, ⟨46, _⟩ => ⟨S3x16384x8x64, .f32⟩
  | .hbm, ⟨47, _⟩ => ⟨S3x16384x8x64, .f32⟩
  | .hbm, ⟨48, _⟩ => ⟨S3x16384x8x64, .f32⟩
  | .hbm, ⟨49, _⟩ => ⟨S_, .f32⟩
  | .hbm, ⟨50, _⟩ => ⟨S16384x8x64, .f32⟩
  | .hbm, ⟨51, _⟩ => ⟨S16384x512, .f32⟩
  | .hbm, ⟨52, _⟩ => ⟨S512x1024, .f32⟩
  | .hbm, ⟨53, _⟩ => ⟨S16384x1024, .f32⟩
  | .hbm, ⟨54, _⟩ => ⟨S16384x512, .f32⟩
  | .hbm, ⟨55, _⟩ => ⟨S512x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S1024x1024, .f32⟩
  | .hbm, ⟨63, _⟩ => ⟨S16384x1024, .f32⟩
  | .hbm, ⟨64, _⟩ => ⟨S16384x1024, .f32⟩
  | .hbm, ⟨65, _⟩ => ⟨S1024, .f32⟩
  | .hbm, ⟨66, _⟩ => ⟨S16384x1024, .f32⟩
  | .hbm, ⟨67, _⟩ => ⟨S_, .f32⟩
  | .hbm, ⟨68, _⟩ => ⟨S16384, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S_, .f32⟩
  | .hbm, ⟨74, _⟩ => ⟨S16384x1, .f32⟩
  | .hbm, ⟨75, _⟩ => ⟨S16384x1, .f32⟩
  | .hbm, ⟨76, _⟩ => ⟨S16384x1, .f32⟩
  | .hbm, ⟨77, _⟩ => ⟨S16384x1024, .f32⟩
  | .hbm, ⟨78, _⟩ => ⟨S16384x1024, .f32⟩
  | .hbm, ⟨79, _⟩ => ⟨S1x1024, .f32⟩
  | .hbm, ⟨80, _⟩ => ⟨S16384x1024, .f32⟩
  | .hbm, ⟨81, _⟩ => ⟨S16384x1024, .f32⟩
  | .hbm, ⟨82, _⟩ => ⟨S1024x5632, .f32⟩
  | .hbm, ⟨83, _⟩ => ⟨S16384x5632, .f32⟩
  | .hbm, ⟨84, _⟩ => ⟨S16384x2816, .f32⟩
  | .hbm, ⟨85, _⟩ => ⟨S16384x2816, .f32⟩
  | .hbm, ⟨86, _⟩ => ⟨S16384x2816, .f32⟩
  | .hbm, ⟨87, _⟩ => ⟨S16384x2816, .f32⟩
  | .hbm, ⟨88, _⟩ => ⟨S_, .f32⟩
  | .hbm, ⟨89, _⟩ => ⟨S16384x2816, .f32⟩
  | .hbm, ⟨90, _⟩ => ⟨S16384x2816, .f32⟩
  | .hbm, ⟨91, _⟩ => ⟨S_, .f32⟩
  | .hbm, ⟨92, _⟩ => ⟨S16384x2816, .f32⟩
  | .hbm, ⟨93, _⟩ => ⟨S16384x2816, .f32⟩
  | .hbm, ⟨94, _⟩ => ⟨S16384x2816, .f32⟩
  | .hbm, ⟨95, _⟩ => ⟨S16384x2816, .f32⟩
  | .hbm, ⟨96, _⟩ => ⟨S2816x1024, .f32⟩
  | .hbm, ⟨97, _⟩ => ⟨S16384x1024, .f32⟩
  | .hbm, ⟨98, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_3 : Ref sig .tc := ⟨.hbm, 67, rfl⟩
abbrev main_v48 : Ref sig .tc := ⟨.hbm, 68, rfl⟩
abbrev main_v49 : Ref sig .tc := ⟨.hbm, 69, rfl⟩
abbrev main_cst_4 : Ref sig .tc := ⟨.hbm, 70, rfl⟩
abbrev main_v50 : Ref sig .tc := ⟨.hbm, 71, rfl⟩
abbrev main_v51 : Ref sig .tc := ⟨.hbm, 72, rfl⟩
abbrev main_cst_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩

abbrev nD : Nat := 1
abbrev τ : Topo := Topo.v7x

variable {F : FTy → Type} [FloatOps F]
-- ==== Kernel3.lean ====
abbrev S16384x1024 : Shape := ⟨2, ![16384, 1024]⟩
abbrev S16384 : Shape := ⟨1, ![16384]⟩
abbrev S1x1024 : Shape := ⟨2, ![1, 1024]⟩
abbrev S1x1024x7680 : Shape := ⟨3, ![1, 1024, 7680]⟩
abbrev S1x2x1024 : Shape := ⟨3, ![1, 2, 1024]⟩
abbrev S1x64 : Shape := ⟨2, ![1, 64]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S16384x56 : Shape := ⟨2, ![16384, 56]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1024 : Shape := ⟨1, ![1024]⟩
abbrev S1024x7680 : Shape := ⟨2, ![1024, 7680]⟩
abbrev S64 : Shape := ⟨1, ![64]⟩
abbrev S2x64 : Shape := ⟨2, ![2, 64]⟩
abbrev S2x1024 : Shape := ⟨2, ![2, 1024]⟩
abbrev S1x2048 : Shape := ⟨2, ![1, 2048]⟩
abbrev S16384x1536 : Shape := ⟨2, ![16384, 1536]⟩
abbrev S16384x512 : Shape := ⟨2, ![16384, 512]⟩
abbrev S16384x2048 : Shape := ⟨2, ![16384, 2048]⟩
abbrev S512x1024 : Shape := ⟨2, ![512, 1024]⟩
abbrev S512x128 : Shape := ⟨2, ![512, 128]⟩
abbrev S512x1536 : Shape := ⟨2, ![512, 1536]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S1x512 : Shape := ⟨2, ![1, 512]⟩

abbrev nBuf : Space → Nat
  | .hbm => 114
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1x1024, .f32⟩
  | .hbm, ⟨3, _⟩ => ⟨S1x1024x7680, .f32⟩
  | .hbm, ⟨4, _⟩ => ⟨S1x2x1024, .f32⟩
  | .hbm, ⟨5, _⟩ => ⟨S1x64, .f32⟩
  | .hbm, ⟨6, _⟩ => ⟨S1x64, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S16384, .f32⟩
  | .hbm, ⟨22, _⟩ => ⟨S16384x1, .f32⟩
  | .hbm, ⟨23, _⟩ => ⟨S1x8, .f32⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S16384x8, .f32⟩
  | .hbm, ⟨28, _⟩ => ⟨S16384x8, .f32⟩
  | .hbm, ⟨29, _⟩ => ⟨S_, .f32⟩
  | .hbm, ⟨30, _⟩ => ⟨S16384x48, .f32⟩
  | .hbm, ⟨31, _⟩ => ⟨S16384x64, .f32⟩
  | .hbm, ⟨32, _⟩ => ⟨S16384x8, .f32⟩
  | .hbm, ⟨33, _⟩ => ⟨S_, .f32⟩
  | .hbm, ⟨34, _⟩ => ⟨S16384x56, .f32⟩
  | .hbm, ⟨35, _⟩ => ⟨S16384x64, .f32⟩
  | .hbm, ⟨36, _⟩ => ⟨S_, .f32⟩
  | .hbm, ⟨37, _⟩ => ⟨S16384x8, .f32⟩
  | .hbm, ⟨38, _⟩ => ⟨S_, .f32⟩
  | .hbm, ⟨39, _⟩ => ⟨S16384x48, .f32⟩
  | .hbm, ⟨40, _⟩ => ⟨S16384x64, .f32⟩
  | .hbm, ⟨41, _⟩ => ⟨S1x16384x1x64, .f32⟩
  | .hbm, ⟨42, _⟩ => ⟨S1x16384x2x64, .f32⟩
  | .hbm, ⟨43, _⟩ => ⟨S16384x128, .f32⟩
  | .hbm, ⟨44, _⟩ => ⟨S1x16384x1x64, .f32⟩
  | .hbm, ⟨45, _⟩ => ⟨S1x16384x2x64, .f32⟩
  | .hbm, ⟨46, _⟩ => ⟨S16384x128, .f32⟩
  | .hbm, ⟨47, _⟩ => ⟨S1x16384x1x64, .f32⟩
  | .hbm, ⟨48, _⟩ => ⟨S1x16384x2x64, .f32⟩
  | .hbm, ⟨49, _⟩ => ⟨S16384x128, .f32⟩
  | .hbm, ⟨50, _⟩ => ⟨S128, .i32⟩
  | .hbm, ⟨51, _⟩ => ⟨S128x1, .i32⟩
  | .hbm, ⟨52, _⟩ => ⟨S_, .i32⟩
  | .hbm, ⟨53, _⟩ => ⟨S_, .i32⟩
  | .hbm, ⟨54, _⟩ => ⟨S128x1, .i32⟩
  | .hbm, ⟨55, _⟩ => ⟨S128x1, .i32⟩
  | .hbm, ⟨56, _⟩ => ⟨S128x1, .i32⟩
  | .hbm, ⟨57, _⟩ => ⟨S_, .i32⟩
  | .hbm, ⟨58, _⟩ => ⟨S128x1, .i32⟩
  | .hbm, ⟨59, _⟩ => ⟨S128x1, .i1⟩
  | .hbm, ⟨60, _⟩ => ⟨S128x1, .i32⟩
  | .hbm, ⟨61, _⟩ => ⟨S128x1, .i32⟩
  | .hbm, ⟨62, _⟩ => ⟨S_, .i32⟩
  | .hbm, ⟨63, _⟩ => ⟨S128x1, .i32⟩
  | .hbm, ⟨64, _⟩ => ⟨S128x1, .i1⟩
  | .hbm, ⟨65, _⟩ => ⟨S128x1, .i1⟩
  | .hbm, ⟨66, _⟩ => ⟨S_, .i32⟩
  | .hbm, ⟨67, _⟩ => ⟨S128x1, .i32⟩
  | .hbm, ⟨68, _⟩ => ⟨S128x1, .i32⟩
  | .hbm, ⟨69, _⟩ => ⟨S128x1, .i32⟩
  | .hbm, ⟨70, _⟩ => ⟨S1x128, .i32⟩
  | .hbm, ⟨71, _⟩ => ⟨S_, .i32⟩
  | .hbm, ⟨72, _⟩ => ⟨S_, .i32⟩
  | .hbm, ⟨73, _⟩ => ⟨S1x128, .i32⟩
  | .hbm, ⟨74, _⟩ => ⟨S1x128, .i32⟩
  | .hbm, ⟨75, _⟩ => ⟨S1x128, .i32⟩
  | .hbm, ⟨76, _⟩ => ⟨S_, .i32⟩
  | .hbm, ⟨77, _⟩ => ⟨S1x128, .i32⟩
  | .hbm, ⟨78, _⟩ => ⟨S1x128, .i1⟩
  | .hbm, ⟨79, _⟩ => ⟨S1x128, .i32⟩
  | .hbm, ⟨80, _⟩ => ⟨S1x128, .i32⟩
  | .hbm, ⟨81, _⟩ => ⟨S_, .i32⟩
  | .hbm, ⟨82, _⟩ => ⟨S1x128, .i32⟩
  | .hbm, ⟨83, _⟩ => ⟨S1x128, .i1⟩
  | .hbm, ⟨84, _⟩ => ⟨S1x128, .i1⟩
  | .hbm, ⟨85, _⟩ => ⟨S_, .i32⟩
  | .hbm, ⟨86, _⟩ => ⟨S1x128, .i32⟩
  | .hbm, ⟨87, _⟩ => ⟨S1x128, .i32⟩
  | .hbm, ⟨88, _⟩ => ⟨S1x128, .i32⟩
  | .hbm, ⟨89, _⟩ => ⟨S128x128, .i32⟩
  | .hbm, ⟨90, _⟩ => ⟨S128x128, .i32⟩
  | .hbm, ⟨91, _⟩ => ⟨S128x128, .i1⟩
  | .hbm, ⟨92, _⟩ => ⟨S128x128, .bf16⟩
  | .hbm, ⟨93, _⟩ => ⟨S1024, .f32⟩
  | .hbm, ⟨94, _⟩ => ⟨S1x1024, .f32⟩
  | .hbm, ⟨95, _⟩ => ⟨S1024x7680, .f32⟩
  | .hbm, ⟨96, _⟩ => ⟨S1024x7680, .bf16⟩
  | .hbm, ⟨97, _⟩ => ⟨S64, .f32⟩
  | .hbm, ⟨98, _⟩ => ⟨S1x64, .f32⟩
  | .hbm, ⟨99, _⟩ => ⟨S2x64, .f32⟩
  | .hbm, ⟨100, _⟩ => ⟨S128, .f32⟩
  | .hbm, ⟨101, _⟩ => ⟨S1x128, .f32⟩
  | .hbm, ⟨102, _⟩ => ⟨S64, .f32⟩
  | .hbm, ⟨103, _⟩ => ⟨S1x64, .f32⟩
  | .hbm, ⟨104, _⟩ => ⟨S2x64, .f32⟩
  | .hbm, ⟨105, _⟩ => ⟨S128, .f32⟩
  | .hbm, ⟨106, _⟩ => ⟨S1x128, .f32⟩
  | .hbm, ⟨107, _⟩ => ⟨S2x1024, .f32⟩
  | .hbm, ⟨108, _⟩ => ⟨S1x2048, .f32⟩
  | .hbm, ⟨109, _⟩ => ⟨S16384x1536, .bf16⟩
  | .hbm, ⟨110, _⟩ => ⟨S16384x1536, .bf16⟩
  | .hbm, ⟨111, _⟩ => ⟨S16384x1536, .bf16⟩
  | .hbm, ⟨112, _⟩ => ⟨S16384x512, .f32⟩
  | .hbm, ⟨113, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x7680, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S128x128, .bf16⟩
  | .local _ .vmem, ⟨13, _⟩ => ⟨S1x2048, .f32⟩
  | .local _ .vmem, ⟨14, _⟩ => ⟨S512x1536, .bf16⟩
  | .local _ .vmem, ⟨15, _⟩ => ⟨S512x1536, .bf16⟩
  | .local _ .vmem, ⟨16, _⟩ => ⟨S512x1536, .bf16⟩
  | .local _ .vmem, ⟨17, _⟩ => ⟨S512x1536, .bf16⟩
  | .local _ .vmem, ⟨18, _⟩ => ⟨S512x1536, .bf16⟩
  | .local _ .vmem, ⟨19, _⟩ => ⟨S512x1536, .bf16⟩
  | .local _ .vmem, ⟨20, _⟩ => ⟨S512x512, .f32⟩
  | .local _ .vmem, ⟨21, _⟩ => ⟨S512x512, .f32⟩
  | .local _ .vmem, ⟨22, _⟩ => ⟨S512x2048, .f32⟩
  | .local _ .vmem, ⟨23, _⟩ => ⟨S512x2048, .f32⟩
  | .local _ .vmem, ⟨24, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_v6 : Ref sig .tc := ⟨.hbm, 59, rfl⟩
abbrev main_call0_v7 : Ref sig .tc := ⟨.hbm, 60, rfl⟩
abbrev main_call0_v8 : Ref sig .tc := ⟨.hbm, 61, rfl⟩
abbrev main_call0_c : Ref sig .tc := ⟨.hbm, 62, rfl⟩
abbrev main_call0_v9 : Ref sig .tc := ⟨.hbm, 63, rfl⟩
abbrev main_call0_v10 : Ref sig .tc := ⟨.hbm, 64, rfl⟩
abbrev main_call0_v11 : Ref sig .tc := ⟨.hbm, 65, rfl⟩
abbrev main_call0_c_0 : Ref sig .tc := ⟨.hbm, 66, rfl⟩
abbrev main_call0_v12 : Ref sig .tc := ⟨.hbm, 67, rfl⟩
abbrev main_call0_v13 : Ref sig .tc := ⟨.hbm, 68, rfl⟩
abbrev main_v37 : Ref sig .tc := ⟨.hbm, 69, rfl⟩
abbrev main_v38 : Ref sig .tc := ⟨.hbm, 70, rfl⟩
abbrev main_c_7 : Ref sig .tc := ⟨.hbm, 71, rfl⟩
abbrev main_call1_v0 : Ref sig .tc := ⟨.hbm, 72, rfl⟩
abbrev main_call1_v1 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_v6 : Ref sig .tc := ⟨.hbm, 78, rfl⟩
abbrev main_call1_v7 : Ref sig .tc := ⟨.hbm, 79, rfl⟩
abbrev main_call1_v8 : Ref sig .tc := ⟨.hbm, 80, rfl⟩
abbrev main_call1_c : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_c_0 : Ref sig .tc := ⟨.hbm, 85, rfl⟩
abbrev main_call1_v12 : Ref sig .tc := ⟨.hbm, 86, rfl⟩
abbrev main_call1_v13 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60_0 : Ref sig .tc := ⟨.hbm, 109, rfl⟩
abbrev main_v60_1 : Ref sig .tc := ⟨.hbm, 110, rfl⟩
abbrev main_v60_2 : Ref sig .tc := ⟨.hbm, 111, rfl⟩
abbrev main_v60_3 : Ref sig .tc := ⟨.hbm, 112, rfl⟩
abbrev main_v60_4 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7680 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1536 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S16384x1024 : Shape := ⟨2, ![16384, 1024]⟩
abbrev S16384 : Shape := ⟨1, ![16384]⟩
abbrev S1x1024 : Shape := ⟨2, ![1, 1024]⟩
abbrev S1x1024x7680 : Shape := ⟨3, ![1, 1024, 7680]⟩
abbrev S1x2x1024 : Shape := ⟨3, ![1, 2, 1024]⟩
abbrev S1x64 : Shape := ⟨2, ![1, 64]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x1x1x8 : Shape := ⟨4, ![16384, 1, 1, 8]⟩
abbrev S1024 : Shape := ⟨1, ![1024]⟩
abbrev S1024x7680 : Shape := ⟨2, ![1024, 7680]⟩
abbrev S16384x7680 : Shape := ⟨2, ![16384, 7680]⟩
abbrev S16384x1536 : Shape := ⟨2, ![16384, 1536]⟩
abbrev S16384x2048 : Shape := ⟨2, ![16384, 2048]⟩
abbrev S16384x3x8x64 : Shape := ⟨4, ![16384, 3, 8, 64]⟩
abbrev S64 : Shape := ⟨1, ![64]⟩
abbrev S16384x3x8 : Shape := ⟨3, ![16384, 3, 8]⟩
abbrev S16384x3x8x1 : Shape := ⟨4, ![16384, 3, 8, 1]⟩
abbrev S1x1x1x64 : Shape := ⟨4, ![1, 1, 1, 64]⟩
abbrev S16384x3x8x8 : Shape := ⟨4, ![16384, 3, 8, 8]⟩
abbrev S16384x3x8x48 : Shape := ⟨4, ![16384, 3, 8, 48]⟩
abbrev S16384x512 : Shape := ⟨2, ![16384, 512]⟩
abbrev S2x1024 : Shape := ⟨2, ![2, 1024]⟩
abbrev S2048 : Shape := ⟨1, ![2048]⟩
abbrev S1x2048 : Shape := ⟨2, ![1, 2048]⟩

abbrev nBuf : Space → Nat
  | .hbm => 151
  | .vmem => 0
  | .smem => 0
  | _ => 0

abbrev hbmTy0_0 (i : Nat) : BufTy := match i % 128 with
  | 0 => ⟨S16384x1024, .f32⟩
  | 1 => ⟨S16384, .i32⟩
  | 2 => ⟨S1x1024, .f32⟩
  | 3 => ⟨S1x1024x7680, .f32⟩
  | 4 => ⟨S1x2x1024, .f32⟩
  | 5 => ⟨S1x64, .f32⟩
  | 6 => ⟨S1x64, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S16384, .f32⟩
  | 22 => ⟨S16384x1, .f32⟩
  | 23 => ⟨S1x8, .f32⟩
  | 24 => ⟨S16384x8, .f32⟩
  | 25 => ⟨S16384x8, .f32⟩
  | 26 => ⟨S16384x8, .f32⟩
  | 27 => ⟨S16384x8, .f32⟩
  | 28 => ⟨S16384x1x1x8, .f32⟩
  | 29 => ⟨S16384x8, .f32⟩
  | 30 => ⟨S16384x1x1x8, .f32⟩
  | 31 => ⟨S1024, .f32⟩
  | 32 => ⟨S16384x1024, .f32⟩
  | 33 => ⟨S_, .f32⟩
  | 34 => ⟨S16384, .f32⟩
  | 35 => ⟨S16384x1, .f32⟩
  | 36 => ⟨S_, .f32⟩
  | 37 => ⟨S16384x1, .f32⟩
  | 38 => ⟨S16384x1, .f32⟩
  | 39 => ⟨S_, .f32⟩
  | 40 => ⟨S16384x1, .f32⟩
  | 41 => ⟨S16384x1, .f32⟩
  | 42 => ⟨S16384x1, .f32⟩
  | 43 => ⟨S16384x1024, .f32⟩
  | 44 => ⟨S16384x1024, .f32⟩
  | 45 => ⟨S1x1024, .f32⟩
  | 46 => ⟨S16384x1024, .f32⟩
  | 47 => ⟨S16384x1024, .f32⟩
  | 48 => ⟨S1024x7680, .f32⟩
  | 49 => ⟨S16384x7680, .f32⟩
  | 50 => ⟨S16384x1536, .f32⟩
  | 51 => ⟨S16384x1536, .f32⟩
  | 52 => ⟨S16384x1536, .f32⟩
  | 53 => ⟨S16384x1024, .f32⟩
  | 54 => ⟨S16384x2048, .f32⟩
  | 55 => ⟨S16384x3x8x64, .f32⟩
  | 56 => ⟨S64, .f32⟩
  | 57 => ⟨S16384x3x8x64, .f32⟩
  | 58 => ⟨S_, .f32⟩
  | 59 => ⟨S16384x3x8, .f32⟩
  | 60 => ⟨S16384x3x8x1, .f32⟩
  | 61 => ⟨S_, .f32⟩
  | 62 => ⟨S16384x3x8x1, .f32⟩
  | 63 => ⟨S16384x3x8x1, .f32⟩
  | 64 => ⟨S_, .f32⟩
  | 65 => ⟨S16384x3x8x1, .f32⟩
  | 66 => ⟨S16384x3x8x1, .f32⟩
  | 67 => ⟨S16384x3x8x1, .f32⟩
  | 68 => ⟨S16384x3x8x64, .f32⟩
  | 69 => ⟨S16384x3x8x64, .f32⟩
  | 70 => ⟨S1x1x1x64, .f32⟩
  | 71 => ⟨S16384x3x8x64, .f32⟩
  | 72 => ⟨S16384x3x8x64, .f32⟩
  | 73 => ⟨S16384x3x8x8, .f32⟩
  | 74 => ⟨S16384x3x8x8, .f32⟩
  | 75 => ⟨S16384x3x8x48, .f32⟩
  | 76 => ⟨S16384x3x8x8, .f32⟩
  | 77 => ⟨S16384x3x8x8, .f32⟩
  | 78 => ⟨S16384x3x8x8, .f32⟩
  | 79 => ⟨S16384x3x8x8, .f32⟩
  | 80 => ⟨S16384x3x8x8, .f32⟩
  | 81 => ⟨S16384x3x8x8, .f32⟩
  | 82 => ⟨S16384x3x8x8, .f32⟩
  | 83 => ⟨S16384x3x8x8, .f32⟩
  | 84 => ⟨S16384x3x8x8, .f32⟩
  | 85 => ⟨S16384x3x8x8, .f32⟩
  | 86 => ⟨S16384x3x8x64, .f32⟩
  | 87 => ⟨S_, .f32⟩
  | 88 => ⟨S16384x3x8x64, .f32⟩
  | 89 => ⟨S16384x3x8x64, .f32⟩
  | 90 => ⟨S16384x3x8x64, .f32⟩
  | 91 => ⟨S64, .f32⟩
  | 92 => ⟨S16384x3x8x64, .f32⟩
  | 93 => ⟨S_, .f32⟩
  | 94 => ⟨S16384x3x8, .f32⟩
  | 95 => ⟨S16384x3x8x1, .f32⟩
  | 96 => ⟨S_, .f32⟩
  | 97 => ⟨S16384x3x8x1, .f32⟩
  | 98 => ⟨S16384x3x8x1, .f32⟩
  | 99 => ⟨S_, .f32⟩
  | 100 => ⟨S16384x3x8x1, .f32⟩
  | 101 => ⟨S16384x3x8x1, .f32⟩
  | 102 => ⟨S16384x3x8x1, .f32⟩
  | 103 => ⟨S16384x3x8x64, .f32⟩
  | 104 => ⟨S16384x3x8x64, .f32⟩
  | 105 => ⟨S1x1x1x64, .f32⟩
  | 106 => ⟨S16384x3x8x64, .f32⟩
  | 107 => ⟨S16384x3x8x64, .f32⟩
  | 108 => ⟨S16384x3x8x8, .f32⟩
  | 109 => ⟨S16384x3x8x8, .f32⟩
  | 110 => ⟨S16384x3x8x48, .f32⟩
  | 111 => ⟨S16384x3x8x8, .f32⟩
  | 112 => ⟨S16384x3x8x8, .f32⟩
  | 113 => ⟨S16384x3x8x8, .f32⟩
  | 114 => ⟨S16384x3x8x8, .f32⟩
  | 115 => ⟨S16384x3x8x8, .f32⟩
  | 116 => ⟨S16384x3x8x8, .f32⟩
  | 117 => ⟨S16384x3x8x8, .f32⟩
  | 118 => ⟨S16384x3x8x8, .f32⟩
  | 119 => ⟨S16384x3x8x8, .f32⟩
  | 120 => ⟨S16384x3x8x8, .f32⟩
  | 121 => ⟨S16384x3x8x64, .f32⟩
  | 122 => ⟨S16384x512, .f32⟩
  | 123 => ⟨S16384x512, .f32⟩
  | 124 => ⟨S16384x512, .f32⟩
  | 125 => ⟨S16384x512, .f32⟩
  | 126 => ⟨S_, .f32⟩
  | 127 => ⟨S16384x512, .f32⟩
  | _ => ⟨S16384x1024, .f32⟩

abbrev hbmTy0_1 (i : Nat) : BufTy := match i % 128 with
  | 0 => ⟨S16384x512, .f32⟩
  | 1 => ⟨S_, .f32⟩
  | 2 => ⟨S16384x512, .f32⟩
  | 3 => ⟨S16384x512, .f32⟩
  | 4 => ⟨S16384x512, .f32⟩
  | 5 => ⟨S2x1024, .f32⟩
  | 6 => ⟨S2048, .f32⟩
  | 7 => ⟨S1x2048, .f32⟩
  | 8 => ⟨S16384x2048, .f32⟩
  | 9 => ⟨S16384x2048, .f32⟩
  | 10 => ⟨S16384x2048, .f32⟩
  | 11 => ⟨S16384x2048, .f32⟩
  | 12 => ⟨S_, .f32⟩
  | 13 => ⟨S16384x2048, .f32⟩
  | 14 => ⟨S16384x2048, .f32⟩
  | 15 => ⟨S_, .f32⟩
  | 16 => ⟨S16384x2048, .f32⟩
  | 17 => ⟨S16384x2048, .f32⟩
  | 18 => ⟨S16384x1536, .f32⟩
  | 19 => ⟨S16384x1536, .bf16⟩
  | 20 => ⟨S16384x1536, .f32⟩
  | 21 => ⟨S16384x1536, .bf16⟩
  | 22 => ⟨S16384x1536, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_9 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_10 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_v78 : Ref sig .tc := ⟨.hbm, 98, rfl⟩
abbrev main_cst_12 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_cst_13 : Ref sig .tc := ⟨.hbm, 126, rfl⟩
abbrev main_v105 : Ref sig .tc := ⟨.hbm, 127, rfl⟩
abbrev main_v106 : Ref sig .tc := ⟨.hbm, 128, rfl⟩
abbrev main_cst_14 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_cst_15 : Ref sig .tc := ⟨.hbm, 140, rfl⟩
abbrev main_v117 : Ref sig .tc := ⟨.hbm, 141, rfl⟩
abbrev main_v118 : Ref sig .tc := ⟨.hbm, 142, rfl⟩
abbrev main_cst_16 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩

abbrev nD : Nat := 1
abbrev τ : Topo := Topo.v7x

variable {F : FTy → Type} [FloatOps F]
-- ==== Proof.AttnTile.lean ====
/-
  One block of 128 queries of the attention, at one pair of heads: the vector expressions the kernel body computes,
  named. A tile of 128 lanes holds two heads of 64 dimensions; a head of the pair is selected by a mask over the lanes.
-/
module

public import proofs.«01_k».proof.Proof.Gen.KernelIdeal.Skeleton
public import Idealize.ShloMosaic.Lib.Pointwise

@[expose] public section

set_option maxRecDepth 16384

noncomputable section

namespace Cert.Attn

open Cert.KernelIdeal Cert.KernelIdeal.Gen Idealize.ShloMosaic

/-- The lanes of the pair's second head. -/
def second : IVec S1x128 1 := xori k0_pay1 (constantI S1x128 1 1#1)

/-- Scores of 128 queries against 256 keys: the dot product over the lanes `msk` selects, plus the bias. -/
def scores (msk : IVec S1x128 1) (bias : FVec Ideal S128x256 .f32) (q : FVec Ideal S128x128 .bf16) (k : FVec Ideal S256x128 .bf16) :
    FVec Ideal S128x256 .f32 :=
  addf (matmul dot_S128x128_S256x128_S128x256_1_1_0_0_n_n none
    (select (broadcastTo S128x128 (shapeCast S1x128 msk shapeCasts_S1x128_S1x128) broadcasts_S1x128_S128x128) q
      (broadcast S128x128 (Scalar.ofBits (F := Ideal) .bf16 0x0000#16))) k (constant (F := Ideal) S128x256 .f32 0x00000000#32)) bias

/-- Each query's largest score. -/
def rowMax (s : FVec Ideal S128x256 .f32) : FVec Ideal S128x1 .f32 :=
  shapeCast S128x1 (multiReduction .maximumf [1] S128 s 0xFF800000#32 reduces_S128x256_S128 (.inl rfl) rfl) shapeCasts_S128_S128x1

/-- The exponentials of the scores less the largest. -/
def weights (s : FVec Ideal S128x256 .f32) : FVec Ideal S128x256 .f32 :=
  exp (subf s (broadcastTo S128x256 (rowMax s) broadcasts_S128x1_S128x256))

/-- The sum of each query's weights. -/
def rowSum (p : FVec Ideal S128x256 .f32) : FVec Ideal S128x1 .f32 :=
  shapeCast S128x1 (multiReduction .add [1] S128 p 0x00000000#32 reduces_S128x256_S128 (.inl rfl) rfl) shapeCasts_S128_S128x1

/-- One over the sum of the weights. -/
def recip (p : FVec Ideal S128x256 .f32) : FVec Ideal S128x1 .f32 :=
  divf (broadcast S128x1 (Scalar.ofBits (F := Ideal) .f32 0x3F800000#32)) (rowSum p)

/-- The weighted sum of the values, on the lanes `msk` selects. -/
def weighted (msk : IVec S1x128 1) (p : FVec Ideal S128x256 .f32) (v : FVec Ideal S256x128 .bf16) : FVec Ideal S128x128 .f32 :=
  matmul dot_S128x256_S256x128_S128x128_1_0_0_1_n_n none (truncf .bf16 p bitsLt_bf16_f32)
    (select (broadcastTo S256x128 (shapeCast S1x128 msk shapeCasts_S1x128_S1x128) broadcasts_S1x128_S256x128) v
      (broadcast S256x128 (Scalar.ofBits (F := Ideal) .bf16 0x0000#16))) (constant (F := Ideal) S128x128 .f32 0x00000000#32)

/-- A value per query, repeated over the lanes. -/
def spread (x : FVec Ideal S128x1 .f32) : FVec Ideal S128x128 .f32 :=
  broadcastTo S128x128 (shapeCast S128x1 x shapeCasts_S128x1_S128x1) broadcasts_S128x1_S128x128

/-- The attention of a pair of heads, from the loaded tiles of queries, keys and values. -/
def pairOut (bias : FVec Ideal S128x256 .f32) (q : Vec Ideal S1x128x128 .bf16) (k v : Vec Ideal S1x256x128 .bf16) : FVec Ideal S1x128x128 .bf16 :=
  let w0 := weights (scores k0_pay1 bias (k0_pay6 q) (k0_pay7 k))
  let w1 := weights (scores second bias (k0_pay6 q) (k0_pay7 k))
  shapeCast S1x128x128 (truncf .bf16 (mulf
    (addf (addf (broadcast S128x128 (Scalar.ofBits (F := Ideal) .f32 0x00000000#32)) (weighted k0_pay1 w0 (k0_pay8 v))) (weighted second w1 (k0_pay8 v)))
    (select (broadcastTo S128x128 (shapeCast S1x128 k0_pay1 shapeCasts_S1x128_S1x128) broadcasts_S1x128_S128x128)
      (spread (recip w0)) (spread (recip w1)))) bitsLt_bf16_f32) shapeCasts_S128x128_S1x128x128

/-- Each query's log of the sum of the exponentials of its scores. -/
def logSum (s : FVec Ideal S128x256 .f32) : FVec Ideal S128x1 .f32 := addf (rowMax s) (log (rowSum (weights s)))

/-- The lane `n` of a tile set to a value per query. -/
def setLane (n : BitVec 32) (x : FVec Ideal S128x1 .f32) (t : FVec Ideal S128x128 .f32) : FVec Ideal S128x128 .f32 :=
  select (broadcastTo S128x128 (shapeCast S1x128 (cmpi .eq (iota .tc S1x128 32 [1] iota_S1x128_d1_w32) (broadcast S1x128 n)) shapeCasts_S1x128_S1x128) broadcasts_S1x128_S128x128)
    (spread x) t

/-- A pair's two log-sums, in lanes `n` and `n'`. -/
def setPair (n n' : BitVec 32) (bias : FVec Ideal S128x256 .f32) (q : Vec Ideal S1x128x128 .bf16) (k : Vec Ideal S1x256x128 .bf16) (t : FVec Ideal S128x128 .f32) :
    FVec Ideal S128x128 .f32 :=
  setLane n' (logSum (scores second bias (k0_pay6 q) (k0_pay7 k))) (setLane n (logSum (scores k0_pay1 bias (k0_pay6 q) (k0_pay7 k))) t)

end Cert.Attn

end
-- ==== Proof.AttnTrip.lean ====
/-
  What one pass of the kernel's loop stores: four tiles of outputs, one per pair of heads, and one tile of log-sums.
-/
module

public import proofs.«01_k».proof.Proof.Gen.KernelIdeal.Value
public import proofs.«01_k».proof.Proof.AttnTile

@[expose] public section

set_option maxRecDepth 65536

noncomputable section

namespace Cert.Attn

open Cert.KernelIdeal Cert.KernelIdeal.Gen Idealize.ShloMosaic

section
variable (c : Dev nD) (i : grid0.Coords) (arg2 : Memref sig .tc .vmem S1x2048x512 .bf16) (harg2 : arg2.IsWhole) (arg3 : Memref sig .tc .vmem S1x2048x512 .bf16) (harg3 : arg3.IsWhole)
  (arg4 : Memref sig .tc .vmem S1x2048x512 .bf16) (harg4 : arg4.IsWhole) (arg5 : Memref sig .tc .vmem S1x2048x512 .bf16) (harg5 : arg5.IsWhole) (arg6 : Memref sig .tc .vmem S1x2048x128 .f32) (harg6 : arg6.IsWhole)

/-- The bias of pass `k`. -/
def bias (k : Fin k0_t1_loop.trips) : FVec Ideal S128x256 .f32 := k0_pay4 k0_pay2 0#32 1#32 k

/-- The tile of queries at an offset. -/
abbrev ldq (m : Memref sig .tc .vmem S1x2048x512 .bf16) (X : BufTy.Contents (Elt Ideal) m.view.ty) (o : Fin 3 → Nat) (h : ∀ a, o a + S1x128x128.size a ≤ S1x2048x512.size a) :
    Vec Ideal S1x128x128 .bf16 := View.readAt (Elt Ideal) m.view (Rect.unit (s := S1x2048x512) o S1x128x128.size h).toLoadRect X

/-- The tile of keys or values at an offset. -/
abbrev ldk (m : Memref sig .tc .vmem S1x2048x512 .bf16) (X : BufTy.Contents (Elt Ideal) m.view.ty) (o : Fin 3 → Nat) (h : ∀ a, o a + S1x256x128.size a ≤ S1x2048x512.size a) :
    Vec Ideal S1x256x128 .bf16 := View.readAt (Elt Ideal) m.view (Rect.unit (s := S1x2048x512) o S1x256x128.size h).toLoadRect X

theorem trip_out (v0 : IVec S1x128 32) (x0 : BufTy.Contents (Elt Ideal) arg2.view.ty) (x1 : BufTy.Contents (Elt Ideal) arg3.view.ty) (x2 : BufTy.Contents (Elt Ideal) arg4.view.ty) (k : Fin k0_t1_loop.trips) :
    (trip_k0_t1 (F := Ideal) Variants.none c none i arg2 harg2 arg3 harg3 arg4 harg4 arg5 harg5 arg6 harg6 v0 x0 x1 x2 k).1 =
      [⟨Rect.unit (k0_off7 k) S1x128x128.size (k0_off7_inb k), pairOut (bias k) (ldq arg2 x0 (k0_off7 k) (k0_off7_inb k)) (ldk arg3 x1 (k0_off8 k) (k0_off8_inb k)) (ldk arg4 x2 (k0_off8 k) (k0_off8_inb k))⟩,
       ⟨Rect.unit (k0_off5 k) S1x128x128.size (k0_off5_inb k), pairOut (bias k) (ldq arg2 x0 (k0_off5 k) (k0_off5_inb k)) (ldk arg3 x1 (k0_off6 k) (k0_off6_inb k)) (ldk arg4 x2 (k0_off6 k) (k0_off6_inb k))⟩,
       ⟨Rect.unit (k0_off3 k) S1x128x128.size (k0_off3_inb k), pairOut (bias k) (ldq arg2 x0 (k0_off3 k) (k0_off3_inb k)) (ldk arg3 x1 (k0_off4 k) (k0_off4_inb k)) (ldk arg4 x2 (k0_off4 k) (k0_off4_inb k))⟩,
       ⟨Rect.unit (k0_off1 k) S1x128x128.size (k0_off1_inb k), pairOut (bias k) (ldq arg2 x0 (k0_off1 k) (k0_off1_inb k)) (ldk arg3 x1 (k0_off2 k) (k0_off2_inb k)) (ldk arg4 x2 (k0_off2 k) (k0_off2_inb k))⟩] := by
  unfold trip_k0_t1
  dsimp only
  sl_unfold_run_names
  rfl

theorem trip_lse (x0 : BufTy.Contents (Elt Ideal) arg2.view.ty) (x1 : BufTy.Contents (Elt Ideal) arg3.view.ty) (x2 : BufTy.Contents (Elt Ideal) arg4.view.ty) (k : Fin k0_t1_loop.trips) :
    (trip_k0_t1 (F := Ideal) Variants.none c none i arg2 harg2 arg3 harg3 arg4 harg4 arg5 harg5 arg6 harg6 (iota .tc S1x128 32 [1] iota_S1x128_d1_w32) x0 x1 x2 k).2.1 =
      [⟨Rect.unit (k0_off9 k) S1x128x128.size (k0_off9_inb k), k0_pay3
        (setPair 6#32 7#32 (bias k) (ldq arg2 x0 (k0_off7 k) (k0_off7_inb k)) (ldk arg3 x1 (k0_off8 k) (k0_off8_inb k))
        (setPair 4#32 5#32 (bias k) (ldq arg2 x0 (k0_off5 k) (k0_off5_inb k)) (ldk arg3 x1 (k0_off6 k) (k0_off6_inb k))
        (setPair 2#32 3#32 (bias k) (ldq arg2 x0 (k0_off3 k) (k0_off3_inb k)) (ldk arg3 x1 (k0_off4 k) (k0_off4_inb k))
        (setPair 0#32 1#32 (bias k) (ldq arg2 x0 (k0_off1 k) (k0_off1_inb k)) (ldk arg3 x1 (k0_off2 k) (k0_off2_inb k)) k0_pay5))))⟩] := by
  unfold trip_k0_t1
  dsimp only
  sl_unfold_run_names
  rfl
end

end Cert.Attn

end
-- ==== Proof.AttnMath.lean ====
/-
  The attention of one query over a set of keys, and the two facts the proof rests on: a masked row whose unmasked
  entries are the set's keys, one for each, has that maximum, that sum and that weighted sum; and with finite scores
  the sum is not zero.
-/
module

public import Idealize.ShloMosaic.PureOps.Ideal

@[expose] public section

noncomputable section

namespace Cert.Attn

open Idealize.ShloMosaic

variable {κ ι : Type}

/-- The sum, over the keys, of the exponential of the score less the largest score. -/
def den (S : Finset κ) (s : κ → EReal) : EReal := ∑ k ∈ S, Ideal.exp (s k - S.sup s)

/-- The same sum with each term times the key's value. -/
def num (S : Finset κ) (s v : κ → EReal) : EReal := ∑ k ∈ S, Ideal.exp (s k - S.sup s) * v k

/-- The log of the sum of the exponentials of the scores. -/
def lse (S : Finset κ) (s : κ → EReal) : EReal := S.sup s + Ideal.log (den S s)

/-- The score of a query against a key: their dot product. -/
def dot {n : ℕ} (q k : Fin n → EReal) : EReal := ∑ d, q d * k d

/-- The unmasked entries of a row are the keys of `S`, one entry for each key. -/
structure Covers (S : Finset κ) (valid : ι → Prop) (e : ι → κ) : Prop where
  maps : ∀ i, valid i → e i ∈ S
  inj : ∀ i j, valid i → valid j → e i = e j → i = j
  onto : ∀ k ∈ S, ∃ i, valid i ∧ e i = k

theorem Covers.sum_eq [Fintype ι] {S : Finset κ} {valid : ι → Prop} {e : ι → κ} (h : Covers S valid e) {f : ι → EReal} {g : κ → EReal}
    (hv : ∀ i, valid i → f i = g (e i)) (hn : ∀ i, ¬ valid i → f i = 0) : ∑ i, f i = ∑ k ∈ S, g k := by
  classical
  rw [← Finset.sum_filter_of_ne (p := valid) (fun i _ hne => not_not.mp fun hi => hne (hn i hi))]
  refine Finset.sum_nbij e (fun i hi => h.maps i (Finset.mem_filter.mp hi).2)
    (fun i hi j hj => h.inj i j (Finset.mem_filter.mp hi).2 (Finset.mem_filter.mp hj).2) (fun k hk => ?_)
    (fun i hi => hv i (Finset.mem_filter.mp hi).2)
  obtain ⟨i, hi, rfl⟩ := h.onto k hk
  exact ⟨i, Finset.mem_coe.mpr (Finset.mem_filter.mpr ⟨Finset.mem_univ _, hi⟩), rfl⟩

theorem Covers.sup_eq [Fintype ι] {S : Finset κ} {valid : ι → Prop} {e : ι → κ} (h : Covers S valid e) {t : ι → EReal} {s : κ → EReal}
    (hv : ∀ i, valid i → t i = s (e i)) (hn : ∀ i, ¬ valid i → t i = ⊥) : Finset.univ.sup t = S.sup s := by
  apply le_antisymm
  · refine Finset.sup_le fun i _ => ?_
    by_cases hi : valid i
    · rw [hv i hi]; exact Finset.le_sup (h.maps i hi)
    · rw [hn i hi]; exact bot_le
  · refine Finset.sup_le fun k hk => ?_
    obtain ⟨i, hi, rfl⟩ := h.onto k hk
    rw [← hv i hi]; exact Finset.le_sup (f := t) (Finset.mem_univ i)

theorem exp_bot_sub (x : EReal) : Ideal.exp (⊥ - x) = 0 := by
  rw [sub_eq_add_neg, EReal.bot_add]; rfl

theorem Covers.den_eq [Fintype ι] {S : Finset κ} {valid : ι → Prop} {e : ι → κ} (h : Covers S valid e) {t : ι → EReal} {s : κ → EReal}
    (hv : ∀ i, valid i → t i = s (e i)) (hn : ∀ i, ¬ valid i → t i = ⊥) : ∑ i, Ideal.exp (t i - Finset.univ.sup t) = den S s := by
  rw [h.sup_eq hv hn]
  exact h.sum_eq (fun i hi => by rw [hv i hi]) (fun i hi => by rw [hn i hi, exp_bot_sub])

theorem Covers.num_eq [Fintype ι] {S : Finset κ} {valid : ι → Prop} {e : ι → κ} (h : Covers S valid e) {t : ι → EReal} {s : κ → EReal}
    (hv : ∀ i, valid i → t i = s (e i)) (hn : ∀ i, ¬ valid i → t i = ⊥) {w : ι → EReal} {v : κ → EReal} (hw : ∀ i, valid i → w i = v (e i)) :
    ∑ i, Ideal.exp (t i - Finset.univ.sup t) * w i = num S s v := by
  rw [h.sup_eq hv hn]
  exact h.sum_eq (fun i hi => by rw [hv i hi, hw i hi]) (fun i hi => by rw [hn i hi, exp_bot_sub, zero_mul])

theorem fold_max_eq_sup [Fintype ι] (t : ι → EReal) : Finset.univ.fold max ⊥ t = Finset.univ.sup t := rfl

/-- A finite extended real. -/
def IsFin (x : EReal) : Prop := x ≠ ⊤ ∧ x ≠ ⊥

theorem IsFin.coe (r : ℝ) : IsFin (r : EReal) := ⟨EReal.coe_ne_top r, EReal.coe_ne_bot r⟩

theorem IsFin.exists {x : EReal} (h : IsFin x) : ∃ r : ℝ, x = r := ⟨x.toReal, (EReal.coe_toReal h.1 h.2).symm⟩

theorem IsFin.mul {x y : EReal} (hx : IsFin x) (hy : IsFin y) : IsFin (x * y) := by
  obtain ⟨a, rfl⟩ := hx.exists; obtain ⟨b, rfl⟩ := hy.exists
  rw [← EReal.coe_mul]; exact .coe _

theorem IsFin.add {x y : EReal} (hx : IsFin x) (hy : IsFin y) : IsFin (x + y) := by
  obtain ⟨a, rfl⟩ := hx.exists; obtain ⟨b, rfl⟩ := hy.exists
  rw [← EReal.coe_add]; exact .coe _

theorem IsFin.sum {S : Finset κ} {f : κ → EReal} (h : ∀ k ∈ S, IsFin (f k)) : IsFin (∑ k ∈ S, f k) := by
  classical
  induction S using Finset.induction_on with
  | empty => exact .coe 0
  | insert a S ha ih =>
    rw [Finset.sum_insert ha]
    exact (h a (Finset.mem_insert_self a S)).add (ih fun k hk => h k (Finset.mem_insert_of_mem hk))

theorem IsFin.dot {n : ℕ} {q k : Fin n → EReal} (hq : ∀ d, IsFin (q d)) (hk : ∀ d, IsFin (k d)) : IsFin (dot q k) :=
  .sum fun d _ => (hq d).mul (hk d)

theorem exp_nonneg (x : EReal) : 0 ≤ Ideal.exp x := by
  induction x with
  | bot => exact le_rfl
  | top => exact le_top
  | coe r => exact EReal.coe_nonneg.mpr (Real.exp_pos r).le

theorem den_ne_zero {S : Finset κ} (hS : S.Nonempty) {s : κ → EReal} (hs : ∀ k ∈ S, IsFin (s k)) : den S s ≠ 0 := by
  obtain ⟨k, hk, hmax⟩ := Finset.exists_mem_eq_sup S hS s
  have h1 : Ideal.exp (s k - S.sup s) = 1 := by
    obtain ⟨r, hr⟩ := (hs k hk).exists
    rw [hmax, hr, ← EReal.coe_sub, sub_self]
    show ((Real.exp 0 : ℝ) : EReal) = 1
    rw [Real.exp_zero]; rfl
  have h2 : (1 : EReal) ≤ den S s := by
    rw [← h1]
    exact Finset.single_le_sum (f := fun k => Ideal.exp (s k - S.sup s)) (fun j _ => exp_nonneg _) hk
  intro h0
  rw [h0] at h2
  exact absurd h2 (by norm_num)

theorem div_eq_mul_div_one {x y : EReal} (hy : y ≠ 0) : Ideal.div x y = x * Ideal.div 1 y := by
  unfold Ideal.div; rw [if_neg hy, if_neg hy, one_mul]

end Cert.Attn

end
-- ==== Proof.AttnRead.lean ====
/-
  The tiles of Proof/AttnTile.lean read at an index, as the attention of one query over a set of keys.
-/
module

public import proofs.«01_k».proof.Proof.AttnTile
public import proofs.«01_k».proof.Proof.AttnMath

@[expose] public section

set_option maxRecDepth 16384

noncomputable section

namespace Cert.Attn

open Cert.KernelIdeal Cert.KernelIdeal.Gen Idealize.ShloMosaic

/-- The lanes of a pair's head. -/
def mask (h : Fin 2) : IVec S1x128 1 := if h = 0 then k0_pay1 else second

/-- Lane of dimension `d` of the pair's head `h`. -/
def lane (h : Fin 2) (d : Fin 64) : Fin 128 := ⟨64 * h.val + d.val, by omega⟩

/-- The pair's head that a lane belongs to. -/
def par (l : Fin 128) : Fin 2 := ⟨l.val / 64, by omega⟩

theorem mask_zero_apply (l : Fin 128) : k0_pay1 (ix2 0 l) = if l.val < 64 then 1#1 else 0#1 := by
  pointwise [k0_pay1]
  revert l; decide

theorem mask_apply (h : Fin 2) (l : Fin 128) : mask h (ix2 0 l) = if par l = h then 1#1 else 0#1 := by
  have h0 := mask_zero_apply l
  have hl := l.isLt
  fin_cases h
  · show k0_pay1 (ix2 0 l) = _
    rw [h0]
    refine if_congr ?_ rfl rfl
    simp only [par, Fin.ext_iff]; show _ ↔ l.val / 64 = 0; omega
  · show second (ix2 0 l) = _
    pointwise [second]
    rw [h0]
    by_cases hl' : l.val < 64
    · rw [if_pos hl', if_neg]; · rfl
      simp only [par, Fin.ext_iff]; show ¬ l.val / 64 = 1; omega
    · rw [if_neg hl', if_pos]; · rfl
      simp only [par, Fin.ext_iff]; show l.val / 64 = 1; omega

theorem select_mask (h : Fin 2) (l : Fin 128) (x y : EReal) : Scalar.select (mask h (ix2 0 l)) x y = if par l = h then x else y := by
  rw [mask_apply]; split <;> rfl

theorem sum_lanes (f : Fin 128 → EReal) (h : Fin 2) : (∑ l, if par l = h then f l else 0) = ∑ d, f (lane h d) := by
  rw [← Finset.sum_filter]
  symm
  refine Finset.sum_nbij (lane h) (fun d _ => ?_) (fun d _ d' _ hd => ?_) (fun l hl => ?_) (fun _ _ => rfl)
  · simp only [Finset.mem_filter, Finset.mem_univ, true_and, par, lane, Fin.ext_iff]; omega
  · simp only [lane, Fin.ext_iff] at hd ⊢; omega
  · have hl' := (Finset.mem_filter.mp (Finset.mem_coe.mp hl)).2
    simp only [par, Fin.ext_iff] at hl'
    refine ⟨⟨l.val % 64, by omega⟩, Finset.mem_coe.mpr (Finset.mem_univ _), ?_⟩
    simp only [lane, Fin.ext_iff]; omega

theorem scores_apply (h : Fin 2) (bias : FVec Ideal S128x256 .f32) (q : FVec Ideal S128x128 .bf16) (k : FVec Ideal S256x128 .bf16) (r : Fin 128) (c : Fin 256) :
    scores (mask h) bias q k (ix2 r c) = dot (fun d => q (ix2 r (lane h d))) (fun d => k (ix2 c (lane h d))) + bias (ix2 r c) := by
  pointwise [scores]
  simp only [select_mask]
  rw [sum_lanes fun l => q (ix2 r l) * k (ix2 c l)]
  rfl

theorem ofBits_neg_inf : Ideal.ofBits .f32 0xFF800000#32 = ⊥ := by
  simp [Ideal.ofBits, Ideal.ieee]

theorem rowMax_apply (s : FVec Ideal S128x256 .f32) (r : Fin 128) : rowMax s (ix2 r 0) = Finset.univ.sup fun c => s (ix2 r c) := by
  pointwise [rowMax]
  rw [ofBits_neg_inf]; rfl

theorem rowSum_apply (p : FVec Ideal S128x256 .f32) (r : Fin 128) : rowSum p (ix2 r 0) = ∑ c, p (ix2 r c) := by
  pointwise [rowSum]

theorem weights_apply (s : FVec Ideal S128x256 .f32) (r : Fin 128) (c : Fin 256) :
    weights s (ix2 r c) = Ideal.exp (s (ix2 r c) - Finset.univ.sup fun c => s (ix2 r c)) := by
  pointwise [weights]
  rw [rowMax_apply]

theorem recip_apply (p : FVec Ideal S128x256 .f32) (r : Fin 128) : recip p (ix2 r 0) = Ideal.div 1 (∑ c, p (ix2 r c)) := by
  pointwise [recip]
  rw [rowSum_apply]

theorem weighted_apply (h : Fin 2) (p : FVec Ideal S128x256 .f32) (v : FVec Ideal S256x128 .bf16) (r l : Fin 128) :
    weighted (mask h) p v (ix2 r l) = if par l = h then ∑ c, p (ix2 r c) * v (ix2 c l) else 0 := by
  pointwise [weighted]
  simp only [select_mask]
  split
  · rfl
  · exact Finset.sum_const_zero

theorem logSum_apply (s : FVec Ideal S128x256 .f32) (r : Fin 128) :
    logSum s (ix2 r 0) = (Finset.univ.sup fun c => s (ix2 r c)) + Ideal.log (∑ c, Ideal.exp (s (ix2 r c) - Finset.univ.sup fun c => s (ix2 r c))) := by
  pointwise [logSum]
  rw [rowMax_apply, rowSum_apply]
  simp only [weights_apply]

theorem setLane_apply (n : BitVec 32) (x : FVec Ideal S128x1 .f32) (t : FVec Ideal S128x128 .f32) (r l : Fin 128) :
    setLane n x t (ix2 r l) = if BitVec.ofNat 32 l.val = n then x (ix2 r 0) else t (ix2 r l) := by
  pointwise [setLane, spread]
  by_cases hn : BitVec.ofNat 32 l.val = n
  · simp [IntOp.cmpi, Scalar.select, hn]
  · simp [IntOp.cmpi, Scalar.select, hn, beq_eq_false_iff_ne.mpr hn]

section
variable {κ : Type} {S : Finset κ} {valid : Fin 256 → Prop} {e : Fin 256 → κ} (hc : Covers S valid e)
  {bias : FVec Ideal S128x256 .f32} {r : Fin 128} (hb : ∀ c, valid c → bias (ix2 r c) = 0) (hb' : ∀ c, ¬ valid c → bias (ix2 r c) = ⊥)
  {h : Fin 2} {q : Vec Ideal S1x128x128 .bf16} {k v : Vec Ideal S1x256x128 .bf16} {Q : Fin 64 → EReal} {K : κ → Fin 64 → EReal} {V : κ → EReal}
  (hq : ∀ d, q (ix3 0 r (lane h d)) = Q d) (hk : ∀ c, valid c → ∀ d, k (ix3 0 c (lane h d)) = K (e c) d)
include hb hb' hq hk

theorem scores_valid (c : Fin 256) (hv : valid c) : scores (mask h) bias (k0_pay6 q) (k0_pay7 k) (ix2 r c) = dot Q (K (e c)) := by
  rw [scores_apply, hb c hv, add_zero]
  refine congrArg₂ dot (funext fun d => ?_) (funext fun d => ?_)
  · rw [← hq]; pointwise [k0_pay6]
  · rw [← hk c hv]; pointwise [k0_pay7]

omit hb hq hk in
theorem scores_masked (c : Fin 256) (hv : ¬ valid c) : scores (mask h) bias (k0_pay6 q) (k0_pay7 k) (ix2 r c) = ⊥ := by
  rw [scores_apply, hb' c hv, EReal.add_bot]

include hc

theorem logSum_eq : logSum (scores (mask h) bias (k0_pay6 q) (k0_pay7 k)) (ix2 r 0) = lse S (fun j => dot Q (K j)) := by
  have h1 := scores_valid hb hb' hq hk
  have h2 : ∀ c, ¬ valid c → scores (mask h) bias (k0_pay6 q) (k0_pay7 k) (ix2 r c) = ⊥ := scores_masked hb'
  rw [logSum_apply, hc.den_eq (s := fun j => dot Q (K j)) h1 h2, hc.sup_eq (s := fun j => dot Q (K j)) h1 h2]; rfl

theorem pairOut_eq (l : Fin 128) (hl : par l = h) (hv : ∀ c, valid c → v (ix3 0 c l) = V (e c)) :
    pairOut bias q k v (ix3 0 r l) = num S (fun j => dot Q (K j)) V * Ideal.div 1 (den S fun j => dot Q (K j)) := by
  have h1 := scores_valid hb hb' hq hk
  have h2 : ∀ c, ¬ valid c → scores (mask h) bias (k0_pay6 q) (k0_pay7 k) (ix2 r c) = ⊥ := scores_masked hb'
  have hn := hc.num_eq (s := fun j => dot Q (K j)) h1 h2 (w := fun c => k0_pay8 v (ix2 c l)) (v := V) fun c hcv => by
    rw [← hv c hcv]; pointwise [k0_pay8]
  have hd := hc.den_eq (s := fun j => dot Q (K j)) h1 h2
  have hh : h = 0 ∨ h = 1 := by omega
  have e0 : (k0_pay1 : IVec S1x128 1) = mask 0 := rfl
  have e1 : second = mask 1 := rfl
  pointwise [pairOut, spread]
  rw [e0, e1, weighted_apply, weighted_apply, select_mask, recip_apply, recip_apply]
  simp only [weights_apply]
  rcases hh with rfl | rfl
  · rw [if_pos hl, if_neg (by rw [hl]; decide), if_pos hl, add_zero, hn, hd]
  · rw [if_neg (by rw [hl]; decide), if_pos hl, if_neg (by rw [hl]; decide), zero_add, hn, hd]
end

end Cert.Attn

end
-- ==== Proof.AttnBlock.lean ====
/-
  What the kernel's body leaves in its two output blocks, as functions of the blocks of queries, keys and values: the
  attention of each query over the keys at distance at most 64, and the log of the sum of the exponentials.
-/
module

public import proofs.«01_k».proof.Proof.AttnTrip
public import proofs.«01_k».proof.Proof.AttnRead

@[expose] public section

set_option maxRecDepth 16384

noncomputable section

namespace Cert.Attn

open Cert.KernelIdeal Cert.KernelIdeal.Gen Idealize.ShloMosaic

/-- The keys at distance at most 64 from position `s`. -/
def window (s : Fin 2048) : Finset (Fin 2048) := Finset.univ.filter fun k => k.val ≤ s.val + 64 ∧ s.val ≤ k.val + 64

theorem mem_window {s k : Fin 2048} : k ∈ window s ↔ k.val ≤ s.val + 64 ∧ s.val ≤ k.val + 64 := by
  simp only [window, Finset.mem_filter, Finset.mem_univ, true_and]

/-- Column of dimension `d` of head `h`. -/
def col (h : Fin 8) (d : Fin 64) : Fin 512 := ⟨64 * h.val + d.val, by omega⟩

/-- The head a column belongs to. -/
def head (j : Fin 512) : Fin 8 := ⟨j.val / 64, by omega⟩

/-- The scores of query `s` at head `h`. -/
def score (xq xk : Vec Ideal S1x2048x512 .bf16) (s : Fin 2048) (h : Fin 8) (k : Fin 2048) : EReal :=
  dot (fun d => xq (ix3 0 s (col h d))) fun d => xk (ix3 0 k (col h d))

/-- The block of outputs. -/
def outBlk (xq xk xv : Vec Ideal S1x2048x512 .bf16) (s : Fin 2048) (j : Fin 512) : EReal :=
  num (window s) (score xq xk s (head j)) (fun k => xv (ix3 0 k j)) * Ideal.div 1 (den (window s) (score xq xk s (head j)))

/-- The block of log-sums: lane `h` of a row is head `h`'s, the lanes past the heads are zero. -/
def lseBlk (xq xk : Vec Ideal S1x2048x512 .bf16) (s : Fin 2048) (l : Fin 128) : EReal :=
  if hl : l.val < 8 then lse (window s) (score xq xk s ⟨l.val, hl⟩) else 0

/-- The first key pass `k` loads. -/
def start (k : Fin 16) : ℕ := min 1792 (128 * k.val - 64)

theorem start_le (k : Fin 16) : start k ≤ 1792 := Nat.min_le_left _ _

theorem off1_eq (k : Fin 16) : k0_off1 k = ![0, 128 * k.val, 0] := funext ((by decide +kernel : ∀ k : Fin k0_t1_loop.trips, ∀ a : Fin 3, k0_off1 k a = ![0, 128 * k.val, 0] a) k)
theorem off2_eq (k : Fin 16) : k0_off2 k = ![0, start k, 0] := funext ((by decide +kernel : ∀ k : Fin k0_t1_loop.trips, ∀ a : Fin 3, k0_off2 k a = ![0, start (k : Fin 16), 0] a) k)
theorem off3_eq (k : Fin 16) : k0_off3 k = ![0, 128 * k.val, 128] := funext ((by decide +kernel : ∀ k : Fin k0_t1_loop.trips, ∀ a : Fin 3, k0_off3 k a = ![0, 128 * k.val, 128] a) k)
theorem off4_eq (k : Fin 16) : k0_off4 k = ![0, start k, 128] := funext ((by decide +kernel : ∀ k : Fin k0_t1_loop.trips, ∀ a : Fin 3, k0_off4 k a = ![0, start (k : Fin 16), 128] a) k)
theorem off5_eq (k : Fin 16) : k0_off5 k = ![0, 128 * k.val, 256] := funext ((by decide +kernel : ∀ k : Fin k0_t1_loop.trips, ∀ a : Fin 3, k0_off5 k a = ![0, 128 * k.val, 256] a) k)
theorem off6_eq (k : Fin 16) : k0_off6 k = ![0, start k, 256] := funext ((by decide +kernel : ∀ k : Fin k0_t1_loop.trips, ∀ a : Fin 3, k0_off6 k a = ![0, start (k : Fin 16), 256] a) k)
theorem off7_eq (k : Fin 16) : k0_off7 k = ![0, 128 * k.val, 384] := funext ((by decide +kernel : ∀ k : Fin k0_t1_loop.trips, ∀ a : Fin 3, k0_off7 k a = ![0, 128 * k.val, 384] a) k)
theorem off8_eq (k : Fin 16) : k0_off8 k = ![0, start k, 384] := funext ((by decide +kernel : ∀ k : Fin k0_t1_loop.trips, ∀ a : Fin 3, k0_off8 k a = ![0, start (k : Fin 16), 384] a) k)
theorem off9_eq (k : Fin 16) : k0_off9 k = ![0, 128 * k.val, 0] := funext ((by decide +kernel : ∀ k : Fin k0_t1_loop.trips, ∀ a : Fin 3, k0_off9 k a = ![0, 128 * k.val, 0] a) k)

/-- Query `r` of pass `k`. -/
def qrow (k : Fin 16) (r : Fin 128) : Fin 2048 := ⟨128 * k.val + r.val, by omega⟩

/-- Key `c` of pass `k`. -/
def krow (k : Fin 16) (c : Fin 256) : Fin 2048 := ⟨start k + c.val, by have := start_le k; omega⟩

theorem covers (k : Fin 16) (r : Fin 128) : Covers (window (qrow k r)) (fun c => krow k c ∈ window (qrow k r)) (krow k) where
  maps _ h := h
  inj i j _ _ h := by simp only [krow, Fin.ext_iff] at h ⊢; omega
  onto j hj := by
    have hj' := mem_window.mp hj
    have hk := k.isLt
    have hr := r.isLt
    simp only [qrow] at hj'
    have h1 : start k ≤ j.val := by simp only [start]; omega
    have h2 : j.val < start k + 256 := by simp only [start]; omega
    refine ⟨⟨j.val - start k, by omega⟩, ?_, ?_⟩
    · show krow k _ ∈ _
      have : krow k ⟨j.val - start k, by omega⟩ = j := by simp only [krow, Fin.ext_iff]; omega
      rw [this]; exact hj
    · simp only [krow, Fin.ext_iff]; omega

/-- The distance from the first key to the first query of pass `k`, as the kernel computes it. -/
theorem shift_eq : ∀ k : Fin 16, Scalar.subi (Scalar.muli (Scf.iv 0#32 1#32 k.val) 128#32)
    (Scalar.minsi 1792#32 (Scalar.maxsi 0#32 (Scalar.subi (Scalar.muli (Scf.iv 0#32 1#32 k.val) 128#32) 64#32))) = BitVec.ofNat 32 (128 * k.val - start k) := by
  decide +kernel

theorem toInt_dist (r c d : ℕ) (hr : r < 4096) (hc : c < 4096) (hd : d < 4096) :
    (IntOp.addi (IntOp.subi (BitVec.ofNat 32 r) (BitVec.ofNat 32 c)) (BitVec.ofNat 32 d)).toInt = (r : ℤ) - c + d := by
  have h : IntOp.addi (IntOp.subi (BitVec.ofNat 32 r) (BitVec.ofNat 32 c)) (BitVec.ofNat 32 d) = BitVec.ofInt 32 ((r : ℤ) - c + d) := by
    show BitVec.ofNat 32 r - BitVec.ofNat 32 c + BitVec.ofNat 32 d = _
    rw [sub_eq_add_neg, BitVec.ofInt_add, BitVec.ofInt_add, BitVec.ofInt_neg, ← BitVec.sub_eq_add_neg]; simp only [BitVec.ofInt_natCast]
  rw [h, BitVec.toInt_ofInt]
  exact Int.bmod_eq_of_le_mul_two (by omega) (by omega)

theorem bias_apply (k : Fin 16) (r : Fin 128) (c : Fin 256) : bias k (ix2 r c) = if krow k c ∈ window (qrow k r) then 0 else ⊥ := by
  have hs := shift_eq k
  have hi := toInt_dist r.val c.val (128 * k.val - start k) (by omega) (by omega) (by omega)
  have hn : Named.named (F := Ideal) (φ := .f32) κ "mask" 0xF149F2CA#32 = (⊥ : EReal) := IdealRules.named_const.ideal_named_scalar _ _ _ _ rfl
  pointwise [bias, k0_pay4, k0_pay2]
  rw [hs, hn]
  have hm : krow k c ∈ window (qrow k r) ↔ ((r.val : ℤ) - c.val + (128 * k.val - start k : ℕ) ≤ 64 ∧ -64 ≤ (r.val : ℤ) - c.val + (128 * k.val - start k : ℕ)) := by
    rw [mem_window]
    have : start k ≤ 128 * k.val := by simp only [start]; omega
    simp only [krow, qrow]; omega
  have h64 : (64#32 : BitVec 32).toInt = 64 := by decide
  have hm64 : (4294967232#32 : BitVec 32).toInt = -64 := by decide
  simp only [IntOp.cmpi, BitVec.sle, hi, h64, hm64, hm]
  by_cases h1 : (r.val : ℤ) - c.val + (128 * k.val - start k : ℕ) ≤ 64 <;>
    by_cases h2 : -64 ≤ (r.val : ℤ) - c.val + (128 * k.val - start k : ℕ) <;>
    simp only [h1, h2, decide_true, decide_false, and_true, true_and, and_self, and_false, false_and, if_true, if_false] <;> rfl

/-- A tile of the block: row `r` and lane `l` of the load at rows `a` on and columns `b` on. -/
theorem ldq_apply (m : Memref sig .tc .vmem S1x2048x512 .bf16) (hm : m.IsWhole) (x : Vec Ideal S1x2048x512 .bf16) (a b : ℕ) {o : Fin 3 → ℕ} (ho : o = ![0, a, b])
    (h : ∀ i, o i + S1x128x128.size i ≤ S1x2048x512.size i) (r l : Fin 128) (ha : a + r.val < 2048) (hb : b + l.val < 512) :
    ldq m (hm.unread x) o h (ix3 0 r l) = x (ix3 0 ⟨a + r.val, ha⟩ ⟨b + l.val, hb⟩) := by
  subst ho
  rw [ldq, View.readAt_eq_ld, hm.read_unread]
  refine congrArg x (funext fun i => ?_)
  fin_cases i <;> exact Fin.ext (by show _ + 1 * _ = _; simp [ix3])

theorem ldk_apply (m : Memref sig .tc .vmem S1x2048x512 .bf16) (hm : m.IsWhole) (x : Vec Ideal S1x2048x512 .bf16) (a b : ℕ) {o : Fin 3 → ℕ} (ho : o = ![0, a, b])
    (h : ∀ i, o i + S1x256x128.size i ≤ S1x2048x512.size i) (r : Fin 256) (l : Fin 128) (ha : a + r.val < 2048) (hb : b + l.val < 512) :
    ldk m (hm.unread x) o h (ix3 0 r l) = x (ix3 0 ⟨a + r.val, ha⟩ ⟨b + l.val, hb⟩) := by
  subst ho
  rw [ldk, View.readAt_eq_ld, hm.read_unread]
  refine congrArg x (funext fun i => ?_)
  fin_cases i <;> exact Fin.ext (by show _ + 1 * _ = _; simp [ix3])

section
variable (arg2 : Memref sig .tc .vmem S1x2048x512 .bf16) (harg2 : arg2.IsWhole) (arg3 : Memref sig .tc .vmem S1x2048x512 .bf16) (harg3 : arg3.IsWhole)
  (arg4 : Memref sig .tc .vmem S1x2048x512 .bf16) (harg4 : arg4.IsWhole) (xq xk xv : Vec Ideal S1x2048x512 .bf16)
  (k : Fin 16) (p : Fin 4) {o o' : Fin 3 → ℕ} (ho : o = ![0, 128 * k.val, 128 * p.val]) (ho' : o' = ![0, start k, 128 * p.val])
  (h : ∀ a, o a + S1x128x128.size a ≤ S1x2048x512.size a) (h' : ∀ a, o' a + S1x256x128.size a ≤ S1x2048x512.size a) (r : Fin 128)
include ho ho'

/-- The head that the pair `p`'s head `i` is. -/
def headOf (p : Fin 4) (i : Fin 2) : Fin 8 := ⟨2 * p.val + i.val, by omega⟩

theorem ldq_lane (i : Fin 2) (d : Fin 64) : ldq arg2 (harg2.unread xq) o h (ix3 0 r (lane i d)) = xq (ix3 0 (qrow k r) (col (headOf p i) d)) := by
  rw [ldq_apply arg2 harg2 xq _ _ ho h r _ (qrow k r).isLt (by simp only [lane]; omega)]
  refine congrArg xq (congrArg₂ (ix3 0) rfl (Fin.ext ?_))
  simp only [col, headOf, lane]; omega

theorem ldk_lane (c : Fin 256) (i : Fin 2) (d : Fin 64) : ldk arg3 (harg3.unread xk) o' h' (ix3 0 c (lane i d)) = xk (ix3 0 (krow k c) (col (headOf p i) d)) := by
  rw [ldk_apply arg3 harg3 xk _ _ ho' h' c _ (krow k c).isLt (by simp only [lane]; omega)]
  refine congrArg xk (congrArg₂ (ix3 0) rfl (Fin.ext ?_))
  simp only [col, headOf, lane]; omega

/-- What a pass stores for a pair of heads is the block of outputs there. -/
theorem pair_apply (l : Fin 128) (j : Fin 512) (hj : j.val = 128 * p.val + l.val) :
    pairOut (bias k) (ldq arg2 (harg2.unread xq) o h) (ldk arg3 (harg3.unread xk) o' h') (ldk arg4 (harg4.unread xv) o' h') (ix3 0 r l) = outBlk xq xk xv (qrow k r) j := by
  have hh : head j = headOf p (par l) := by simp only [head, headOf, par, Fin.ext_iff]; omega
  rw [outBlk, hh]
  exact pairOut_eq (covers k r) (fun c hc => by rw [bias_apply, if_pos hc]) (fun c hc => by rw [bias_apply, if_neg hc]) (h := par l)
    (fun d => ldq_lane arg2 harg2 xq k p ho ho' h r (par l) d) (fun c _ d => ldk_lane arg3 harg3 xk k p ho ho' h' c (par l) d) l rfl
    (V := fun t => xv (ix3 0 t j)) fun c _ => by
      rw [ldk_apply arg4 harg4 xv _ _ ho' h' c l (krow k c).isLt (by omega)]
      exact congrArg xv (congrArg₂ (ix3 0) rfl (Fin.ext hj.symm))

/-- A pass's log-sum of a head of a pair. -/
theorem logSum_pass (i : Fin 2) :
    logSum (scores (mask i) (bias k) (k0_pay6 (ldq arg2 (harg2.unread xq) o h)) (k0_pay7 (ldk arg3 (harg3.unread xk) o' h'))) (ix2 r 0) =
      lse (window (qrow k r)) (score xq xk (qrow k r) (headOf p i)) :=
  logSum_eq (covers k r) (fun c hc => by rw [bias_apply, if_pos hc]) (fun c hc => by rw [bias_apply, if_neg hc]) (h := i)
    (fun d => ldq_lane arg2 harg2 xq k p ho ho' h r i d) (fun c _ d => ldk_lane arg3 harg3 xk k p ho ho' h' c i d)

/-- Setting a pair's two lanes. -/
theorem setPair_apply (n n' : BitVec 32) (hn : n = BitVec.ofNat 32 (2 * p.val)) (hn' : n' = BitVec.ofNat 32 (2 * p.val + 1)) (t : FVec Ideal S128x128 .f32) (l : Fin 128) :
    setPair n n' (bias k) (ldq arg2 (harg2.unread xq) o h) (ldk arg3 (harg3.unread xk) o' h') t (ix2 r l) =
      if l.val / 2 = p.val then lseBlk xq xk (qrow k r) l else t (ix2 r l) := by
  have e0 : (k0_pay1 : IVec S1x128 1) = mask 0 := rfl
  have e1 : second = mask 1 := rfl
  have hw : ∀ a : ℕ, a < 8 → (BitVec.ofNat 32 l.val = BitVec.ofNat 32 a ↔ l.val = a) := fun a ha => by
    constructor
    · intro e
      have e' := congrArg BitVec.toNat e
      rwa [BitVec.toNat_ofNat, BitVec.toNat_ofNat, Nat.mod_eq_of_lt (by omega), Nat.mod_eq_of_lt (by omega)] at e'
    · rintro rfl; rfl
  rw [setPair, e0, e1, setLane_apply, setLane_apply, logSum_pass arg2 harg2 arg3 harg3 xq xk k p ho ho' h h' r, logSum_pass arg2 harg2 arg3 harg3 xq xk k p ho ho' h h' r, hn, hn']
  simp only [hw _ (show 2 * p.val + 1 < 8 by omega), hw _ (show 2 * p.val < 8 by omega)]
  by_cases h1 : l.val = 2 * p.val + 1
  · rw [if_pos h1, if_pos (by omega), lseBlk, dif_pos (by omega)]
    exact congrArg (lse _) (congrArg (score xq xk _) (Fin.ext h1.symm))
  · rw [if_neg h1]
    by_cases h2 : l.val = 2 * p.val
    · rw [if_pos h2, if_pos (by omega), lseBlk, dif_pos (by omega)]
      exact congrArg (lse _) (congrArg (score xq xk _) (Fin.ext h2.symm))
    · rw [if_neg h2, if_neg (by omega)]
end

/-- The pieces of a list agree with a function. -/
def Agrees {s : Shape} {e : EltTy} (L : List (View.Piece (Elt Ideal) s e)) (G : s.Idx → Elt Ideal e) : Prop := ∀ p ∈ L, ∀ x : p.1.shape.Idx, p.2 x = G (p.1.emb x)

theorem Agrees.cons {s : Shape} {e : EltTy} {L : List (View.Piece (Elt Ideal) s e)} {G : s.Idx → Elt Ideal e} {p : View.Piece (Elt Ideal) s e}
    (h : ∀ x : p.1.shape.Idx, p.2 x = G (p.1.emb x)) (hL : Agrees L G) : Agrees (p :: L) G := fun q hq => by
  rcases List.mem_cons.mp hq with rfl | hq
  · exact h
  · exact hL q hq

theorem Agrees.nil {s : Shape} {e : EltTy} {G : s.Idx → Elt Ideal e} : Agrees [] G := fun _ hq => absurd hq List.not_mem_nil

theorem Agrees.append {s : Shape} {e : EltTy} {L L' : List (View.Piece (Elt Ideal) s e)} {G : s.Idx → Elt Ideal e} (h : Agrees L G) (h' : Agrees L' G) : Agrees (L ++ L') G :=
  fun q hq => (List.mem_append.mp hq).elim (h q) (h' q)

section
variable (c : Dev nD) (i : grid0.Coords) (arg2 : Memref sig .tc .vmem S1x2048x512 .bf16) (harg2 : arg2.IsWhole) (arg3 : Memref sig .tc .vmem S1x2048x512 .bf16) (harg3 : arg3.IsWhole)
  (arg4 : Memref sig .tc .vmem S1x2048x512 .bf16) (harg4 : arg4.IsWhole) (arg5 : Memref sig .tc .vmem S1x2048x512 .bf16) (harg5 : arg5.IsWhole) (arg6 : Memref sig .tc .vmem S1x2048x128 .f32) (harg6 : arg6.IsWhole)
  (xq xk xv : Vec Ideal S1x2048x512 .bf16)

/-- One store of outputs agrees with the block of outputs. -/
theorem store_agrees (k : Fin 16) (p : Fin 4) {o o' : Fin 3 → ℕ} (ho : o = ![0, 128 * k.val, 128 * p.val]) (ho' : o' = ![0, start k, 128 * p.val])
    (h : ∀ a, o a + S1x128x128.size a ≤ S1x2048x512.size a) (h' : ∀ a, o' a + S1x256x128.size a ≤ S1x2048x512.size a) (x : S1x128x128.Idx) :
    pairOut (bias k) (ldq arg2 (harg2.unread xq) o h) (ldk arg3 (harg3.unread xk) o' h') (ldk arg4 (harg4.unread xv) o' h') x =
      (fun y : S1x2048x512.Idx => outBlk xq xk xv (y 1) (y 2)) ((Rect.unit (s := S1x2048x512) o S1x128x128.size h).emb x) := by
  obtain ⟨z, r, l, rfl⟩ : ∃ (z : Fin 1) (r l : Fin 128), x = ix3 z r l := ⟨x 0, x 1, x 2, by funext a; fin_cases a <;> rfl⟩
  obtain rfl : z = 0 := Subsingleton.elim _ _
  have hl := l.isLt
  rw [pair_apply arg2 harg2 arg3 harg3 arg4 harg4 xq xk xv k p ho ho' h h' r l ⟨128 * p.val + l.val, by omega⟩ rfl]
  subst ho
  exact congrArg₂ (outBlk xq xk xv) (Fin.ext (by show _ = _ + 1 * _; simp [qrow, ix3])) (Fin.ext (by show _ = _ + 1 * _; simp [ix3]))

theorem trip_agrees (v0 : IVec S1x128 32) (k : Fin k0_t1_loop.trips) :
    Agrees (trip_k0_t1 (F := Ideal) Variants.none c none i arg2 harg2 arg3 harg3 arg4 harg4 arg5 harg5 arg6 harg6 v0 (harg2.unread xq) (harg3.unread xk) (harg4.unread xv) k).1
      fun y => outBlk xq xk xv (y 1) (y 2) := by
  rw [trip_out]
  exact .cons (store_agrees arg2 harg2 arg3 harg3 arg4 harg4 xq xk xv k 3 (off7_eq k) (off8_eq k) _ _)
    (.cons (store_agrees arg2 harg2 arg3 harg3 arg4 harg4 xq xk xv k 2 (off5_eq k) (off6_eq k) _ _)
    (.cons (store_agrees arg2 harg2 arg3 harg3 arg4 harg4 xq xk xv k 1 (off3_eq k) (off4_eq k) _ _)
    (.cons (store_agrees arg2 harg2 arg3 harg3 arg4 harg4 xq xk xv k 0 (off1_eq k) (off2_eq k) _ _) .nil)))

theorem trip_lse_agrees (k : Fin k0_t1_loop.trips) :
    Agrees (trip_k0_t1 (F := Ideal) Variants.none c none i arg2 harg2 arg3 harg3 arg4 harg4 arg5 harg5 arg6 harg6 (iota .tc S1x128 32 [1] iota_S1x128_d1_w32) (harg2.unread xq) (harg3.unread xk) (harg4.unread xv) k).2.1
      fun y => lseBlk xq xk (y 1) (y 2) := by
  rw [trip_lse]
  refine .cons (fun x => ?_) .nil
  obtain ⟨z, r, l, rfl⟩ : ∃ (z : Fin 1) (r l : Fin 128), x = ix3 z r l := ⟨x 0, x 1, x 2, by funext a; fin_cases a <;> rfl⟩
  obtain rfl : z = 0 := Subsingleton.elim _ _
  have h9 := off9_eq k
  have hy : (fun y : S1x2048x128.Idx => lseBlk xq xk (y 1) (y 2)) ((Rect.unit (s := S1x2048x128) (k0_off9 k) S1x128x128.size (k0_off9_inb k)).emb (ix3 0 r l)) = lseBlk xq xk (qrow k r) l :=
    congrArg₂ (lseBlk xq xk) (Fin.ext ((congrArg (· + 1 * r.val) (congrFun h9 1)).trans (congrArg (128 * k.val + ·) (Nat.one_mul _))))
      (Fin.ext ((congrArg (· + 1 * l.val) (congrFun h9 2)).trans ((Nat.zero_add _).trans (Nat.one_mul _))))
  refine Eq.trans ?_ hy.symm
  dsimp only
  pointwise [k0_pay3]
  rw [setPair_apply arg2 harg2 arg3 harg3 xq xk k 3 (off7_eq k) (off8_eq k) _ _ r 6#32 7#32 rfl rfl, setPair_apply arg2 harg2 arg3 harg3 xq xk k 2 (off5_eq k) (off6_eq k) _ _ r 4#32 5#32 rfl rfl,
    setPair_apply arg2 harg2 arg3 harg3 xq xk k 1 (off3_eq k) (off4_eq k) _ _ r 2#32 3#32 rfl rfl, setPair_apply arg2 harg2 arg3 harg3 xq xk k 0 (off1_eq k) (off2_eq k) _ _ r 0#32 1#32 rfl rfl]
  have hz : (k0_pay5 : FVec Ideal S128x128 .f32) (ix2 r l) = 0 := by pointwise [k0_pay5]
  rw [hz]
  by_cases hl : l.val < 8
  · have h4 : l.val / 2 = 3 ∨ l.val / 2 = 2 ∨ l.val / 2 = 1 ∨ l.val / 2 = 0 := by omega
    rcases h4 with h4 | h4 | h4 | h4 <;> rw [h4] <;> rfl
  · have hlse : lseBlk xq xk (qrow k r) l = 0 := by rw [lseBlk, dif_neg hl]
    rw [hlse]; simp only [ite_self]

theorem pb_agrees (n : ℕ) (hn : n ≤ 16) :
    Agrees (pb_k0_t1 (F := Ideal) Variants.none c none i arg2 harg2 arg3 harg3 arg4 harg4 arg5 harg5 arg6 harg6 (iota .tc S1x128 32 [1] iota_S1x128_d1_w32) (harg2.unread xq) (harg3.unread xk) (harg4.unread xv) n).1
        (fun y => outBlk xq xk xv (y 1) (y 2))
    ∧ Agrees (pb_k0_t1 (F := Ideal) Variants.none c none i arg2 harg2 arg3 harg3 arg4 harg4 arg5 harg5 arg6 harg6 (iota .tc S1x128 32 [1] iota_S1x128_d1_w32) (harg2.unread xq) (harg3.unread xk) (harg4.unread xv) n).2
        (fun y => lseBlk xq xk (y 1) (y 2)) := by
  induction n with
  | zero => exact ⟨.nil, .nil⟩
  | succ n ih =>
    have h := pb_k0_t1_succ (F := Ideal) Variants.none c none i arg2 harg2 arg3 harg3 arg4 harg4 arg5 harg5 arg6 harg6 (iota .tc S1x128 32 [1] iota_S1x128_d1_w32) (harg2.unread xq) (harg3.unread xk) (harg4.unread xv) ⟨n, hn⟩
    rw [show n + 1 = (⟨n, hn⟩ : Fin k0_t1_loop.trips).val + 1 from rfl, h]
    obtain ⟨i1, i2⟩ := ih (by omega)
    exact ⟨(trip_agrees c i arg2 harg2 arg3 harg3 arg4 harg4 arg5 harg5 arg6 harg6 xq xk xv _ _).append i1,
      (trip_lse_agrees c i arg2 harg2 arg3 harg3 arg4 harg4 arg5 harg5 arg6 harg6 xq xk xv _).append i2⟩

theorem run_agrees :
    Agrees (kernelRun0_A (F := Ideal) c i arg2 harg2 arg3 harg3 arg4 harg4 arg5 harg5 arg6 harg6 xq xk xv).1 (fun y => outBlk xq xk xv (y 1) (y 2))
    ∧ Agrees (kernelRun0_A (F := Ideal) c i arg2 harg2 arg3 harg3 arg4 harg4 arg5 harg5 arg6 harg6 xq xk xv).2.1 (fun y => lseBlk xq xk (y 1) (y 2)) := by
  unfold kernelRun0_A
  exact pb_agrees c i arg2 harg2 arg3 harg3 arg4 harg4 arg5 harg5 arg6 harg6 xq xk xv 16 le_rfl

theorem out_eq (y : S1x2048x512.Idx) : out0_A_3 (F := Ideal) c i arg2 harg2 arg3 harg3 arg4 harg4 arg5 harg5 arg6 harg6 xq xk xv y = outBlk xq xk xv (y 1) (y 2) := by
  rw [out0_A_3, View.read_writes_eq_canon _ _ _ (cover0_A_3 c i arg2 harg2 arg3 harg3 arg4 harg4 arg5 harg5 arg6 harg6 xq xk xv)]
  exact View.canon_apply_of_pieces (Val := Elt Ideal) (e := EltTy.bf16) (fun y : S1x2048x512.Idx => outBlk xq xk xv (y 1) (y 2)) _ (run_agrees c i arg2 harg2 arg3 harg3 arg4 harg4 arg5 harg5 arg6 harg6 xq xk xv).1 y
    (cover0_A_3 c i arg2 harg2 arg3 harg3 arg4 harg4 arg5 harg5 arg6 harg6 xq xk xv y)

theorem lse_eq (y : S1x2048x128.Idx) : out0_A_4 (F := Ideal) c i arg2 harg2 arg3 harg3 arg4 harg4 arg5 harg5 arg6 harg6 xq xk xv y = lseBlk xq xk (y 1) (y 2) := by
  rw [out0_A_4, View.read_writes_eq_canon _ _ _ (cover0_A_4 c i arg2 harg2 arg3 harg3 arg4 harg4 arg5 harg5 arg6 harg6 xq xk xv)]
  exact View.canon_apply_of_pieces (Val := Elt Ideal) (e := EltTy.f32) (fun y : S1x2048x128.Idx => lseBlk xq xk (y 1) (y 2)) _ (run_agrees c i arg2 harg2 arg3 harg3 arg4 harg4 arg5 harg5 arg6 harg6 xq xk xv).2 y
    (cover0_A_4 c i arg2 harg2 arg3 harg3 arg4 harg4 arg5 harg5 arg6 harg6 xq xk xv y)
end

end Cert.Attn

end
-- ==== Proof.AttnArray.lean ====
/- The two result arrays of the attention call, entry by entry: the array's entry at batch `b`, position `s` and
   column `j` is the block function of the batch's own columns, because grid point `b` reads exactly them. -/
module

public import proofs.«01_k».proof.Proof.AttnBlock
public import proofs.«01_k».proof.Proof.Gen.KernelIdeal.Value

@[expose] public section

noncomputable section

namespace Cert.Attn

open Cert.KernelIdeal Cert.KernelIdeal.Gen Idealize.ShloMosaic Idealize.ShloMosaic.TcCoe Idealize.SL.Sem

variable (m : (ℓ : Loc nD τ sig) → Buf (Elt Ideal) ℓ) (c : Dev nD)

/-- The grid point of a batch. -/
def pt (b : Fin 8) : Fin cfg0.N := ⟨b.val, by rw [show cfg0.N = 8 from N_0]; exact b.isLt⟩

theorem index_eq : ∀ t : Fin grid0.N, (win0_0.index t = ![t.val, 0, 0] ∧ win0_1.index t = ![t.val, 0, 0] ∧ win0_2.index t = ![t.val, 0, 0])
    ∧ win0_3.index t = ![t.val, 0, 0] ∧ win0_4.index t = ![t.val, 0, 0] := by decide +kernel

/-- One batch of an argument: its first 512 columns. -/
def batch (x : S8x2048x1536.Idx → EReal) (b : Fin 8) : S1x2048x512.Idx → EReal := fun y => x (ix3 b (y 1) ⟨(y 2).val, (y 2).isLt.trans (by decide)⟩)

abbrev argQ : S8x2048x1536.Idx → EReal := m ((c : Thread nD τ).loc main_arg0)
abbrev argK : S8x2048x1536.Idx → EReal := m ((c : Thread nD τ).loc main_arg1)
abbrev argV : S8x2048x1536.Idx → EReal := m ((c : Thread nD τ).loc main_arg2)

/-- Where an input block's entry lies in its argument, and a result block's in its array. -/
theorem emb_in (w : Pipeline.Window sig grid0) (b : Fin 8) (x : S8x2048x1536.Idx) (y : S1x2048x512.Idx) (hi : x 0 = b ∧ (x 1).val = (y 1).val ∧ (x 2).val = (y 2).val) :
    x = ix3 b (y 1) ⟨(y 2).val, (y 2).isLt.trans (by decide)⟩ := by
  funext a; refine Fin.ext ?_
  fin_cases a
  · exact congrArg Fin.val hi.1
  · exact hi.2.1
  · exact hi.2.2

theorem iblk0_eq (b : Fin 8) : iblk m c 0 (pt b) = batch (argQ m c) b := by
  have h := (index_eq (pt b)).1.1
  funext y
  refine congrArg (argQ m c) (funext fun a => Fin.ext ?_)
  have h0 : (y 0).val = 0 := Nat.lt_one_iff.mp (y 0).isLt
  refine (Pipeline.Window.rect_emb_val win0_0 (pt b) y a).trans ?_
  rw [congrFun h a]
  fin_cases a
  · show b.val * 1 + (y 0).val = b.val; omega
  · show 0 * 2048 + (y 1).val = (y 1).val; omega
  · show 0 * 512 + (y 2).val = (y 2).val; omega

theorem iblk1_eq (b : Fin 8) : iblk m c 1 (pt b) = batch (argK m c) b := by
  have h := (index_eq (pt b)).1.2.1
  funext y
  refine congrArg (argK m c) (funext fun a => Fin.ext ?_)
  have h0 : (y 0).val = 0 := Nat.lt_one_iff.mp (y 0).isLt
  refine (Pipeline.Window.rect_emb_val win0_1 (pt b) y a).trans ?_
  rw [congrFun h a]
  fin_cases a
  · show b.val * 1 + (y 0).val = b.val; omega
  · show 0 * 2048 + (y 1).val = (y 1).val; omega
  · show 0 * 512 + (y 2).val = (y 2).val; omega

theorem iblk2_eq (b : Fin 8) : iblk m c 2 (pt b) = batch (argV m c) b := by
  have h := (index_eq (pt b)).1.2.2
  funext y
  refine congrArg (argV m c) (funext fun a => Fin.ext ?_)
  have h0 : (y 0).val = 0 := Nat.lt_one_iff.mp (y 0).isLt
  refine (Pipeline.Window.rect_emb_val win0_2 (pt b) y a).trans ?_
  rw [congrFun h a]
  fin_cases a
  · show b.val * 1 + (y 0).val = b.val; omega
  · show 0 * 2048 + (y 1).val = (y 1).val; omega
  · show 0 * 512 + (y 2).val = (y 2).val; omega

/-- The outputs and the log-sums of a whole call. -/
def outArr (q k v : S8x2048x1536.Idx → EReal) (i : S8x2048x512.Idx) : EReal := outBlk (batch q (i 0)) (batch k (i 0)) (batch v (i 0)) (i 1) (i 2)
def lseArr (q k : S8x2048x1536.Idx → EReal) (i : S8x2048x128.Idx) : EReal := lseBlk (batch q (i 0)) (batch k (i 0)) (i 1) (i 2)

theorem arr3_eq : (dats m 0 c).arrAt 3 cfg0.N = outArr (argQ m c) (argK m c) (argV m c) := by
  funext i
  obtain ⟨b, s, j, rfl⟩ : ∃ (b : Fin 8) (s : Fin 2048) (j : Fin 512), i = ix3 b s j := ⟨i 0, i 1, i 2, by funext a; fin_cases a <;> rfl⟩
  have hx : ((cfg0.win 3).blk (pt b)).view.emb (ix3 0 s j : S1x2048x512.Idx) = (ix3 b s j : S8x2048x512.Idx) := by
    have h := (index_eq (pt b)).2.1
    funext a; refine Fin.ext ((Pipeline.Window.rect_emb_val win0_3 (pt b) (ix3 0 s j : S1x2048x512.Idx) a).trans ?_)
    rw [congrFun h a]
    fin_cases a
    · show b.val * 1 + 0 = b.val; omega
    · show 0 * 2048 + s.val = s.val; omega
    · show 0 * 512 + j.val = j.val; omega
  rw [← hx]
  refine (congrFun (Value.blocks3 m c (pt b) (flush0_3 (pt b))) (ix3 0 s j : S1x2048x512.Idx)).trans ?_
  rw [Value.flushed3_A]
  refine (out_eq c _ _ _ _ _ _ _ _ _ _ _ _ _ _ (ix3 0 s j)).trans ?_
  rw [iblk0_eq, iblk1_eq, iblk2_eq, hx]; rfl

theorem arr4_eq : (dats m 0 c).arrAt 4 cfg0.N = lseArr (argQ m c) (argK m c) := by
  funext i
  obtain ⟨b, s, j, rfl⟩ : ∃ (b : Fin 8) (s : Fin 2048) (j : Fin 128), i = ix3 b s j := ⟨i 0, i 1, i 2, by funext a; fin_cases a <;> rfl⟩
  have hx : ((cfg0.win 4).blk (pt b)).view.emb (ix3 0 s j : S1x2048x128.Idx) = (ix3 b s j : S8x2048x128.Idx) := by
    have h := (index_eq (pt b)).2.2
    funext a; refine Fin.ext ((Pipeline.Window.rect_emb_val win0_4 (pt b) (ix3 0 s j : S1x2048x128.Idx) a).trans ?_)
    rw [congrFun h a]
    fin_cases a
    · show b.val * 1 + 0 = b.val; omega
    · show 0 * 2048 + s.val = s.val; omega
    · show 0 * 128 + j.val = j.val; omega
  rw [← hx]
  refine (congrFun (Value.blocks4 m c (pt b) (flush0_4 (pt b))) (ix3 0 s j : S1x2048x128.Idx)).trans ?_
  rw [Value.flushed4_A]
  refine (lse_eq c _ _ _ _ _ _ _ _ _ _ _ _ _ _ (ix3 0 s j)).trans ?_
  rw [iblk0_eq, iblk1_eq, hx]; rfl

end Cert.Attn

end
-- ==== Proof.AttnRef.lean ====
/- The reference's own steps, named, and each read at an index: the heads of an argument, the blocks of 64 queries,
   the bands of 192 keys around each block, the mask, the scores, and the two results. -/
module

public import proofs.«01_k».proof.Proof.AttnMath
public import proofs.«01_k».proof.Proof.Gen.ReferenceIdeal.Run
public import Idealize.ShloMosaic.Lib.Pointwise
public import Idealize.ShloMosaic.Lib.ValueIdxRank6
public import Idealize.ShloMosaic.Lib.Tactic

@[expose] public section

noncomputable section

namespace Cert.Attn.Ref

open Cert.ReferenceIdeal Cert.ReferenceIdeal.Gen Idealize.ShloMosaic Idealize.ShloMosaic.TcCoe

abbrev zero : FVec Ideal S_ .f32 := sitofp .f32 (constantI S_ 32 0#32)

/-- The first eight heads, head by head. -/
def heads (x : FVec Ideal S8x2048x1536 .bf16) : FVec Ideal S8x1x8x2048x64 .f32 :=
  transpose S8x1x8x2048x64 [0, 2, 3, 1, 4] (shapeCast _ (shapeCast _ (extractStridedSlice S8x2048x1x8x64 ![0, 0, 0, 0, 0] (shapeCast _ (extf .f32 x bitsLt_bf16_f32) shapeCasts_S8x2048x1536_S8x2048x3x8x64) slices_S8x2048x3x8x64_S8x2048x1x8x64_0_0_0_0_0) shapeCasts_S8x2048x1x8x64_S8x2048x8x64) shapeCasts_S8x2048x8x64_S8x2048x1x8x64) transposes_S8x2048x1x8x64_S8x1x8x2048x64_0_2_3_1_4

/-- The queries in blocks of 64. -/
def blocks (x : FVec Ideal S8x2048x1536 .bf16) : FVec Ideal S8x1x8x32x64x64 .f32 :=
  shapeCast _ (pad S8x1x8x2048x64 ![0, 0, 0, 0, 0] ![0, 0, 0, 0, 0] ![0, 0, 0, 0, 0] (heads x) zero pads_S8x1x8x2048x64_S8x1x8x2048x64_000_000_000_000_000 h_S_) shapeCasts_S8x1x8x2048x64_S8x1x8x32x64x64

/-- Padded by a block on either side, in blocks of 64. -/
def padded (x : FVec Ideal S8x2048x1536 .bf16) : FVec Ideal S8x1x8x34x64x64 .f32 :=
  shapeCast _ (pad S8x1x8x2176x64 ![0, 0, 0, 64, 0] ![0, 0, 0, 64, 0] ![0, 0, 0, 0, 0] (heads x) zero pads_S8x1x8x2048x64_S8x1x8x2176x64_000_000_000_64640_000 h_S_) shapeCasts_S8x1x8x2176x64_S8x1x8x34x64x64

/-- Each block's band: the block before, the block, the block after. -/
def banded (x : FVec Ideal S8x2048x1536 .bf16) : FVec Ideal S8x1x8x32x192x64 .f32 :=
  concatenate S8x1x8x32x192x64 4 [⟨S8x1x8x32x64x64, (extractStridedSlice S8x1x8x32x64x64 ![0, 0, 0, 0, 0, 0] (padded x) slices_S8x1x8x34x64x64_S8x1x8x32x64x64_0_0_0_0_0_0 : FVec Ideal S8x1x8x32x64x64 .f32)⟩,
    ⟨S8x1x8x32x64x64, (extractStridedSlice S8x1x8x32x64x64 ![0, 0, 0, 1, 0, 0] (padded x) slices_S8x1x8x34x64x64_S8x1x8x32x64x64_0_0_0_1_0_0 : FVec Ideal S8x1x8x32x64x64 .f32)⟩,
    ⟨S8x1x8x32x64x64, (extractStridedSlice S8x1x8x32x64x64 ![0, 0, 0, 2, 0, 0] (padded x) slices_S8x1x8x34x64x64_S8x1x8x32x64x64_0_0_0_2_0_0 : FVec Ideal S8x1x8x32x64x64 .f32)⟩] concatenates_S8x1x8x32x64x64_S8x1x8x32x64x64_S8x1x8x32x64x64_S8x1x8x32x192x64_d4

section
variable (x : FVec Ideal S8x2048x1536 .bf16) (b h : Fin 8) (d : Fin 64)

/-- The column of head `h`, coordinate `d`. -/
def col (h : Fin 8) (d : Fin 64) : Fin 1536 := ⟨64 * h.val + d.val, by omega⟩

theorem heads_apply (s : Fin 2048) : heads x (ix5 b 0 h s d) = x (ix3 b s (col h d)) := by
  pointwise [heads]
  exact congrArg x (congrArg (ix3 b s) (Fin.ext (by simp only [col]; omega)))

theorem blocks_apply (n : Fin 32) (r : Fin 64) : blocks x (ix6 b 0 h n r d) = x (ix3 b ⟨64 * n.val + r.val, by omega⟩ (col h d)) := by
  pointwise [blocks]
  rw [dif_pos (by omega), heads_apply]
  exact congrArg x (congrArg (ix3 b · _) (Fin.ext (by dsimp only; omega)))

theorem padded_apply (n : Fin 34) (r : Fin 64) (hs : 64 ≤ 64 * n.val + r.val ∧ 64 * n.val + r.val < 64 + 2048) :
    padded x (ix6 b 0 h n r d) = x (ix3 b ⟨64 * n.val + r.val - 64, by omega⟩ (col h d)) := by
  pointwise [padded]
  rw [dif_pos (by omega), heads_apply]
  exact congrArg x (congrArg (ix3 b · _) (Fin.ext (by dsimp only; omega)))

theorem banded_apply (n : Fin 32) (k : Fin 192) (hs : 64 ≤ 64 * n.val + k.val ∧ 64 * n.val + k.val < 64 + 2048) :
    banded x (ix6 b 0 h n k d) = x (ix3 b ⟨64 * n.val + k.val - 64, by omega⟩ (col h d)) := by
  pointwise [banded]
  by_cases h1 : k.val < 64
  · rw [dif_pos h1, padded_apply _ _ _ _ _ _ hs]
  by_cases h2 : k.val - 64 < 64
  · rw [dif_neg h1, dif_pos h2, padded_apply _ _ _ _ _ _ (by dsimp only; omega)]
    exact congrArg x (congrArg (ix3 b · _) (Fin.ext (by dsimp only; omega)))
  · rw [dif_neg h1, dif_neg h2, padded_apply _ _ _ _ _ _ (by dsimp only; omega)]
    exact congrArg x (congrArg (ix3 b · _) (Fin.ext (by dsimp only; omega)))
end

/-- Which keys of a band a query sees. -/
def valid : IVec S32x64x192 1 :=
  (andi (andi (cmpi .sle (absi (subi (broadcastInDim S32x64x192 ![0, 1, 2] bcast_S32x64x1_S32x64x192_0_1_2 (broadcastInDim S32x64x1 ![0, 1] bcast_S32x64_S32x64x1_0_1 (addi (broadcastInDim S32x64 ![0, 1] bcast_S32x1_S32x64_0_1 (muli (broadcastInDim S32x1 ![0] bcast_S32_S32x1_0 (iotaInDim S32 32 0)) (broadcastInDim S32x1 ![] bcast_S_S32x1 (constantI S_ 32 64#32)))) (broadcastInDim S32x64 ![0, 1] bcast_S1x64_S32x64_0_1 (broadcastInDim S1x64 ![1] bcast_S64_S1x64_1 (iotaInDim S64 32 0)))))) (broadcastInDim S32x64x192 ![0, 1, 2] bcast_S32x1x192_S32x64x192_0_1_2 (broadcastInDim S32x1x192 ![0, 2] bcast_S32x192_S32x1x192_0_2 (addi (broadcastInDim S32x192 ![0, 1] bcast_S32x1_S32x192_0_1 (subi (muli (broadcastInDim S32x1 ![0] bcast_S32_S32x1_0 (iotaInDim S32 32 0)) (broadcastInDim S32x1 ![] bcast_S_S32x1 (constantI S_ 32 64#32))) (broadcastInDim S32x1 ![] bcast_S_S32x1 (constantI S_ 32 64#32)))) (broadcastInDim S32x192 ![0, 1] bcast_S1x192_S32x192_0_1 (broadcastInDim S1x192 ![1] bcast_S192_S1x192_1 (iotaInDim S192 32 0)))))))) (broadcastInDim S32x64x192 ![] bcast_S_S32x64x192 (constantI S_ 32 64#32))) (broadcastInDim S32x64x192 ![0, 1, 2] bcast_S32x1x192_S32x64x192_0_1_2 (cmpi .sge (broadcastInDim S32x1x192 ![0, 2] bcast_S32x192_S32x1x192_0_2 (addi (broadcastInDim S32x192 ![0, 1] bcast_S32x1_S32x192_0_1 (subi (muli (broadcastInDim S32x1 ![0] bcast_S32_S32x1_0 (iotaInDim S32 32 0)) (broadcastInDim S32x1 ![] bcast_S_S32x1 (constantI S_ 32 64#32))) (broadcastInDim S32x1 ![] bcast_S_S32x1 (constantI S_ 32 64#32)))) (broadcastInDim S32x192 ![0, 1] bcast_S1x192_S32x192_0_1 (broadcastInDim S1x192 ![1] bcast_S192_S1x192_1 (iotaInDim S192 32 0))))) (broadcastInDim S32x1x192 ![] bcast_S_S32x1x192 (constantI S_ 32 0#32))))) (broadcastInDim S32x64x192 ![0, 1, 2] bcast_S32x1x192_S32x64x192_0_1_2 (cmpi .slt (broadcastInDim S32x1x192 ![0, 2] bcast_S32x192_S32x1x192_0_2 (addi (broadcastInDim S32x192 ![0, 1] bcast_S32x1_S32x192_0_1 (subi (muli (broadcastInDim S32x1 ![0] bcast_S32_S32x1_0 (iotaInDim S32 32 0)) (broadcastInDim S32x1 ![] bcast_S_S32x1 (constantI S_ 32 64#32))) (broadcastInDim S32x1 ![] bcast_S_S32x1 (constantI S_ 32 64#32)))) (broadcastInDim S32x192 ![0, 1] bcast_S1x192_S32x192_0_1 (broadcastInDim S1x192 ![1] bcast_S192_S1x192_1 (iotaInDim S192 32 0))))) (broadcastInDim S32x1x192 ![] bcast_S_S32x1x192 (constantI S_ 32 2048#32)))))

/-- The masked scores. -/
def scores (q k : FVec Ideal S8x2048x1536 .bf16) : FVec Ideal S8x1x8x32x64x192 .f32 :=
  select (broadcastInDim S8x1x8x32x64x192 ![3, 4, 5] bcast_S32x64x192_S8x1x8x32x64x192_3_4_5 valid)
    (Host.dotGeneral dot_S8x1x8x32x64x64_S8x1x8x32x192x64_S8x1x8x32x64x192_5_5_4_4_0123_0123 none (blocks q) (banded k))
    (broadcastInDim S8x1x8x32x64x192 ![] bcast_S_S8x1x8x32x64x192 (id (constant S_ .f32 0xFF800000#32)))

def rowMax (s : FVec Ideal S8x1x8x32x64x192 .f32) : FVec Ideal S8x1x8x32x64 .f32 :=
  Host.reduce FloatOps.maximumf s (constant S_ .f32 0xFF800000#32) reducesTo_S8x1x8x32x64x192_S8x1x8x32x64_d5 h_S_

def weights (s : FVec Ideal S8x1x8x32x64x192 .f32) : FVec Ideal S8x1x8x32x64x192 .f32 :=
  Host.exp (subf s (broadcastInDim S8x1x8x32x64x192 ![0, 1, 2, 3, 4, 5] bcast_S8x1x8x32x64x1_S8x1x8x32x64x192_0_1_2_3_4_5 (broadcastInDim S8x1x8x32x64x1 ![0, 1, 2, 3, 4] bcast_S8x1x8x32x64_S8x1x8x32x64x1_0_1_2_3_4 (rowMax s))))

/-- A row's value kept as a column of one entry. -/
def keep (t : FVec Ideal S8x1x8x32x64 .f32) : FVec Ideal S8x1x8x32x64x1 .f32 :=
  broadcastInDim S8x1x8x32x64x1 ![0, 1, 2, 3, 4] bcast_S8x1x8x32x64_S8x1x8x32x64x1_0_1_2_3_4 t

def den (s : FVec Ideal S8x1x8x32x64x192 .f32) : FVec Ideal S8x1x8x32x64 .f32 :=
  Host.reduceAdd (weights s) (constant S_ .f32 0x00000000#32) reducesTo_S8x1x8x32x64x192_S8x1x8x32x64_d5 h_S_

/-- The outputs, head by head. -/
def outs (s : FVec Ideal S8x1x8x32x64x192 .f32) (v : FVec Ideal S8x1x8x32x192x64 .f32) : FVec Ideal S8x1x8x32x64x64 .f32 :=
  Host.divf (Host.dotGeneral dot_S8x1x8x32x64x192_S8x1x8x32x192x64_S8x1x8x32x64x64_5_4_4_5_0123_0123 none (weights s) v)
    (broadcastInDim S8x1x8x32x64x64 ![0, 1, 2, 3, 4, 5] bcast_S8x1x8x32x64x1_S8x1x8x32x64x64_0_1_2_3_4_5 (keep (den s)))

def outRes (q k v : FVec Ideal S8x2048x1536 .bf16) : FVec Ideal S8x2048x512 .bf16 :=
  truncf .bf16 (shapeCast _ (shapeCast _ (transpose S8x2048x1x8x64 [0, 3, 1, 2, 4] (shapeCast _ (outs (scores q k) (banded v)) shapeCasts_S8x1x8x32x64x64_S8x1x8x2048x64) transposes_S8x1x8x2048x64_S8x2048x1x8x64_0_3_1_2_4) shapeCasts_S8x2048x1x8x64_S8x2048x8x64) shapeCasts_S8x2048x8x64_S8x2048x512) bitsLt_bf16_f32

/-- The log-sums, head by head. -/
def logs (s : FVec Ideal S8x1x8x32x64x192 .f32) : FVec Ideal S8x1x8x32x64x1 .f32 :=
  addf (keep (rowMax s)) (Host.log (keep (den s)))

def lseRes (q k : FVec Ideal S8x2048x1536 .bf16) : FVec Ideal S8x2048x128 .f32 :=
  pad S8x2048x128 ![0, 0, 0] ![0, 0, 120] ![0, 0, 0] (shapeCast _ (transpose S8x2048x1x8 [0, 3, 1, 2] (shapeCast _ (shapeCast _ (logs (scores q k)) shapeCasts_S8x1x8x32x64x1_S8x1x8x32x64) shapeCasts_S8x1x8x32x64_S8x1x8x2048) transposes_S8x1x8x2048_S8x2048x1x8_0_3_1_2) shapeCasts_S8x2048x1x8_S8x2048x8) zero pads_S8x2048x8_S8x2048x128_000_000_01200 h_S_

theorem res_out (m : (ℓ : Loc nD τ sig) → Buf (Elt Ideal) ℓ) (c : Dev nD) :
    Value.res_out0 m c = outRes (m ((c.tc : Thread nD τ).loc main_arg0)) (m ((c.tc : Thread nD τ).loc main_arg1)) (m ((c.tc : Thread nD τ).loc main_arg2)) := rfl

theorem res_lse (m : (ℓ : Loc nD τ sig) → Buf (Elt Ideal) ℓ) (c : Dev nD) :
    Value.res_out1 m c = lseRes (m ((c.tc : Thread nD τ).loc main_arg0)) (m ((c.tc : Thread nD τ).loc main_arg1)) := rfl

theorem dist_word : ∀ (r : Fin 64) (k : Fin 192), IntOp.cmpi .sle (IntOp.absi (BitVec.ofNat 32 r.val + 64#32 - BitVec.ofNat 32 k.val)) 64#32 = if r.val ≤ k.val ∧ k.val ≤ r.val + 128 then 1#1 else 0#1 := by
  decide +kernel

theorem low_word : ∀ (n : Fin 32) (k : Fin 192), IntOp.cmpi .sge (BitVec.ofNat 32 n.val * 64#32 - 64#32 + BitVec.ofNat 32 k.val) 0#32 = if 64 ≤ 64 * n.val + k.val then 1#1 else 0#1 := by
  decide +kernel

theorem high_word : ∀ (n : Fin 32) (k : Fin 192), IntOp.cmpi .slt (BitVec.ofNat 32 n.val * 64#32 - 64#32 + BitVec.ofNat 32 k.val) 2048#32 = if 64 * n.val + k.val < 64 + 2048 then 1#1 else 0#1 := by
  decide +kernel

/-- Query `64 n + r` sees the band's key `k` when key `64 n + k - 64` is a position of the sequence and at most 64 away. -/
def Sees (n : Fin 32) (r : Fin 64) (k : Fin 192) : Prop :=
  (64 ≤ 64 * n.val + k.val ∧ 64 * n.val + k.val < 64 + 2048) ∧ r.val ≤ k.val ∧ k.val ≤ r.val + 128

instance (n : Fin 32) (r : Fin 64) (k : Fin 192) : Decidable (Sees n r k) := by unfold Sees; infer_instance

theorem valid_apply (n : Fin 32) (r : Fin 64) (k : Fin 192) : valid (ix3 n r k) = if Sees n r k then 1#1 else 0#1 := by
  pointwise [valid]
  have e : IntOp.subi (IntOp.addi (IntOp.muli (BitVec.ofNat 32 n.val) 64#32) (BitVec.ofNat 32 r.val))
      (IntOp.addi (IntOp.subi (IntOp.muli (BitVec.ofNat 32 n.val) 64#32) 64#32) (BitVec.ofNat 32 k.val)) = BitVec.ofNat 32 r.val + 64#32 - BitVec.ofNat 32 k.val := by
    show BitVec.ofNat 32 n.val * 64#32 + BitVec.ofNat 32 r.val - (BitVec.ofNat 32 n.val * 64#32 - 64#32 + BitVec.ofNat 32 k.val) = _
    generalize BitVec.ofNat 32 n.val * 64#32 = a
    generalize BitVec.ofNat 32 r.val = b
    generalize BitVec.ofNat 32 k.val = d
    generalize 64#32 = f
    grind
  rw [e, dist_word, show IntOp.addi (IntOp.subi (IntOp.muli (BitVec.ofNat 32 n.val) 64#32) 64#32) (BitVec.ofNat 32 k.val) = BitVec.ofNat 32 n.val * 64#32 - 64#32 + BitVec.ofNat 32 k.val from rfl,
    low_word, high_word]
  unfold Sees
  by_cases h1 : r.val ≤ k.val ∧ k.val ≤ r.val + 128 <;> by_cases h2 : 64 ≤ 64 * n.val + k.val <;> by_cases h3 : 64 * n.val + k.val < 64 + 2048 <;>
    simp [h1, h2, h3, IntOp.andi]

section
variable (q k v : FVec Ideal S8x2048x1536 .bf16) (b h : Fin 8) (n : Fin 32) (r : Fin 64) (s : FVec Ideal S8x1x8x32x64x192 .f32)

theorem ofBits_neg_inf : Ideal.ofBits .f32 0xFF800000#32 = (⊥ : EReal) := by
  simp [Ideal.ofBits, Ideal.ieee]

theorem sitofp_zero : (FloatOps.sitofp .f32 0#32 : Ideal .f32) = 0 := by
  show ((BitVec.toInt 0#32 : ℝ) : EReal) = 0
  simp

theorem scores_apply (t : Fin 192) : scores q k (ix6 b 0 h n r t) = if Sees n r t then ∑ d, blocks q (ix6 b 0 h n r d) * banded k (ix6 b 0 h n t d) else ⊥ := by
  pointwise [scores]
  rw [valid_apply, show id (constant S_ .f32 4286578688#32 : FVec Ideal S_ .f32) ix0 = (⊥ : EReal) from ofBits_neg_inf]
  by_cases hs : Sees n r t
  · rw [if_pos hs, if_pos hs]; rfl
  · rw [if_neg hs, if_neg hs]; rfl

theorem reduces : S8x1x8x32x64x192.Reduces [5] S8x1x8x32x64 := by decide

theorem lift_eq (t : Fin 192) : reduces.lift (ix5 b 0 h n r) t = ix6 b 0 h n r t := by
  funext a; exact Fin.ext (by match a with | ⟨0, _⟩ => rfl | ⟨1, _⟩ => rfl | ⟨2, _⟩ => rfl | ⟨3, _⟩ => rfl | ⟨4, _⟩ => rfl | ⟨5, _⟩ => rfl)

theorem rowMax_apply : rowMax s (ix5 b 0 h n r) = Finset.univ.sup fun t => s (ix6 b 0 h n r t) := by
  pointwise [rowMax]
  rw [show Ideal.ofBits .f32 4286578688#32 = (⊥ : EReal) from ofBits_neg_inf]
  simp only [Shape.ReducesTo.drop_eq_drop _ reduces]
  rw [reduces.fold_filter_drop_single]
  exact congrArg (Finset.fold max ⊥ · Finset.univ) (funext fun t => congrArg s (lift_eq b h n r t))

theorem weights_apply (t : Fin 192) : weights s (ix6 b 0 h n r t) = Ideal.exp (s (ix6 b 0 h n r t) - rowMax s (ix5 b 0 h n r)) := by
  pointwise [weights]

theorem den_apply : den s (ix5 b 0 h n r) = ∑ t, weights s (ix6 b 0 h n r t) := by
  pointwise [den]
  rw [Ideal.hostReduceAdd_single _ reduces, zero_add]
  exact Finset.sum_congr rfl fun t _ => congrArg (weights s) (lift_eq b h n r t)

theorem keep_apply (t : FVec Ideal S8x1x8x32x64 .f32) : keep t (ix6 b 0 h n r 0) = t (ix5 b 0 h n r) := by
  pointwise [keep]

theorem outs_apply (v : FVec Ideal S8x1x8x32x192x64 .f32) (d : Fin 64) :
    outs s v (ix6 b 0 h n r d) = Ideal.div (∑ t, weights s (ix6 b 0 h n r t) * v (ix6 b 0 h n t d)) (den s (ix5 b 0 h n r)) := by
  pointwise [outs]
  rw [keep_apply]

theorem addf_log_apply {S : Shape} (x y : FVec Ideal S .f32) (i : S.Idx) : addf x (Host.log y) i = x i + Ideal.log (y i) := rfl

theorem logs_apply : logs s (ix6 b 0 h n r 0) = rowMax s (ix5 b 0 h n r) + Ideal.log (den s (ix5 b 0 h n r)) := by
  rw [logs, addf_log_apply, keep_apply, keep_apply]

theorem outRes_apply (p : Fin 2048) (j : Fin 512) : outRes q k v (ix3 b p j) =
    outs (scores q k) (banded v) (ix6 b 0 ⟨j.val / 64, by omega⟩ ⟨p.val / 64, by omega⟩ ⟨p.val % 64, by omega⟩ ⟨j.val % 64, by omega⟩) := by
  pointwise [outRes]

theorem lseRes_apply (p : Fin 2048) (j : Fin 128) : lseRes q k (ix3 b p j) =
    if hj : j.val < 8 then logs (scores q k) (ix6 b 0 ⟨j.val, hj⟩ ⟨p.val / 64, by omega⟩ ⟨p.val % 64, by omega⟩ 0) else 0 := by
  pointwise [lseRes]
  rw [show (FloatOps.sitofp .f32 0#32 : Ideal .f32) = 0 from sitofp_zero]
end

end Cert.Attn.Ref

end
-- ==== Proof.AttnEq.lean ====
/- The attention call and its reference agree: both results of the reference, at an index, are the same sums over the
   same window of keys as the kernel's, the quotient taken once where the kernel multiplies by a reciprocal. -/
module

public import proofs.«01_k».proof.Proof.AttnArray
public import proofs.«01_k».proof.Proof.AttnRef
public import proofs.«01_k».proof.Pre_finite
public import proofs.«01_k».proof.Defs

@[expose] public section

noncomputable section

namespace Cert.Attn

open Idealize.ShloMosaic Idealize.ShloMosaic.TcCoe Idealize.SL.Sem

abbrev Arg := Vec Ideal Cert.ReferenceIdeal.S8x2048x1536 .bf16

section
variable (q k v : Arg) (b h : Fin 8) (n : Fin 32) (r : Fin 64)

/-- Query `64 n + r`. -/
def qpos (n : Fin 32) (r : Fin 64) : Fin 2048 := ⟨64 * n.val + r.val, by omega⟩

/-- The position of a band's key (of one outside the sequence, some position). -/
def kpos (n : Fin 32) (t : Fin 192) : Fin 2048 := ⟨min (64 * n.val + t.val - 64) 2047, by omega⟩

theorem ref_covers : Covers (window (qpos n r)) (Ref.Sees n r) (kpos n) where
  maps t ht := by
    obtain ⟨⟨h1, h2⟩, h3, h4⟩ := ht
    rw [mem_window]; simp only [kpos, qpos]; omega
  inj t t' ht ht' e := by
    obtain ⟨⟨h1, h2⟩, h3, h4⟩ := ht
    obtain ⟨⟨h1', h2'⟩, h3', h4'⟩ := ht'
    have := congrArg Fin.val e
    simp only [kpos] at this
    exact Fin.ext (by omega)
  onto j hj := by
    have := mem_window.mp hj
    have hj' := j.isLt
    simp only [qpos] at this
    exact ⟨⟨j.val + 64 - 64 * n.val, by omega⟩, ⟨⟨by dsimp only; omega, by dsimp only; omega⟩, by dsimp only; omega, by dsimp only; omega⟩,
      Fin.ext (by simp only [kpos]; omega)⟩

/-- The score of two positions of a head. -/
def sc (s : Fin 2048) (t : Fin 2048) : EReal := dot (fun d => q (ix3 b s (Ref.col h d))) fun d => k (ix3 b t (Ref.col h d))

theorem seen (t : Fin 192) (ht : Ref.Sees n r t) (x : Arg) (d : Fin 64) : Ref.banded x (ix6 b 0 h n t d) = x (ix3 b (kpos n t) (Ref.col h d)) := by
  rw [Ref.banded_apply _ _ _ _ _ _ ht.1]
  exact congrArg x (congrArg (ix3 b · _) (Fin.ext (by have := ht.1; simp only [kpos]; omega)))

theorem ref_score (t : Fin 192) (ht : Ref.Sees n r t) : Ref.scores q k (ix6 b 0 h n r t) = sc q k b h (qpos n r) (kpos n t) := by
  rw [Ref.scores_apply, if_pos ht]
  rw [sc, dot]
  refine Finset.sum_congr rfl fun d _ => ?_
  rw [Ref.blocks_apply, seen b h n r t ht]; rfl

theorem ref_hidden (t : Fin 192) (ht : ¬ Ref.Sees n r t) : Ref.scores q k (ix6 b 0 h n r t) = ⊥ := by
  rw [Ref.scores_apply, if_neg ht]

theorem ref_max : Ref.rowMax (Ref.scores q k) (ix5 b 0 h n r) = (window (qpos n r)).sup (sc q k b h (qpos n r)) := by
  rw [Ref.rowMax_apply]
  exact (ref_covers n r).sup_eq (ref_score q k b h n r) (ref_hidden q k b h n r)

theorem ref_den : Ref.den (Ref.scores q k) (ix5 b 0 h n r) = den (window (qpos n r)) (sc q k b h (qpos n r)) := by
  rw [Ref.den_apply]
  simp only [Ref.weights_apply, Ref.rowMax_apply]
  exact (ref_covers n r).den_eq (s := sc q k b h (qpos n r)) (ref_score q k b h n r) (ref_hidden q k b h n r)

theorem ref_outs (d : Fin 64) : Ref.outs (Ref.scores q k) (Ref.banded v) (ix6 b 0 h n r d) =
    Ideal.div (num (window (qpos n r)) (sc q k b h (qpos n r)) fun t => v (ix3 b t (Ref.col h d))) (den (window (qpos n r)) (sc q k b h (qpos n r))) := by
  rw [Ref.outs_apply, ref_den]
  simp only [Ref.weights_apply, Ref.rowMax_apply]
  rw [(ref_covers n r).num_eq (s := sc q k b h (qpos n r)) (v := fun t => v (ix3 b t (Ref.col h d))) (ref_score q k b h n r) (ref_hidden q k b h n r)
    fun t ht => seen b h n r t ht v d]

theorem ref_logs : Ref.logs (Ref.scores q k) (ix6 b 0 h n r 0) = lse (window (qpos n r)) (sc q k b h (qpos n r)) := by
  rw [Ref.logs_apply, ref_den, ref_max]; rfl
end

theorem sc_ne_zero (q k : Arg) (hq : ∀ i, IsFin (q i)) (hk : ∀ i, IsFin (k i)) (b h : Fin 8) (s : Fin 2048) : den (window s) (sc q k b h s) ≠ 0 :=
  den_ne_zero ⟨s, mem_window.mpr (by omega)⟩ fun t _ => IsFin.dot (fun _ => hq _) fun _ => hk _

theorem pos_split (p : Fin 2048) : qpos ⟨p.val / 64, by omega⟩ ⟨p.val % 64, by omega⟩ = p := Fin.ext (by simp only [qpos]; omega)

theorem out_agree (q k v : Arg) (hq : ∀ i, IsFin (q i)) (hk : ∀ i, IsFin (k i)) : outArr q k v = Ref.outRes q k v := by
  funext i
  obtain ⟨b, p, j, rfl⟩ : ∃ (b : Fin 8) (p : Fin 2048) (j : Fin 512), i = ix3 b p j := ⟨i 0, i 1, i 2, by funext a; fin_cases a <;> rfl⟩
  have hj := j.isLt
  rw [Ref.outRes_apply, ref_outs, pos_split, div_eq_mul_div_one (sc_ne_zero q k hq hk _ _ _)]
  have e : (fun t : Fin 2048 => v (ix3 b t (Ref.col ⟨j.val / 64, by omega⟩ ⟨j.val % 64, by omega⟩))) = fun t => v (ix3 b t ⟨j.val, by omega⟩) :=
    funext fun t => congrArg v (congrArg (ix3 b t) (Fin.ext (by simp only [Ref.col]; omega)))
  rw [e]; rfl

theorem lse_agree (q k : Arg) : lseArr q k = Ref.lseRes q k := by
  funext i
  obtain ⟨b, p, j, rfl⟩ : ∃ (b : Fin 8) (p : Fin 2048) (j : Fin 128), i = ix3 b p j := ⟨i 0, i 1, i 2, by funext a; fin_cases a <;> rfl⟩
  rw [Ref.lseRes_apply]
  by_cases hj : j.val < 8
  · rw [dif_pos hj, ref_logs, pos_split]
    exact dif_pos hj
  · rw [dif_neg hj]
    exact dif_neg hj

theorem preFacts : Cert.Pre_finite.Facts := ⟨by decide⟩

theorem isFin_of_abs (x : EReal) (h : max x (-x) < ⊤) : IsFin x := by
  constructor
  · rintro rfl; simp at h
  · rintro rfl; simp at h

theorem both_true : ∀ a b : Bool, IntOp.andi (BitVec.ofBool a) (BitVec.ofBool b) = 1#1 → a = true ∧ b = true := by decide

theorem finite_args (q k v : Arg) (h : letI := preFacts; Cert.Pre_finite.fn (F := Ideal) q k v = fun _ => 1#1) : (∀ i, IsFin (q i)) ∧ ∀ i, IsFin (k i) := by
  have key : ∀ i, IsFin (q i) ∧ IsFin (k i) := fun i => by
    have hi := congrFun h i
    obtain ⟨b, p, j, rfl⟩ : ∃ (b : Fin 8) (p : Fin 2048) (j : Fin 1536), i = ix3 b p j := ⟨i 0, i 1, i 2, by funext a; fin_cases a <;> rfl⟩
    pointwise [Cert.Pre_finite.fn] at hi
    rw [show Ideal.ofBits .bf16 32640#16 = (⊤ : EReal) from by simp [Ideal.ofBits, Ideal.ieee]] at hi
    replace hi : IntOp.andi (BitVec.ofBool (decide (max (q (ix3 b p j)) (-(q (ix3 b p j))) < (⊤ : EReal)))) (BitVec.ofBool (decide (max (k (ix3 b p j)) (-(k (ix3 b p j))) < (⊤ : EReal)))) = 1#1 := hi
    obtain ⟨h1, h2⟩ := both_true _ _ hi
    exact ⟨isFin_of_abs _ (of_decide_eq_true h1), isFin_of_abs _ (of_decide_eq_true h2)⟩
  exact ⟨fun i => (key i).1, fun i => (key i).2⟩

end Cert.Attn

end
-- ==== Proof.MixTile.lean ====
/-
  The arithmetic of one grid point of the projection and feed-forward call, named stage by stage: the three groups'
  weights, the weighted sum of their outputs, the gated projections, the residual sum, its normalised rows, the
  feed-forward's chunks, and the result.
-/
module

public import proofs.«01_k».proof.Proof.Gen.Kernel2Ideal.Skeleton
public import Idealize.ShloMosaic.Lib.Pointwise

@[expose] public section

noncomputable section

namespace Cert.Mix

open Cert.Kernel2Ideal Cert.Kernel2Ideal.Gen Idealize.ShloMosaic

/-- A group's exponential of its log-sum less the largest of the three, times the reciprocal of the three's sum. -/
def weight (l l0 l1 l2 : FVec Ideal S512x128 .f32) : FVec Ideal S512x128 .f32 := mulf (exp (subf l (k0_pay3 l0 l1 l2))) (k0_pay7 l0 l1 l2)

/-- A group's outputs times its weights, each head's weight set on its 64 columns by a product with a table of zeros
    and ones; the weight goes through in two parts, its rounding and the rest. -/
def spread (a : FVec Ideal S512x128 .f32) (e : FVec Ideal S128x512 .bf16) (o : FVec Ideal S512x512 .bf16) : FVec Ideal S512x512 .f32 :=
  mulf (addf (matmul dot_S512x128_S128x512_S512x512_1_0_0_1_n_n none (truncf .bf16 a bitsLt_bf16_f32) e (constant S512x512 .f32 0x00000000#32))
    (matmul dot_S512x128_S128x512_S512x512_1_0_0_1_n_n none (truncf .bf16 (subf a (extf .f32 (truncf .bf16 a bitsLt_bf16_f32) bitsLt_bf16_f32)) bitsLt_bf16_f32) e (constant S512x512 .f32 0x00000000#32)))
    (extf .f32 o bitsLt_bf16_f32)

/-- The three groups' outputs, weighted and summed. -/
def mixed (l0 l1 l2 : FVec Ideal S512x128 .f32) (e : FVec Ideal S128x512 .bf16) (o0 o1 o2 : FVec Ideal S512x512 .bf16) : FVec Ideal S512x512 .bf16 :=
  truncf .bf16 (addf (addf (addf (broadcast S512x512 (Scalar.ofBits (F := Ideal) .f32 0x00000000#32)) (spread (weight l0 l0 l1 l2) (k0_pay8 e) o0))
    (spread (weight l1 l0 l1 l2) (k0_pay8 e) o1)) (spread (weight l2 l0 l1 l2) (k0_pay8 e) o2)) bitsLt_bf16_f32

/-- The two branches projected, each times its gates, and summed. -/
def gated (a u : FVec Ideal S512x512 .bf16) (ga gc : FVec Ideal S512x1024 .f32) (wo wpw : FVec Ideal S512x1024 .bf16) : FVec Ideal S512x1024 .bf16 :=
  truncf .bf16 (addf (mulf ga (matmul dot_S512x512_S512x1024_S512x1024_1_0_0_1_n_n none a (shapeCast S512x1024 wo shapeCasts_S512x1024_S512x1024) (constant S512x1024 .f32 0x00000000#32)))
    (mulf gc (matmul dot_S512x512_S512x1024_S512x1024_1_0_0_1_n_n none u (shapeCast S512x1024 wpw shapeCasts_S512x1024_S512x1024) (constant S512x1024 .f32 0x00000000#32)))) bitsLt_bf16_f32

/-- The layer's input plus the projected branches. -/
def resid (x : FVec Ideal S512x1024 .f32) (f : FVec Ideal S512x1024 .bf16) (w : FVec Ideal S1024x1024 .bf16) : FVec Ideal S512x1024 .f32 :=
  addf x (matmul dot_S512x1024_S1024x1024_S512x1024_1_0_0_1_n_n none f (shapeCast S1024x1024 w shapeCasts_S1024x1024_S1024x1024) (constant S512x1024 .f32 0x00000000#32))

/-- Each row's mean square. -/
def meanSq (x : FVec Ideal S512x1024 .f32) : FVec Ideal S512x1 .f32 :=
  divf (shapeCast S512x1 (multiReduction .add [1] S512 (mulf x x) 0x00000000#32 reduces_S512x1024_S512 (.inl rfl) rfl) shapeCasts_S512_S512x1)
    (broadcast S512x1 (Scalar.ofBits (F := Ideal) .f32 0x44800000#32))

/-- One chunk of the feed-forward's hidden layer: the first product times its logistic, times the second product. -/
def chunk (h : FVec Ideal S512x1024 .bf16) (w w' : FVec Ideal S1024x256 .bf16) : FVec Ideal S512x256 .bf16 := k0_pay16 h w w'

end Cert.Mix

end
-- ==== Proof.MixRun.lean ====
/-
  What one grid point of the projection and feed-forward call stores: the eleven chunks of the hidden layer into the
  scratch buffer, and the result computed from the whole scratch.
-/
module

public import proofs.«01_k».proof.Proof.Gen.Kernel2Ideal.Value
public import proofs.«01_k».proof.Proof.MixTile
public import Idealize.ShloMosaic.Lib.VecWindow

@[expose] public section

set_option maxRecDepth 65536

noncomputable section

namespace Cert.Mix

open Cert.Kernel2Ideal Cert.Kernel2Ideal.Gen Idealize.ShloMosaic

/-- A load of a rectangle of a buffer. -/
abbrev load {s : Shape} {φ : EltTy} (m : Memref sig .tc .vmem s φ) (X : BufTy.Contents (Elt Ideal) m.view.ty) (o size : Fin s.rank → Nat) (h : ∀ a, o a + size a ≤ s.size a) :=
  View.readAt (Elt Ideal) m.view (Rect.unit (s := s) o size h).toLoadRect X

theorem load_full {a b : ℕ} {φ : EltTy} (m : Memref sig .tc .vmem ⟨2, ![a, b]⟩ φ) (hm : m.IsWhole) (x : ((⟨2, ![a, b]⟩ : Shape)).Idx → Elt Ideal φ) (o : Fin 2 → Nat)
    (h : ∀ i, o i + ![a, b] i ≤ ![a, b] i) : load m (hm.unread x) o ![a, b] h = x := by
  refine (View.readAt_full m.view (hm.unread x) h).trans ?_
  rw [hm.read_unread]

section
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .bf16) (harg8 : arg8.IsWhole) (arg9 : Memref sig .tc .vmem S512x2048 .f32) (harg9 : arg9.IsWhole) (arg10 : Memref sig .tc .vmem S128x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x2816 .bf16) (harg18 : arg18.IsWhole)
    (x0 : Vec Ideal S512x1024 .f32) (x1 : Vec Ideal S512x512 .bf16) (x2 : Vec Ideal S512x512 .bf16) (x3 : Vec Ideal S512x512 .bf16) (x4 : Vec Ideal S512x128 .f32) (x5 : Vec Ideal S512x128 .f32) (x6 : Vec Ideal S512x128 .f32) (x7 : Vec Ideal S512x512 .bf16) (x8 : Vec Ideal S512x2048 .f32) (x9 : Vec Ideal S128x512 .bf16) (x10 : Vec Ideal S512x1024 .bf16) (x11 : Vec Ideal S512x1024 .bf16) (x12 : Vec Ideal S1024x1024 .bf16) (x13 : Vec Ideal S1x1024 .f32) (x14 : Vec Ideal S1024x5632 .bf16) (x15 : Vec Ideal S2816x1024 .bf16)

/-- The residual sum of the grid point, from its buffers. -/
def x1Of : FVec Ideal S512x1024 .f32 :=
  resid (load arg1 (harg1.unread x0) ![0, 0] S512x1024.size inb_S512x1024_S512x1024_0_0) (gated (mixed (load arg5 (harg5.unread x4) ![0, 0] S512x128.size inb_S512x128_S512x128_0_0) (load arg6 (harg6.unread x5) ![0, 0] S512x128.size inb_S512x128_S512x128_0_0) (load arg7 (harg7.unread x6) ![0, 0] S512x128.size inb_S512x128_S512x128_0_0) (load arg10 (harg10.unread x9) ![0, 0] S128x512.size inb_S128x512_S128x512_0_0) (load arg2 (harg2.unread x1) ![0, 0] S512x512.size inb_S512x512_S512x512_0_0) (load arg3 (harg3.unread x2) ![0, 0] S512x512.size inb_S512x512_S512x512_0_0) (load arg4 (harg4.unread x3) ![0, 0] S512x512.size inb_S512x512_S512x512_0_0)) (load arg8 (harg8.unread x7) ![0, 0] S512x512.size inb_S512x512_S512x512_0_0) (load arg9 (harg9.unread x8) ![0, 0] S512x1024.size inb_S512x2048_S512x1024_0_0) (load arg9 (harg9.unread x8) ![0, 1024] S512x1024.size inb_S512x2048_S512x1024_0_1024) (load arg11 (harg11.unread x10) ![0, 0] S512x1024.size inb_S512x1024_S512x1024_0_0) (load arg12 (harg12.unread x11) ![0, 0] S512x1024.size inb_S512x1024_S512x1024_0_0)) (load arg13 (harg13.unread x12) ![0, 0] S1024x1024.size inb_S1024x1024_S1024x1024_0_0)

/-- Its normalised rows. -/
def h2Of : FVec Ideal S512x1024 .bf16 := k0_pay13 (x1Of arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) (meanSq (x1Of arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)) (load arg14 (harg14.unread x13) ![0, 0] S1x1024.size inb_S1x1024_S1x1024_0_0)

/-- The chunks stored into the scratch, last first. -/
def chunks : List (View.Piece (Elt Ideal) S512x2816 .bf16) :=
  [⟨Rect.unit ![0, 2560] S512x256.size inb_S512x2816_S512x256_0_2560, chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 2560] S1024x256.size inb_S1024x5632_S1024x256_0_2560) (load arg15 (harg15.unread x14) ![0, 5376] S1024x256.size inb_S1024x5632_S1024x256_0_5376)⟩,
   ⟨Rect.unit ![0, 2304] S512x256.size inb_S512x2816_S512x256_0_2304, chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 2304] S1024x256.size inb_S1024x5632_S1024x256_0_2304) (load arg15 (harg15.unread x14) ![0, 5120] S1024x256.size inb_S1024x5632_S1024x256_0_5120)⟩,
   ⟨Rect.unit ![0, 2048] S512x256.size inb_S512x2816_S512x256_0_2048, chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 2048] S1024x256.size inb_S1024x5632_S1024x256_0_2048) (load arg15 (harg15.unread x14) ![0, 4864] S1024x256.size inb_S1024x5632_S1024x256_0_4864)⟩,
   ⟨Rect.unit ![0, 1792] S512x256.size inb_S512x2816_S512x256_0_1792, chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 1792] S1024x256.size inb_S1024x5632_S1024x256_0_1792) (load arg15 (harg15.unread x14) ![0, 4608] S1024x256.size inb_S1024x5632_S1024x256_0_4608)⟩,
   ⟨Rect.unit ![0, 1536] S512x256.size inb_S512x2816_S512x256_0_1536, chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 1536] S1024x256.size inb_S1024x5632_S1024x256_0_1536) (load arg15 (harg15.unread x14) ![0, 4352] S1024x256.size inb_S1024x5632_S1024x256_0_4352)⟩,
   ⟨Rect.unit ![0, 1280] S512x256.size inb_S512x2816_S512x256_0_1280, chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 1280] S1024x256.size inb_S1024x5632_S1024x256_0_1280) (load arg15 (harg15.unread x14) ![0, 4096] S1024x256.size inb_S1024x5632_S1024x256_0_4096)⟩,
   ⟨Rect.unit ![0, 1024] S512x256.size inb_S512x2816_S512x256_0_1024, chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 1024] S1024x256.size inb_S1024x5632_S1024x256_0_1024) (load arg15 (harg15.unread x14) ![0, 3840] S1024x256.size inb_S1024x5632_S1024x256_0_3840)⟩,
   ⟨Rect.unit ![0, 768] S512x256.size inb_S512x2816_S512x256_0_768, chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 768] S1024x256.size inb_S1024x5632_S1024x256_0_768) (load arg15 (harg15.unread x14) ![0, 3584] S1024x256.size inb_S1024x5632_S1024x256_0_3584)⟩,
   ⟨Rect.unit ![0, 512] S512x256.size inb_S512x2816_S512x256_0_512, chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 512] S1024x256.size inb_S1024x5632_S1024x256_0_512) (load arg15 (harg15.unread x14) ![0, 3328] S1024x256.size inb_S1024x5632_S1024x256_0_3328)⟩,
   ⟨Rect.unit ![0, 256] S512x256.size inb_S512x2816_S512x256_0_256, chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 256] S1024x256.size inb_S1024x5632_S1024x256_0_256) (load arg15 (harg15.unread x14) ![0, 3072] S1024x256.size inb_S1024x5632_S1024x256_0_3072)⟩,
   ⟨Rect.unit ![0, 0] S512x256.size inb_S512x2816_S512x256_0_0, chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 0] S1024x256.size inb_S1024x5632_S1024x256_0_0) (load arg15 (harg15.unread x14) ![0, 2816] S1024x256.size inb_S1024x5632_S1024x256_0_2816)⟩]

theorem run_out :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15).1 =
      [⟨Rect.unit ![0, 0] S512x1024.size inb_S512x1024_S512x1024_0_0, k0_pay2 (x1Of arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12)
        (arg18.view.readCov (chunks arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (Rect.unit ![0, 0] S512x2816.size inb_S512x2816_S512x2816_0_0).toLoadRect) (load arg16 (harg16.unread x15) ![0, 0] S2816x1024.size inb_S2816x1024_S2816x1024_0_0)⟩] := by
  unfold kernelRun0_A
  dsimp only
  sl_unfold_run_names
  rfl
end

end Cert.Mix

end
-- ==== Proof.MixMath.lean ====
/-
  One row of the layer after the attention: the gated projections of the two branches, the residual sum, the
  normalisation and the gated feed-forward; and the facts about the three groups' weights that the proof rests on.
-/
module

public import proofs.«01_k».proof.Proof.AttnMath

@[expose] public section

noncomputable section

namespace Cert.Mix

open Idealize.ShloMosaic Cert.Attn

/-- The first and the second half of a row of gates. -/
def gLo (k : Fin 1024) : Fin 2048 := ⟨k.val, by omega⟩
def gHi (k : Fin 1024) : Fin 2048 := ⟨1024 + k.val, by omega⟩

/-- The gate's and the value's column of a hidden unit. -/
def fLo (n : Fin 2816) : Fin 5632 := ⟨n.val, by omega⟩
def fHi (n : Fin 2816) : Fin 5632 := ⟨2816 + n.val, by omega⟩

/-- A row times a matrix. -/
def mulVec {a b : ℕ} (x : Fin a → EReal) (w : Fin a → Fin b → EReal) (j : Fin b) : EReal := ∑ k, x k * w k j

/-- The two branches projected, each times its gates, and summed. -/
def gatedRow (a u : Fin 512 → EReal) (g : Fin 2048 → EReal) (wo wpw : Fin 512 → Fin 1024 → EReal) (k : Fin 1024) : EReal :=
  g (gLo k) * mulVec a wo k + g (gHi k) * mulVec u wpw k

/-- The layer's input plus the projected branches. -/
def residRow (x f : Fin 1024 → EReal) (w : Fin 1024 → Fin 1024 → EReal) (j : Fin 1024) : EReal := x j + mulVec f w j

/-- A row over the root of its mean square, times the learned scale. -/
def normRow (x n : Fin 1024 → EReal) (j : Fin 1024) : EReal :=
  x j * Ideal.rsqrt (Ideal.div (∑ k, x k * x k) (Ideal.ofBits .f32 0x44800000#32) + Ideal.ofBits .f32 0x358637BD#32) * n j

/-- A hidden unit of the feed-forward. -/
def hidden (h : Fin 1024 → EReal) (w : Fin 1024 → Fin 5632 → EReal) (n : Fin 2816) : EReal :=
  mulVec h w (fLo n) * Ideal.logistic (mulVec h w (fLo n)) * mulVec h w (fHi n)

/-- The feed-forward of a normalised row, added to the row. -/
def ffnRow (x n : Fin 1024 → EReal) (w1 : Fin 1024 → Fin 5632 → EReal) (w2 : Fin 2816 → Fin 1024 → EReal) (j : Fin 1024) : EReal :=
  x j + mulVec (hidden (normRow x n) w1) w2 j

/-- A group's share of a query's attention, as the reference computes it. -/
def share (l l0 l1 l2 : EReal) : EReal :=
  Ideal.div (Ideal.exp (l - max (max l0 l1) l2)) (Ideal.exp (l0 - max (max l0 l1) l2) + Ideal.exp (l1 - max (max l0 l1) l2) + Ideal.exp (l2 - max (max l0 l1) l2))

/-- The same share as the kernel computes it: times the reciprocal of the sum. -/
def share' (l l0 l1 l2 : EReal) : EReal :=
  Ideal.exp (l - max (max l0 l1) l2) * Ideal.div 1 (Ideal.exp (l0 - max (max l0 l1) l2) + Ideal.exp (l1 - max (max l0 l1) l2) + Ideal.exp (l2 - max (max l0 l1) l2))

/-- The lane of the log-sums that a column's head has. -/
def lane (j : Fin 512) : Fin 128 := ⟨j.val / 64, by omega⟩

/-- The three groups' outputs of one query, weighted by their shares and summed. -/
def attnRow (o0 o1 o2 : Fin 512 → EReal) (l0 l1 l2 : Fin 128 → EReal) (j : Fin 512) : EReal :=
  share (l0 (lane j)) (l0 (lane j)) (l1 (lane j)) (l2 (lane j)) * o0 j + share (l1 (lane j)) (l0 (lane j)) (l1 (lane j)) (l2 (lane j)) * o1 j
    + share (l2 (lane j)) (l0 (lane j)) (l1 (lane j)) (l2 (lane j)) * o2 j

/-- One row of the call's result. -/
def layerRow (x : Fin 1024 → EReal) (a u : Fin 512 → EReal) (g : Fin 2048 → EReal) (wo wpw : Fin 512 → Fin 1024 → EReal) (wout : Fin 1024 → Fin 1024 → EReal)
    (n : Fin 1024 → EReal) (w1 : Fin 1024 → Fin 5632 → EReal) (w2 : Fin 2816 → Fin 1024 → EReal) : Fin 1024 → EReal :=
  ffnRow (residRow x (gatedRow a u g wo wpw) wout) n w1 w2

theorem fin_max {x y : EReal} (hx : IsFin x) (hy : IsFin y) : IsFin (max x y) := by
  rcases max_choice x y with h | h <;> rw [h] <;> assumption

/-- The exponential of a difference of finite numbers is a positive real. -/
theorem exp_sub_pos {x y : EReal} (hx : IsFin x) (hy : IsFin y) : ∃ r : ℝ, 0 < r ∧ Ideal.exp (x - y) = r := by
  obtain ⟨a, rfl⟩ := hx.exists; obtain ⟨b, rfl⟩ := hy.exists
  rw [← EReal.coe_sub]
  exact ⟨Real.exp (a - b), Real.exp_pos _, rfl⟩

/-- With finite log-sums the two shares are one finite number. -/
theorem share_fin {l l0 l1 l2 : EReal} (h : IsFin l) (h0 : IsFin l0) (h1 : IsFin l1) (h2 : IsFin l2) :
    share' l l0 l1 l2 = share l l0 l1 l2 ∧ IsFin (share' l l0 l1 l2) := by
  have hm := fin_max (fin_max h0 h1) h2
  obtain ⟨r, -, e⟩ := exp_sub_pos h hm
  obtain ⟨r0, p0, e0⟩ := exp_sub_pos h0 hm
  obtain ⟨r1, p1, e1⟩ := exp_sub_pos h1 hm
  obtain ⟨r2, p2, e2⟩ := exp_sub_pos h2 hm
  have hs : ((r0 : EReal) + r1 + r2) = ((r0 + r1 + r2 : ℝ) : EReal) := by push_cast; rfl
  have hne : ((r0 + r1 + r2 : ℝ) : EReal) ≠ 0 := by
    intro h; have := EReal.coe_eq_zero.mp h; linarith
  unfold share' share
  rw [e, e0, e1, e2, hs]
  refine ⟨(div_eq_mul_div_one hne).symm, ?_⟩
  unfold Ideal.div
  rw [if_neg hne, one_mul, ← EReal.coe_inv]
  exact (IsFin.coe _).mul (IsFin.coe _)

/-- A sum with one finite entry picked by a column of zeros and one. -/
theorem sum_pick {n : ℕ} (a : Fin n → EReal) (i : Fin n) : ∑ l, a l * (if l = i then 1 else 0) = a i := by
  rw [Finset.sum_eq_single i]
  · rw [if_pos rfl, mul_one]
  · intro l _ hl; rw [if_neg hl, mul_zero]
  · intro h; exact absurd (Finset.mem_univ i) h

theorem sub_self_fin {x : EReal} (h : IsFin x) : x - x = 0 := by
  obtain ⟨r, rfl⟩ := h.exists
  rw [← EReal.coe_sub, sub_self]; rfl

end Cert.Mix

end
-- ==== Proof.MixRead.lean ====
/-
  The stages of one grid point read at an index: each is the row function of the same name.
-/
module

public import proofs.«01_k».proof.Proof.MixTile
public import proofs.«01_k».proof.Proof.MixMath
public import Idealize.ShloMosaic.Lib.Pointwise
public import Idealize.ShloMosaic.Lib.Tactic

@[expose] public section

noncomputable section

namespace Cert.Mix

open Cert.Kernel2Ideal Cert.Kernel2Ideal.Gen Idealize.ShloMosaic Cert.Attn

/-- Row `r` of an array, and the rows of a matrix. -/
def row {a b : ℕ} (w : ((⟨2, ![a, b]⟩ : Shape)).Idx → EReal) (k : Fin a) (j : Fin b) : EReal := w (ix2 k j)

theorem weight_apply (l l0 l1 l2 : FVec Ideal S512x128 .f32) (r : Fin 512) (c : Fin 128) :
    weight l l0 l1 l2 (ix2 r c) = share' (l (ix2 r c)) (l0 (ix2 r c)) (l1 (ix2 r c)) (l2 (ix2 r c)) := by
  pointwise [weight, k0_pay3, k0_pay4, k0_pay5, k0_pay6, k0_pay7]
  rfl

/-- The table of zeros and ones that sets a head's weight on its columns. -/
def IsTable (e : FVec Ideal S128x512 .bf16) : Prop := ∀ (l : Fin 128) (j : Fin 512), e (ix2 l j) = if l = lane j then 1 else 0

theorem pay8_apply (e : FVec Ideal S128x512 .bf16) (l : Fin 128) (j : Fin 512) : k0_pay8 (F := Ideal) e (ix2 l j) = e (ix2 l j) := by
  pointwise [k0_pay8]

theorem spread_apply (a : FVec Ideal S512x128 .f32) (e : FVec Ideal S128x512 .bf16) (he : IsTable e) (o : FVec Ideal S512x512 .bf16) (r j : Fin 512)
    (ha : IsFin (a (ix2 r (lane j)))) : spread a e o (ix2 r j) = a (ix2 r (lane j)) * o (ix2 r j) := by
  pointwise [spread]
  simp only [he _ j]
  rw [sum_pick (fun l => a (ix2 r l)), sum_pick (fun l => a (ix2 r l) - a (ix2 r l)), sub_self_fin ha, add_zero]

theorem mixed_apply (l0 l1 l2 : FVec Ideal S512x128 .f32) (e : FVec Ideal S128x512 .bf16) (he : IsTable e) (o0 o1 o2 : FVec Ideal S512x512 .bf16) (r j : Fin 512)
    (h0 : IsFin (l0 (ix2 r (lane j)))) (h1 : IsFin (l1 (ix2 r (lane j)))) (h2 : IsFin (l2 (ix2 r (lane j)))) :
    mixed l0 l1 l2 e o0 o1 o2 (ix2 r j) = attnRow (row o0 r) (row o1 r) (row o2 r) (row l0 r) (row l1 r) (row l2 r) j := by
  have he' : IsTable (k0_pay8 e) := fun l j => (pay8_apply e l j).trans (he l j)
  have w (l : FVec Ideal S512x128 .f32) (h : IsFin (l (ix2 r (lane j)))) (o : FVec Ideal S512x512 .bf16) :
      spread (weight l l0 l1 l2) (k0_pay8 e) o (ix2 r j)
        = share (l (ix2 r (lane j))) (l0 (ix2 r (lane j))) (l1 (ix2 r (lane j))) (l2 (ix2 r (lane j))) * o (ix2 r j) := by
    have hs := share_fin h h0 h1 h2
    rw [spread_apply _ _ he' _ _ _ (by rw [weight_apply]; exact hs.2), weight_apply, hs.1]
  pointwise [mixed]
  rw [w l0 h0, w l1 h1, w l2 h2]; rfl

theorem gated_apply (a u : FVec Ideal S512x512 .bf16) (ga gc : FVec Ideal S512x1024 .f32) (wo wpw : FVec Ideal S512x1024 .bf16) (g : Fin 2048 → EReal) (r : Fin 512) (k : Fin 1024)
    (hg : ∀ k, ga (ix2 r k) = g (gLo k)) (hc : ∀ k, gc (ix2 r k) = g (gHi k)) :
    gated a u ga gc wo wpw (ix2 r k) = gatedRow (row a r) (row u r) g (row wo) (row wpw) k := by
  pointwise [gated]
  rw [hg, hc]; rfl

theorem resid_apply (x : FVec Ideal S512x1024 .f32) (f : FVec Ideal S512x1024 .bf16) (w : FVec Ideal S1024x1024 .bf16) (r : Fin 512) (j : Fin 1024) :
    resid x f w (ix2 r j) = residRow (row x r) (row f r) (row w) j := by
  pointwise [resid]
  rfl

theorem meanSq_apply (x : FVec Ideal S512x1024 .f32) (r : Fin 512) :
    meanSq x (ix2 r 0) = Ideal.div (∑ k, row x r k * row x r k) (Ideal.ofBits .f32 0x44800000#32) := by
  pointwise [meanSq]
  rfl

theorem norm_apply (x : FVec Ideal S512x1024 .f32) (n : FVec Ideal S1x1024 .f32) (r : Fin 512) (j : Fin 1024) :
    k0_pay13 x (meanSq x) n (ix2 r j) = normRow (row x r) (row n 0) j := by
  pointwise [k0_pay13]
  rw [meanSq_apply]; rfl

theorem chunk_apply (h : FVec Ideal S512x1024 .bf16) (w w' : FVec Ideal S1024x256 .bf16) (r : Fin 512) (n : Fin 256) :
    chunk h w w' (ix2 r n) = mulVec (row h r) (row w) n * Ideal.logistic (mulVec (row h r) (row w) n) * mulVec (row h r) (row w') n := by
  pointwise [chunk, k0_pay16]
  rfl

theorem pay2_apply (x : FVec Ideal S512x1024 .f32) (f : FVec Ideal S512x2816 .bf16) (w : FVec Ideal S2816x1024 .bf16) (r : Fin 512) (j : Fin 1024) :
    k0_pay2 x f w (ix2 r j) = row x r j + mulVec (row f r) (row w) j := by
  pointwise [k0_pay2]
  rfl

end Cert.Mix

end
-- ==== Proof.MixBlock.lean ====
/-
  What the projection and feed-forward call leaves in its output block, as a function of its input blocks.
-/
module

public import proofs.«01_k».proof.Proof.MixRun
public import proofs.«01_k».proof.Proof.MixRead

@[expose] public section

set_option maxRecDepth 65536

noncomputable section

namespace Cert.Mix

open Cert.Kernel2Ideal Cert.Kernel2Ideal.Gen Idealize.ShloMosaic Cert.Attn

/-- An entry of a load of a rectangle: the buffer's entry at the offsets plus the coordinates. -/
theorem load_apply {a b p q : ℕ} {φ : EltTy} (m : Memref sig .tc .vmem ⟨2, ![a, b]⟩ φ) (hm : m.IsWhole) (x : ((⟨2, ![a, b]⟩ : Shape)).Idx → Elt Ideal φ) (o o' : ℕ)
    (h : ∀ i, ![o, o'] i + ![p, q] i ≤ ![a, b] i) (r : Fin p) (l : Fin q) (hr : o + r.val < a) (hl : o' + l.val < b) :
    load m (hm.unread x) ![o, o'] ![p, q] h (ix2 r l) = x (ix2 ⟨o + r.val, hr⟩ ⟨o' + l.val, hl⟩) := by
  rw [load, View.readAt_eq_ld, hm.read_unread]
  refine congrArg x (funext fun i => ?_)
  fin_cases i <;> exact Fin.ext (by show _ + 1 * _ = _; simp [ix2])

section
variable (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x512 .bf16) (harg8 : arg8.IsWhole) (arg9 : Memref sig .tc .vmem S512x2048 .f32) (harg9 : arg9.IsWhole) (arg10 : Memref sig .tc .vmem S128x512 .bf16) (harg10 : arg10.IsWhole) (arg11 : Memref sig .tc .vmem S512x1024 .bf16) (harg11 : arg11.IsWhole) (arg12 : Memref sig .tc .vmem S512x1024 .bf16) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S1024x5632 .bf16) (harg15 : arg15.IsWhole) (arg16 : Memref sig .tc .vmem S2816x1024 .bf16) (harg16 : arg16.IsWhole) (arg17 : Memref sig .tc .vmem S512x1024 .f32) (harg17 : arg17.IsWhole) (arg18 : Memref sig .tc .vmem S512x2816 .bf16) (harg18 : arg18.IsWhole)
    (x0 : Vec Ideal S512x1024 .f32) (x1 : Vec Ideal S512x512 .bf16) (x2 : Vec Ideal S512x512 .bf16) (x3 : Vec Ideal S512x512 .bf16) (x4 : Vec Ideal S512x128 .f32) (x5 : Vec Ideal S512x128 .f32) (x6 : Vec Ideal S512x128 .f32) (x7 : Vec Ideal S512x512 .bf16) (x8 : Vec Ideal S512x2048 .f32) (x9 : Vec Ideal S128x512 .bf16) (x10 : Vec Ideal S512x1024 .bf16) (x11 : Vec Ideal S512x1024 .bf16) (x12 : Vec Ideal S1024x1024 .bf16) (x13 : Vec Ideal S1x1024 .f32) (x14 : Vec Ideal S1024x5632 .bf16) (x15 : Vec Ideal S2816x1024 .bf16)

/-- The residual sum of the grid point, from its blocks. -/
def sumRow (r : Fin 512) : Fin 1024 → EReal :=
  residRow (row x0 r) (gatedRow (row (mixed x4 x5 x6 x9 x1 x2 x3) r) (row x7 r) (row x8 r) (row x10) (row x11)) (row x12)

/-- The result of the grid point, from its blocks. -/
def outRow (r : Fin 512) : Fin 1024 → EReal := ffnRow (sumRow x0 x1 x2 x3 x4 x5 x6 x7 x8 x9 x10 x11 x12 r) (row x13 0) (row x14) (row x15)

theorem x1_row (r : Fin 512) : row (x1Of arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12) r = sumRow x0 x1 x2 x3 x4 x5 x6 x7 x8 x9 x10 x11 x12 r := by
  funext j
  unfold x1Of
  simp only [load_full]
  refine (resid_apply _ _ _ r j).trans (congrArg (fun f => residRow (row x0 r) f (row x12) j) (funext fun k => ?_))
  exact gated_apply _ _ _ _ _ _ (row x8 r) r k
    (fun k => (load_apply arg9 harg9 x8 0 0 inb_S512x2048_S512x1024_0_0 r k (by omega) (by omega)).trans
      (congrArg x8 (congrArg₂ ix2 (Fin.ext (Nat.zero_add _)) (Fin.ext (Nat.zero_add _)))))
    (fun k => (load_apply arg9 harg9 x8 0 1024 inb_S512x2048_S512x1024_0_1024 r k (by omega) (by omega)).trans
      (congrArg x8 (congrArg₂ ix2 (Fin.ext (Nat.zero_add _)) rfl)))

theorem h2_row (r : Fin 512) : row (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) r = normRow (sumRow x0 x1 x2 x3 x4 x5 x6 x7 x8 x9 x10 x11 x12 r) (row x13 0) := by
  funext j
  unfold h2Of
  rw [load_full, ← x1_row arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10 x11 x12 r]
  exact norm_apply _ _ r j

/-- The hidden layer of the grid point. -/
def hid (y : S512x2816.Idx) : EReal := hidden (normRow (sumRow x0 x1 x2 x3 x4 x5 x6 x7 x8 x9 x10 x11 x12 (y 0)) (row x13 0)) (row x14) (y 1)

/-- A chunk is the hidden layer at its columns. -/
theorem piece_eq (n : Fin 11) (h : ∀ a, ![0, 256 * n.val] a + S512x256.size a ≤ S512x2816.size a)
    (h' : ∀ a, ![0, 256 * n.val] a + S1024x256.size a ≤ S1024x5632.size a) (h'' : ∀ a, ![0, 2816 + 256 * n.val] a + S1024x256.size a ≤ S1024x5632.size a)
    (x : (Rect.unit (s := S512x2816) ![0, 256 * n.val] S512x256.size h).shape.Idx) :
    chunk (h2Of arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 x12 x13) (load arg15 (harg15.unread x14) ![0, 256 * n.val] S1024x256.size h') (load arg15 (harg15.unread x14) ![0, 2816 + 256 * n.val] S1024x256.size h'') x
      = hid x0 x1 x2 x3 x4 x5 x6 x7 x8 x9 x10 x11 x12 x13 x14 ((Rect.unit (s := S512x2816) ![0, 256 * n.val] S512x256.size h).emb x) := by
  obtain ⟨r, l, rfl⟩ : ∃ (r : Fin 512) (l : Fin 256), x = ix2 r l := ⟨x 0, x 1, by funext a; fin_cases a <;> rfl⟩
  refine (chunk_apply _ _ _ r l).trans ?_
  rw [h2_row]
  have e0 : ((Rect.unit (s := S512x2816) ![0, 256 * n.val] S512x256.size h).emb (ix2 r l)) 0 = r := Fin.ext (by show 0 + 1 * r.val = r.val; omega)
  have e1 : (((Rect.unit (s := S512x2816) ![0, 256 * n.val] S512x256.size h).emb (ix2 r l)) 1).val = 256 * n.val + l.val := by show 256 * n.val + 1 * l.val = _; omega
  unfold hid hidden
  rw [e0]
  have c1 (k : Fin 1024) : row (load arg15 (harg15.unread x14) ![0, 256 * n.val] S1024x256.size h') k l = row x14 k (fLo (((Rect.unit (s := S512x2816) ![0, 256 * n.val] S512x256.size h).emb (ix2 r l)) 1)) :=
    (load_apply arg15 harg15 x14 0 (256 * n.val) h' k l (by omega) (by omega)).trans
      (congrArg x14 (congrArg₂ ix2 (Fin.ext (Nat.zero_add _)) (Fin.ext e1.symm)))
  have c2 (k : Fin 1024) : row (load arg15 (harg15.unread x14) ![0, 2816 + 256 * n.val] S1024x256.size h'') k l = row x14 k (fHi (((Rect.unit (s := S512x2816) ![0, 256 * n.val] S512x256.size h).emb (ix2 r l)) 1)) :=
    (load_apply arg15 harg15 x14 0 (2816 + 256 * n.val) h'' k l (by omega) (by omega)).trans
      (congrArg x14 (congrArg₂ ix2 (Fin.ext (Nat.zero_add _)) (Fin.ext (by show 2816 + 256 * n.val + l.val = 2816 + _; rw [e1]; omega))))
  unfold mulVec
  simp only [c1, c2]

theorem chunks_agree : ∀ p ∈ chunks arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, ∀ x, p.2 x = hid x0 x1 x2 x3 x4 x5 x6 x7 x8 x9 x10 x11 x12 x13 x14 (p.1.emb x) := by
  intro p hp
  simp only [chunks, List.mem_cons, List.not_mem_nil, or_false] at hp
  rcases hp with rfl | rfl | rfl | rfl | rfl | rfl | rfl | rfl | rfl | rfl | rfl
  · exact piece_eq arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 10 inb_S512x2816_S512x256_0_2560 inb_S1024x5632_S1024x256_0_2560 inb_S1024x5632_S1024x256_0_5376
  · exact piece_eq arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 9 inb_S512x2816_S512x256_0_2304 inb_S1024x5632_S1024x256_0_2304 inb_S1024x5632_S1024x256_0_5120
  · exact piece_eq arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 8 inb_S512x2816_S512x256_0_2048 inb_S1024x5632_S1024x256_0_2048 inb_S1024x5632_S1024x256_0_4864
  · exact piece_eq arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 7 inb_S512x2816_S512x256_0_1792 inb_S1024x5632_S1024x256_0_1792 inb_S1024x5632_S1024x256_0_4608
  · exact piece_eq arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 6 inb_S512x2816_S512x256_0_1536 inb_S1024x5632_S1024x256_0_1536 inb_S1024x5632_S1024x256_0_4352
  · exact piece_eq arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 5 inb_S512x2816_S512x256_0_1280 inb_S1024x5632_S1024x256_0_1280 inb_S1024x5632_S1024x256_0_4096
  · exact piece_eq arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 4 inb_S512x2816_S512x256_0_1024 inb_S1024x5632_S1024x256_0_1024 inb_S1024x5632_S1024x256_0_3840
  · exact piece_eq arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 3 inb_S512x2816_S512x256_0_768 inb_S1024x5632_S1024x256_0_768 inb_S1024x5632_S1024x256_0_3584
  · exact piece_eq arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 2 inb_S512x2816_S512x256_0_512 inb_S1024x5632_S1024x256_0_512 inb_S1024x5632_S1024x256_0_3328
  · exact piece_eq arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 1 inb_S512x2816_S512x256_0_256 inb_S1024x5632_S1024x256_0_256 inb_S1024x5632_S1024x256_0_3072
  · exact piece_eq arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 0 inb_S512x2816_S512x256_0_0 inb_S1024x5632_S1024x256_0_0 inb_S1024x5632_S1024x256_0_2816

theorem chunks_cover (y : S512x2816.Idx) : ∃ p ∈ chunks arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14, y ∈ p.1.set := by
  have h0 : (y 0).val < 512 := (y 0).isLt
  have h1 : (y 1).val < 2816 := (y 1).isLt
  have key (o : ℕ) (inb : ∀ a, ![0, o] a + S512x256.size a ≤ S512x2816.size a) (h : o ≤ (y 1).val) (h' : (y 1).val < o + 256) : y ∈ (Rect.unit (s := S512x2816) ![0, o] S512x256.size inb).set := by
    refine Rect.mem_set_unit.mpr fun a => ?_
    fin_cases a
    · exact ⟨Nat.zero_le _, by show (y 0).val < 0 + 512; omega⟩
    · exact ⟨h, h'⟩
  simp only [chunks, List.mem_cons, List.not_mem_nil, or_false, exists_eq_or_imp, exists_eq_left]
  obtain ⟨n, hn⟩ : ∃ n : Fin 11, (y 1).val / 256 = n.val := ⟨⟨(y 1).val / 256, by omega⟩, rfl⟩
  fin_cases n <;> simp only at hn
  · exact .inr (.inr (.inr (.inr (.inr (.inr (.inr (.inr (.inr (.inr (key 0 _ (by omega) (by omega)))))))))))
  · exact .inr (.inr (.inr (.inr (.inr (.inr (.inr (.inr (.inr (.inl (key 256 _ (by omega) (by omega)))))))))))
  · exact .inr (.inr (.inr (.inr (.inr (.inr (.inr (.inr (.inl (key 512 _ (by omega) (by omega))))))))))
  · exact .inr (.inr (.inr (.inr (.inr (.inr (.inr (.inl (key 768 _ (by omega) (by omega)))))))))
  · exact .inr (.inr (.inr (.inr (.inr (.inr (.inl (key 1024 _ (by omega) (by omega))))))))
  · exact .inr (.inr (.inr (.inr (.inr (.inl (key 1280 _ (by omega) (by omega)))))))
  · exact .inr (.inr (.inr (.inr (.inl (key 1536 _ (by omega) (by omega))))))
  · exact .inr (.inr (.inr (.inl (key 1792 _ (by omega) (by omega)))))
  · exact .inr (.inr (.inl (key 2048 _ (by omega) (by omega))))
  · exact .inr (.inl (key 2304 _ (by omega) (by omega)))
  · exact .inl (key 2560 _ (by omega) (by omega))

/-- What the body leaves in the output block. -/
theorem out_eq (y : S512x1024.Idx) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 x15 y = outRow x0 x1 x2 x3 x4 x5 x6 x7 x8 x9 x10 x11 x12 x13 x14 x15 (y 0) (y 1) := by
  obtain ⟨r, j, rfl⟩ : ∃ (r : Fin 512) (j : Fin 1024), y = ix2 r j := ⟨y 0, y 1, by funext a; fin_cases a <;> rfl⟩
  have hs : arg18.view.readCov (chunks arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) (Rect.unit ![0, 0] S512x2816.size inb_S512x2816_S512x2816_0_0).toLoadRect = hid x0 x1 x2 x3 x4 x5 x6 x7 x8 x9 x10 x11 x12 x13 x14 := by
    rw [View.readCov_eq_canon_ld _ _ _ (chunks_cover arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14)]
    funext z
    refine (View.canon_apply_of_pieces (Val := Elt Ideal) (e := EltTy.bf16) (hid x0 x1 x2 x3 x4 x5 x6 x7 x8 x9 x10 x11 x12 x13 x14) _ (chunks_agree arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14) _ (chunks_cover arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 x10 x11 x12 x13 x14 _)).trans ?_
    exact congrArg (hid x0 x1 x2 x3 x4 x5 x6 x7 x8 x9 x10 x11 x12 x13 x14) (Rect.emb_unit_full _ z)
  rw [out0_A_16, run_out, View.read_writes_full, hs, load_full]
  refine (pay2_apply _ _ _ r j).trans ?_
  rw [x1_row]
  rfl
end

end Cert.Mix

end
-- ==== Proof.MixHost.lean ====
/-
  The arrays the program builds before the projection and feed-forward call: the table that sets a head's weight on its
  64 columns, and the weight matrices without their leading axis of one.
-/
module

public import proofs.«01_k».proof.Proof.Gen.Kernel2Ideal.Value
public import proofs.«01_k».proof.Proof.MixRead

@[expose] public section

set_option maxRecDepth 65536

noncomputable section

namespace Cert.Mix

open Cert.Kernel2Ideal Cert.Kernel2Ideal.Gen Idealize.ShloMosaic Idealize.ShloMosaic.TcCoe Idealize.SL.Sem Cert.Attn

/-- Each column's number. -/
def colNo : IVec S1x512 32 := broadcastInDim S1x512 ![1] bcast_S512_S1x512_1 (iotaInDim S512 32 0)

/-- One number on every column. -/
def all (x : IVec S_ 32) : IVec S1x512 32 := broadcastInDim S1x512 ![] bcast_S_S1x512 x

/-- Each column's number divided by 64, rounded down: the quotient, less one where the signs differ and the division
    leaves a remainder. -/
def headNo : IVec S1x512 32 :=
  select (andi (cmpi .ne (signi colNo) (all (signi (constantI S_ 32 64#32)))) (cmpi .ne (Host.remsi colNo (all (constantI S_ 32 64#32))) (all (constantI S_ 32 0#32))))
    (subi (Host.divsi colNo (all (constantI S_ 32 64#32))) (all (constantI S_ 32 1#32))) (Host.divsi colNo (all (constantI S_ 32 64#32)))

/-- The table of zeros and ones. -/
def table : FVec Ideal S128x512 .bf16 :=
  uitofp .bf16 (cmpi .eq (broadcastInDim S128x512 ![0, 1] bcast_S128x1_S128x512_0_1 (broadcastInDim S128x1 ![0] bcast_S128_S128x1_0 (iotaInDim S128 32 0)))
    (broadcastInDim S128x512 ![0, 1] bcast_S1x512_S128x512_0_1 headNo))

variable (m : (ℓ : Loc nD τ sig) → Buf (Elt Ideal) ℓ) (c : Dev nD)

theorem V_table : V m c main_v8 = table := by
  unfold_abbrev_sides
  simp only [List.flatten_cons, List.flatten_nil, List.append_nil, List.cons_append, List.nil_append]
  after_results
  rfl

theorem V_wo : V m c main_v10 = (truncf .bf16 (shapeCast S512x1024 (m ((c : Thread nD τ).loc main_arg9) : FVec Ideal S1x512x1024 .f32) shapeCasts_S1x512x1024_S512x1024) bitsLt_bf16_f32 : FVec Ideal S512x1024 .bf16) := by
  unfold_abbrev_sides
  simp only [List.flatten_cons, List.flatten_nil, List.append_nil, List.cons_append, List.nil_append]
  after_results
  rfl

theorem V_wpw : V m c main_v12 = (truncf .bf16 (shapeCast S512x1024 (m ((c : Thread nD τ).loc main_arg10) : FVec Ideal S1x512x1024 .f32) shapeCasts_S1x512x1024_S512x1024) bitsLt_bf16_f32 : FVec Ideal S512x1024 .bf16) := by
  unfold_abbrev_sides
  simp only [List.flatten_cons, List.flatten_nil, List.append_nil, List.cons_append, List.nil_append]
  after_results
  rfl

theorem V_wout : V m c main_v14 = (truncf .bf16 (shapeCast S1024x1024 (m ((c : Thread nD τ).loc main_arg11) : FVec Ideal S1x1024x1024 .f32) shapeCasts_S1x1024x1024_S1024x1024) bitsLt_bf16_f32 : FVec Ideal S1024x1024 .bf16) := by
  unfold_abbrev_sides
  simp only [List.flatten_cons, List.flatten_nil, List.append_nil, List.cons_append, List.nil_append]
  after_results
  rfl

theorem V_w1 : V m c main_v18 = (truncf .bf16 (shapeCast S1024x5632 (m ((c : Thread nD τ).loc main_arg13) : FVec Ideal S1x1024x5632 .f32) shapeCasts_S1x1024x5632_S1024x5632) bitsLt_bf16_f32 : FVec Ideal S1024x5632 .bf16) := by
  unfold_abbrev_sides
  simp only [List.flatten_cons, List.flatten_nil, List.append_nil, List.cons_append, List.nil_append]
  after_results
  rfl

theorem V_w2 : V m c main_v20 = (truncf .bf16 (shapeCast S2816x1024 (m ((c : Thread nD τ).loc main_arg14) : FVec Ideal S1x2816x1024 .f32) shapeCasts_S1x2816x1024_S2816x1024) bitsLt_bf16_f32 : FVec Ideal S2816x1024 .bf16) := by
  unfold_abbrev_sides
  simp only [List.flatten_cons, List.flatten_nil, List.append_nil, List.cons_append, List.nil_append]
  after_results
  rfl

theorem V_n2 : V m c main_v16 = (shapeCast S1x1024 (shapeCast S1024 (m ((c : Thread nD τ).loc main_arg12) : FVec Ideal S1x1024 .f32) shapeCasts_S1x1024_S1024) shapeCasts_S1024_S1x1024 : FVec Ideal S1x1024 .f32) := by
  unfold_abbrev_sides
  simp only [List.flatten_cons, List.flatten_nil, List.append_nil, List.cons_append, List.nil_append]
  after_results
  rfl

/-- The one matrix of an array with a leading axis of one. -/
def mat {a b : ℕ} (w : ((⟨3, ![1, a, b]⟩ : Shape)).Idx → EReal) (k : Fin a) (j : Fin b) : EReal := w (ix3 0 k j)

theorem row_S512x1024 (w : FVec Ideal S1x512x1024 .f32) : row (truncf .bf16 (shapeCast S512x1024 w shapeCasts_S1x512x1024_S512x1024) bitsLt_bf16_f32 : FVec Ideal S512x1024 .bf16) = mat w := by
  funext k j
  show (truncf .bf16 (shapeCast S512x1024 w shapeCasts_S1x512x1024_S512x1024) bitsLt_bf16_f32 : FVec Ideal S512x1024 .bf16) (ix2 k j) = w (ix3 0 k j)
  pointwise

theorem row_S1024x1024 (w : FVec Ideal S1x1024x1024 .f32) : row (truncf .bf16 (shapeCast S1024x1024 w shapeCasts_S1x1024x1024_S1024x1024) bitsLt_bf16_f32 : FVec Ideal S1024x1024 .bf16) = mat w := by
  funext k j
  show (truncf .bf16 (shapeCast S1024x1024 w shapeCasts_S1x1024x1024_S1024x1024) bitsLt_bf16_f32 : FVec Ideal S1024x1024 .bf16) (ix2 k j) = w (ix3 0 k j)
  pointwise

theorem row_S1024x5632 (w : FVec Ideal S1x1024x5632 .f32) : row (truncf .bf16 (shapeCast S1024x5632 w shapeCasts_S1x1024x5632_S1024x5632) bitsLt_bf16_f32 : FVec Ideal S1024x5632 .bf16) = mat w := by
  funext k j
  show (truncf .bf16 (shapeCast S1024x5632 w shapeCasts_S1x1024x5632_S1024x5632) bitsLt_bf16_f32 : FVec Ideal S1024x5632 .bf16) (ix2 k j) = w (ix3 0 k j)
  pointwise

theorem row_S2816x1024 (w : FVec Ideal S1x2816x1024 .f32) : row (truncf .bf16 (shapeCast S2816x1024 w shapeCasts_S1x2816x1024_S2816x1024) bitsLt_bf16_f32 : FVec Ideal S2816x1024 .bf16) = mat w := by
  funext k j
  show (truncf .bf16 (shapeCast S2816x1024 w shapeCasts_S1x2816x1024_S2816x1024) bitsLt_bf16_f32 : FVec Ideal S2816x1024 .bf16) (ix2 k j) = w (ix3 0 k j)
  pointwise

theorem row_scale (w : FVec Ideal S1x1024 .f32) : row (shapeCast S1x1024 (shapeCast S1024 w shapeCasts_S1x1024_S1024) shapeCasts_S1024_S1x1024 : FVec Ideal S1x1024 .f32) 0 = row w 0 := by
  funext j
  show (shapeCast S1x1024 (shapeCast S1024 w shapeCasts_S1x1024_S1024) shapeCasts_S1024_S1x1024 : FVec Ideal S1x1024 .f32) (ix2 0 j) = w (ix2 0 j)
  pointwise

theorem headNo_apply (j : Fin 512) : headNo (ix2 0 j) = BitVec.ofNat 32 (j.val / 64) := by
  pointwise [headNo, all, colNo]
  revert j; decide +kernel

theorem isTable : IsTable table := by
  intro l j
  pointwise [table]
  rw [headNo_apply]
  have hl : BitVec.ofNat 32 l.val = BitVec.ofNat 32 (j.val / 64) ↔ l = lane j := by
    rw [← BitVec.toNat_inj, BitVec.toNat_ofNat, BitVec.toNat_ofNat, Nat.mod_eq_of_lt (by omega), Nat.mod_eq_of_lt (by omega), Fin.ext_iff]; rfl
  by_cases h : l = lane j
  · rw [if_pos h]; simp only [IntOp.cmpi, hl.mpr h, beq_self_eq_true]; show ((BitVec.toNat 1#1 : ℝ) : EReal) = 1; simp
  · rw [if_neg h]; simp only [IntOp.cmpi, beq_eq_false_iff_ne.mpr (fun e => h (hl.mp e))]; show ((BitVec.toNat 0#1 : ℝ) : EReal) = 0; simp

end Cert.Mix

end
-- ==== Proof.MixArray.lean ====
/-
  The result array of the projection and feed-forward call, entry by entry: grid point `t` reads 512 rows of each
  activation and the whole of each weight, and writes the same 512 rows of the result.
-/
module

public import proofs.«01_k».proof.Proof.MixBlock
public import proofs.«01_k».proof.Proof.MixHost

@[expose] public section

noncomputable section

namespace Cert.Mix

open Cert.Kernel2Ideal Cert.Kernel2Ideal.Gen Idealize.ShloMosaic Idealize.ShloMosaic.TcCoe Idealize.SL.Sem Cert.Attn

/-- The grid point of a row, and the row's place in the point's block. -/
def pt (i : Fin 16384) : Fin cfg0.N := ⟨i.val / 512, by rw [show cfg0.N = 32 from N_0]; omega⟩
def at' (i : Fin 16384) : Fin 512 := ⟨i.val % 512, by omega⟩

theorem index_rows : ∀ t : Fin grid0.N, (win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_16.index t = ![t.val, 0]) := by decide +kernel

theorem index_whole : ∀ t : Fin grid0.N, (win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0]) := by decide +kernel

/-- An entry of a block of 512 whole rows lies in the array at the point's first row plus the entry's row. -/
theorem rows_idx {n : ℕ} (i : Fin 16384) (j : Fin n) (y : ((⟨2, ![16384, n]⟩ : Shape)).Idx) (h0 : (y 0).val = i.val / 512 * 512 + i.val % 512) (h1 : (y 1).val = 0 * n + j.val) : y = ix2 i j := by
  funext a; refine Fin.ext ?_
  fin_cases a
  · exact h0.trans (by show _ = i.val; omega)
  · exact h1.trans (by show _ = j.val; omega)

/-- A block that is the whole array. -/
theorem whole_idx {a b : ℕ} (x : ((⟨2, ![a, b]⟩ : Shape)).Idx) (y : ((⟨2, ![a, b]⟩ : Shape)).Idx) (h0 : (y 0).val = 0 * a + (x 0).val) (h1 : (y 1).val = 0 * b + (x 1).val) : y = x := by
  funext d; refine Fin.ext ?_
  fin_cases d
  · exact h0.trans (by show _ = (x 0).val; omega)
  · exact h1.trans (by show _ = (x 1).val; omega)

variable (m : (ℓ : Loc nD τ sig) → Buf (Elt Ideal) ℓ) (c : Dev nD)

theorem blk0_row (i : Fin 16384) : row (iblk m c 0 (pt i) : FVec Ideal S512x1024 .f32) (at' i) = row (m ((c : Thread nD τ).loc main_arg0) : FVec Ideal S16384x1024 .f32) i := by
  have h := (index_rows (pt i)).1
  funext j
  refine (congrFun (V_main_arg0 m c) _).trans (congrArg (m ((c : Thread nD τ).loc main_arg0)) (rows_idx i j _ ?_ ?_))
  · exact (Pipeline.Window.rect_emb_val win0_0 (pt i) (ix2 (at' i) j : S512x1024.Idx) 0).trans (by rw [h]; rfl)
  · exact (Pipeline.Window.rect_emb_val win0_0 (pt i) (ix2 (at' i) j : S512x1024.Idx) 1).trans (by rw [h]; rfl)

theorem blk1_row (i : Fin 16384) : row (iblk m c 1 (pt i) : FVec Ideal S512x512 .bf16) (at' i) = row (m ((c : Thread nD τ).loc main_arg1) : FVec Ideal S16384x512 .bf16) i := by
  have h := (index_rows (pt i)).2.1
  funext j
  refine (congrFun (V_main_arg1 m c) _).trans (congrArg (m ((c : Thread nD τ).loc main_arg1)) (rows_idx i j _ ?_ ?_))
  · exact (Pipeline.Window.rect_emb_val win0_1 (pt i) (ix2 (at' i) j : S512x512.Idx) 0).trans (by rw [h]; rfl)
  · exact (Pipeline.Window.rect_emb_val win0_1 (pt i) (ix2 (at' i) j : S512x512.Idx) 1).trans (by rw [h]; rfl)

theorem blk2_row (i : Fin 16384) : row (iblk m c 2 (pt i) : FVec Ideal S512x512 .bf16) (at' i) = row (m ((c : Thread nD τ).loc main_arg2) : FVec Ideal S16384x512 .bf16) i := by
  have h := (index_rows (pt i)).2.2.1
  funext j
  refine (congrFun (V_main_arg2 m c) _).trans (congrArg (m ((c : Thread nD τ).loc main_arg2)) (rows_idx i j _ ?_ ?_))
  · exact (Pipeline.Window.rect_emb_val win0_2 (pt i) (ix2 (at' i) j : S512x512.Idx) 0).trans (by rw [h]; rfl)
  · exact (Pipeline.Window.rect_emb_val win0_2 (pt i) (ix2 (at' i) j : S512x512.Idx) 1).trans (by rw [h]; rfl)

theorem blk3_row (i : Fin 16384) : row (iblk m c 3 (pt i) : FVec Ideal S512x512 .bf16) (at' i) = row (m ((c : Thread nD τ).loc main_arg3) : FVec Ideal S16384x512 .bf16) i := by
  have h := (index_rows (pt i)).2.2.2.1
  funext j
  refine (congrFun (V_main_arg3 m c) _).trans (congrArg (m ((c : Thread nD τ).loc main_arg3)) (rows_idx i j _ ?_ ?_))
  · exact (Pipeline.Window.rect_emb_val win0_3 (pt i) (ix2 (at' i) j : S512x512.Idx) 0).trans (by rw [h]; rfl)
  · exact (Pipeline.Window.rect_emb_val win0_3 (pt i) (ix2 (at' i) j : S512x512.Idx) 1).trans (by rw [h]; rfl)

theorem blk4_row (i : Fin 16384) : row (iblk m c 4 (pt i) : FVec Ideal S512x128 .f32) (at' i) = row (m ((c : Thread nD τ).loc main_arg4) : FVec Ideal S16384x128 .f32) i := by
  have h := (index_rows (pt i)).2.2.2.2.1
  funext j
  refine (congrFun (V_main_arg4 m c) _).trans (congrArg (m ((c : Thread nD τ).loc main_arg4)) (rows_idx i j _ ?_ ?_))
  · exact (Pipeline.Window.rect_emb_val win0_4 (pt i) (ix2 (at' i) j : S512x128.Idx) 0).trans (by rw [h]; rfl)
  · exact (Pipeline.Window.rect_emb_val win0_4 (pt i) (ix2 (at' i) j : S512x128.Idx) 1).trans (by rw [h]; rfl)

theorem blk5_row (i : Fin 16384) : row (iblk m c 5 (pt i) : FVec Ideal S512x128 .f32) (at' i) = row (m ((c : Thread nD τ).loc main_arg5) : FVec Ideal S16384x128 .f32) i := by
  have h := (index_rows (pt i)).2.2.2.2.2.1
  funext j
  refine (congrFun (V_main_arg5 m c) _).trans (congrArg (m ((c : Thread nD τ).loc main_arg5)) (rows_idx i j _ ?_ ?_))
  · exact (Pipeline.Window.rect_emb_val win0_5 (pt i) (ix2 (at' i) j : S512x128.Idx) 0).trans (by rw [h]; rfl)
  · exact (Pipeline.Window.rect_emb_val win0_5 (pt i) (ix2 (at' i) j : S512x128.Idx) 1).trans (by rw [h]; rfl)

theorem blk6_row (i : Fin 16384) : row (iblk m c 6 (pt i) : FVec Ideal S512x128 .f32) (at' i) = row (m ((c : Thread nD τ).loc main_arg6) : FVec Ideal S16384x128 .f32) i := by
  have h := (index_rows (pt i)).2.2.2.2.2.2.1
  funext j
  refine (congrFun (V_main_arg6 m c) _).trans (congrArg (m ((c : Thread nD τ).loc main_arg6)) (rows_idx i j _ ?_ ?_))
  · exact (Pipeline.Window.rect_emb_val win0_6 (pt i) (ix2 (at' i) j : S512x128.Idx) 0).trans (by rw [h]; rfl)
  · exact (Pipeline.Window.rect_emb_val win0_6 (pt i) (ix2 (at' i) j : S512x128.Idx) 1).trans (by rw [h]; rfl)

theorem blk7_row (i : Fin 16384) : row (iblk m c 7 (pt i) : FVec Ideal S512x512 .bf16) (at' i) = row (m ((c : Thread nD τ).loc main_arg7) : FVec Ideal S16384x512 .bf16) i := by
  have h := (index_rows (pt i)).2.2.2.2.2.2.2.1
  funext j
  refine (congrFun (V_main_arg7 m c) _).trans (congrArg (m ((c : Thread nD τ).loc main_arg7)) (rows_idx i j _ ?_ ?_))
  · exact (Pipeline.Window.rect_emb_val win0_7 (pt i) (ix2 (at' i) j : S512x512.Idx) 0).trans (by rw [h]; rfl)
  · exact (Pipeline.Window.rect_emb_val win0_7 (pt i) (ix2 (at' i) j : S512x512.Idx) 1).trans (by rw [h]; rfl)

theorem blk8_row (i : Fin 16384) : row (iblk m c 8 (pt i) : FVec Ideal S512x2048 .f32) (at' i) = row (m ((c : Thread nD τ).loc main_arg8) : FVec Ideal S16384x2048 .f32) i := by
  have h := (index_rows (pt i)).2.2.2.2.2.2.2.2.1
  funext j
  refine (congrFun (V_main_arg8 m c) _).trans (congrArg (m ((c : Thread nD τ).loc main_arg8)) (rows_idx i j _ ?_ ?_))
  · exact (Pipeline.Window.rect_emb_val win0_8 (pt i) (ix2 (at' i) j : S512x2048.Idx) 0).trans (by rw [h]; rfl)
  · exact (Pipeline.Window.rect_emb_val win0_8 (pt i) (ix2 (at' i) j : S512x2048.Idx) 1).trans (by rw [h]; rfl)

theorem blk9_eq (t : Fin cfg0.N) : (iblk m c 9 t : FVec Ideal S128x512 .bf16) = V m c main_v8 := by
  have h := (index_whole t).1
  funext x
  refine congrArg (V m c main_v8) (whole_idx x _ ?_ ?_)
  · exact (Pipeline.Window.rect_emb_val win0_9 t (x : S128x512.Idx) 0).trans (by rw [h]; rfl)
  · exact (Pipeline.Window.rect_emb_val win0_9 t (x : S128x512.Idx) 1).trans (by rw [h]; rfl)

theorem blk10_eq (t : Fin cfg0.N) : (iblk m c 10 t : FVec Ideal S512x1024 .bf16) = V m c main_v10 := by
  have h := (index_whole t).2.1
  funext x
  refine congrArg (V m c main_v10) (whole_idx x _ ?_ ?_)
  · exact (Pipeline.Window.rect_emb_val win0_10 t (x : S512x1024.Idx) 0).trans (by rw [h]; rfl)
  · exact (Pipeline.Window.rect_emb_val win0_10 t (x : S512x1024.Idx) 1).trans (by rw [h]; rfl)

theorem blk11_eq (t : Fin cfg0.N) : (iblk m c 11 t : FVec Ideal S512x1024 .bf16) = V m c main_v12 := by
  have h := (index_whole t).2.2.1
  funext x
  refine congrArg (V m c main_v12) (whole_idx x _ ?_ ?_)
  · exact (Pipeline.Window.rect_emb_val win0_11 t (x : S512x1024.Idx) 0).trans (by rw [h]; rfl)
  · exact (Pipeline.Window.rect_emb_val win0_11 t (x : S512x1024.Idx) 1).trans (by rw [h]; rfl)

theorem blk12_eq (t : Fin cfg0.N) : (iblk m c 12 t : FVec Ideal S1024x1024 .bf16) = V m c main_v14 := by
  have h := (index_whole t).2.2.2.1
  funext x
  refine congrArg (V m c main_v14) (whole_idx x _ ?_ ?_)
  · exact (Pipeline.Window.rect_emb_val win0_12 t (x : S1024x1024.Idx) 0).trans (by rw [h]; rfl)
  · exact (Pipeline.Window.rect_emb_val win0_12 t (x : S1024x1024.Idx) 1).trans (by rw [h]; rfl)

theorem blk13_eq (t : Fin cfg0.N) : (iblk m c 13 t : FVec Ideal S1x1024 .f32) = V m c main_v16 := by
  have h := (index_whole t).2.2.2.2.1
  funext x
  refine congrArg (V m c main_v16) (whole_idx x _ ?_ ?_)
  · exact (Pipeline.Window.rect_emb_val win0_13 t (x : S1x1024.Idx) 0).trans (by rw [h]; rfl)
  · exact (Pipeline.Window.rect_emb_val win0_13 t (x : S1x1024.Idx) 1).trans (by rw [h]; rfl)

theorem blk14_eq (t : Fin cfg0.N) : (iblk m c 14 t : FVec Ideal S1024x5632 .bf16) = V m c main_v18 := by
  have h := (index_whole t).2.2.2.2.2.1
  funext x
  refine congrArg (V m c main_v18) (whole_idx x _ ?_ ?_)
  · exact (Pipeline.Window.rect_emb_val win0_14 t (x : S1024x5632.Idx) 0).trans (by rw [h]; rfl)
  · exact (Pipeline.Window.rect_emb_val win0_14 t (x : S1024x5632.Idx) 1).trans (by rw [h]; rfl)

theorem blk15_eq (t : Fin cfg0.N) : (iblk m c 15 t : FVec Ideal S2816x1024 .bf16) = V m c main_v20 := by
  have h := (index_whole t).2.2.2.2.2.2
  funext x
  refine congrArg (V m c main_v20) (whole_idx x _ ?_ ?_)
  · exact (Pipeline.Window.rect_emb_val win0_15 t (x : S2816x1024.Idx) 0).trans (by rw [h]; rfl)
  · exact (Pipeline.Window.rect_emb_val win0_15 t (x : S2816x1024.Idx) 1).trans (by rw [h]; rfl)

/-- The log-sums of the heads of row `i` are finite. -/
def FinLanes (i : Fin 16384) (l : FVec Ideal S16384x128 .f32) : Prop := ∀ j : Fin 512, IsFin (row l i (lane j))

/-- The call's result at row `i`, from its arguments. -/
def resRow (i : Fin 16384) : Fin 1024 → EReal :=
  layerRow (row (m ((c : Thread nD τ).loc main_arg0) : FVec Ideal S16384x1024 .f32) i)
    (attnRow (row (m ((c : Thread nD τ).loc main_arg1) : FVec Ideal S16384x512 .bf16) i) (row (m ((c : Thread nD τ).loc main_arg2) : FVec Ideal S16384x512 .bf16) i) (row (m ((c : Thread nD τ).loc main_arg3) : FVec Ideal S16384x512 .bf16) i)
      (row (m ((c : Thread nD τ).loc main_arg4) : FVec Ideal S16384x128 .f32) i) (row (m ((c : Thread nD τ).loc main_arg5) : FVec Ideal S16384x128 .f32) i) (row (m ((c : Thread nD τ).loc main_arg6) : FVec Ideal S16384x128 .f32) i))
    (row (m ((c : Thread nD τ).loc main_arg7) : FVec Ideal S16384x512 .bf16) i) (row (m ((c : Thread nD τ).loc main_arg8) : FVec Ideal S16384x2048 .f32) i)
    (mat (m ((c : Thread nD τ).loc main_arg9) : FVec Ideal S1x512x1024 .f32)) (mat (m ((c : Thread nD τ).loc main_arg10) : FVec Ideal S1x512x1024 .f32)) (mat (m ((c : Thread nD τ).loc main_arg11) : FVec Ideal S1x1024x1024 .f32))
    (row (m ((c : Thread nD τ).loc main_arg12) : FVec Ideal S1x1024 .f32) 0) (mat (m ((c : Thread nD τ).loc main_arg13) : FVec Ideal S1x1024x5632 .f32)) (mat (m ((c : Thread nD τ).loc main_arg14) : FVec Ideal S1x2816x1024 .f32))

theorem arr16_apply (i : Fin 16384) (j : Fin 1024) (h0 : FinLanes i (m ((c : Thread nD τ).loc main_arg4) : FVec Ideal S16384x128 .f32))
    (h1 : FinLanes i (m ((c : Thread nD τ).loc main_arg5) : FVec Ideal S16384x128 .f32)) (h2 : FinLanes i (m ((c : Thread nD τ).loc main_arg6) : FVec Ideal S16384x128 .f32)) :
    ((dats m 0 c).arrAt 16 cfg0.N : FVec Ideal S16384x1024 .f32) (ix2 i j) = resRow m c i j := by
  have hx : ((cfg0.win 16).blk (pt i)).view.emb (ix2 (at' i) j : S512x1024.Idx) = (ix2 i j : S16384x1024.Idx) := by
    have h := (index_rows (pt i)).2.2.2.2.2.2.2.2.2
    refine rows_idx i j _ ?_ ?_
    · exact (Pipeline.Window.rect_emb_val win0_16 (pt i) (ix2 (at' i) j : S512x1024.Idx) 0).trans (by rw [h]; rfl)
    · exact (Pipeline.Window.rect_emb_val win0_16 (pt i) (ix2 (at' i) j : S512x1024.Idx) 1).trans (by rw [h]; rfl)
  rw [← hx]
  refine (congrFun (Value.blocks16 m c (pt i) (flush0_16 (pt i))) (ix2 (at' i) j : S512x1024.Idx)).trans ?_
  rw [Value.flushed16_A]
  refine (out_eq _ _ _ _ _ _ _ _ _ _ _ _ _ _ _ _ _ _ _ _ _ _ _ _ _ _ _ _ _ _ _ _ _ _ _ _ _ _ _ _ _ _ _ _ _ _ _ _ _ _ _ _ _ _ (ix2 (at' i) j : S512x1024.Idx)).trans ?_
  have hm : row (mixed (iblk m c 4 (pt i)) (iblk m c 5 (pt i)) (iblk m c 6 (pt i)) (iblk m c 9 (pt i)) (iblk m c 1 (pt i)) (iblk m c 2 (pt i)) (iblk m c 3 (pt i))) (at' i)
      = attnRow (row (m ((c : Thread nD τ).loc main_arg1) : FVec Ideal S16384x512 .bf16) i) (row (m ((c : Thread nD τ).loc main_arg2) : FVec Ideal S16384x512 .bf16) i) (row (m ((c : Thread nD τ).loc main_arg3) : FVec Ideal S16384x512 .bf16) i)
      (row (m ((c : Thread nD τ).loc main_arg4) : FVec Ideal S16384x128 .f32) i) (row (m ((c : Thread nD τ).loc main_arg5) : FVec Ideal S16384x128 .f32) i) (row (m ((c : Thread nD τ).loc main_arg6) : FVec Ideal S16384x128 .f32) i) := by
    funext k
    refine (mixed_apply _ _ _ _ ?_ _ _ _ (at' i) k ?_ ?_ ?_).trans ?_
    · rw [blk9_eq, V_table]; exact isTable
    · exact (congrArg IsFin (congrFun (blk4_row m c i) (lane k))).mpr (h0 k)
    · exact (congrArg IsFin (congrFun (blk5_row m c i) (lane k))).mpr (h1 k)
    · exact (congrArg IsFin (congrFun (blk6_row m c i) (lane k))).mpr (h2 k)
    · rw [blk1_row, blk2_row, blk3_row, blk4_row, blk5_row, blk6_row]
  show outRow _ _ _ _ _ _ _ _ _ _ _ _ _ _ _ _ (at' i) j = _
  unfold outRow sumRow
  rw [hm, blk0_row, blk7_row, blk8_row, blk10_eq, V_wo, blk11_eq, V_wpw, blk12_eq, V_wout, blk13_eq, V_n2, blk14_eq, V_w1, blk15_eq, V_w2]
  rw [row_S512x1024, row_S512x1024, row_S1024x1024, row_S1024x5632, row_S2816x1024, row_scale]
  rfl

end Cert.Mix

end
-- ==== Proof.MixRef.lean ====
/-
  The reference's own steps, named, and each read at an index: the three log-sums and the three outputs stacked, the
  shares, the weighted sum, the gated projections, the residual sum, the normalised rows, the feed-forward.
-/
module

public import proofs.«01_k».proof.Proof.MixRead
public import proofs.«01_k».proof.Proof.MixHost
public import proofs.«01_k».proof.Proof.Gen.Reference2Ideal.Run
public import Idealize.ShloMosaic.Lib.Pointwise
public import Idealize.ShloMosaic.Lib.Tactic

@[expose] public section

noncomputable section

namespace Cert.Mix.Ref

open Cert.Reference2Ideal Cert.Reference2Ideal.Gen Idealize.ShloMosaic Idealize.ShloMosaic.TcCoe

/-- The heads' log-sums of one group, with a leading axis. -/
def lanes (l : FVec Ideal S16384x128 .f32) : FVec Ideal S1x16384x8 .f32 :=
  broadcastInDim S1x16384x8 ![1, 2] bcast_S16384x8_S1x16384x8_1_2 (extractStridedSlice S16384x8 ![0, 0] l slices_S16384x128_S16384x8_0_0)

/-- The three groups' log-sums. -/
def lses (l0 l1 l2 : FVec Ideal S16384x128 .f32) : FVec Ideal S3x16384x8 .f32 :=
  concatenate S3x16384x8 0 [⟨S1x16384x8, lanes l0⟩, ⟨S1x16384x8, lanes l1⟩, ⟨S1x16384x8, lanes l2⟩] concatenates_S1x16384x8_S1x16384x8_S1x16384x8_S3x16384x8_d0

/-- One group's outputs by head, with a leading axis. -/
def byHead (o : FVec Ideal S16384x512 .bf16) : FVec Ideal S1x16384x8x64 .f32 :=
  broadcastInDim S1x16384x8x64 ![1, 2, 3] bcast_S16384x8x64_S1x16384x8x64_1_2_3 (shapeCast _ (extf .f32 o bitsLt_bf16_f32) shapeCasts_S16384x512_S16384x8x64)

/-- The three groups' outputs. -/
def outs (o0 o1 o2 : FVec Ideal S16384x512 .bf16) : FVec Ideal S3x16384x8x64 .f32 :=
  concatenate S3x16384x8x64 0 [⟨S1x16384x8x64, byHead o0⟩, ⟨S1x16384x8x64, byHead o1⟩, ⟨S1x16384x8x64, byHead o2⟩] concatenates_S1x16384x8x64_S1x16384x8x64_S1x16384x8x64_S3x16384x8x64_d0

/-- The largest of the three log-sums. -/
def most (l : FVec Ideal S3x16384x8 .f32) : FVec Ideal S16384x8 .f32 :=
  maximumf (broadcastInDim S16384x8 ![] bcast_S_S16384x8 (constant S_ .f32 0xFF800000#32)) (Host.reduce FloatOps.maximumf l (constant S_ .f32 0xFF800000#32) reducesTo_S3x16384x8_S16384x8_d0 h_S_)

/-- A number per head given to each group. -/
def toGroups (x : FVec Ideal S16384x8 .f32) : FVec Ideal S3x16384x8 .f32 :=
  broadcastInDim S3x16384x8 ![0, 1, 2] bcast_S1x16384x8_S3x16384x8_0_1_2 (broadcastInDim S1x16384x8 ![1, 2] bcast_S16384x8_S1x16384x8_1_2 x)

def exps (l : FVec Ideal S3x16384x8 .f32) : FVec Ideal S3x16384x8 .f32 := Host.exp (subf l (toGroups (most l)))

def total (e : FVec Ideal S3x16384x8 .f32) : FVec Ideal S16384x8 .f32 := Host.reduceAdd e (constant S_ .f32 0x00000000#32) reducesTo_S3x16384x8_S16384x8_d0 h_S_

/-- Each group's share. -/
def shares (l : FVec Ideal S3x16384x8 .f32) : FVec Ideal S3x16384x8 .f32 := Host.divf (exps l) (toGroups (total (exps l)))

/-- The outputs weighted by the shares. -/
def weighted (l : FVec Ideal S3x16384x8 .f32) (o : FVec Ideal S3x16384x8x64 .f32) : FVec Ideal S3x16384x8x64 .f32 :=
  mulf (broadcastInDim S3x16384x8x64 ![0, 1, 2, 3] bcast_S3x16384x8x1_S3x16384x8x64_0_1_2_3 (broadcastInDim S3x16384x8x1 ![0, 1, 2] bcast_S3x16384x8_S3x16384x8x1_0_1_2 (shares l))) o

/-- The attention of each query over the three groups. -/
def mixed (l : FVec Ideal S3x16384x8 .f32) (o : FVec Ideal S3x16384x8x64 .f32) : FVec Ideal S16384x512 .f32 :=
  shapeCast _ (Host.reduceAdd (weighted l o) (constant S_ .f32 0x00000000#32) reducesTo_S3x16384x8x64_S16384x8x64_d0 h_S_) shapeCasts_S16384x8x64_S16384x512

/-- The two branches projected, each times its gates, and summed. -/
def gated (a : FVec Ideal S16384x512 .f32) (u : FVec Ideal S16384x512 .bf16) (g : FVec Ideal S16384x2048 .f32) (wo wpw : FVec Ideal S1x512x1024 .f32) : FVec Ideal S16384x1024 .f32 :=
  addf (mulf (extractStridedSlice S16384x1024 ![0, 0] g slices_S16384x2048_S16384x1024_0_0) (Host.dotGeneral dot_S16384x512_S512x1024_S16384x1024_1_0_0_1_n_n none a (shapeCast _ wo shapeCasts_S1x512x1024_S512x1024)))
    (mulf (extractStridedSlice S16384x1024 ![0, 1024] g slices_S16384x2048_S16384x1024_0_1024) (Host.dotGeneral dot_S16384x512_S512x1024_S16384x1024_1_0_0_1_n_n none (extf .f32 u bitsLt_bf16_f32) (shapeCast _ wpw shapeCasts_S1x512x1024_S512x1024)))

/-- The layer's input plus the projected branches. -/
def resid (x f : FVec Ideal S16384x1024 .f32) (w : FVec Ideal S1x1024x1024 .f32) : FVec Ideal S16384x1024 .f32 :=
  addf x (Host.dotGeneral dot_S16384x1024_S1024x1024_S16384x1024_1_0_0_1_n_n none f (shapeCast _ w shapeCasts_S1x1024x1024_S1024x1024))

/-- Each row's sum of squares. -/
def sumSq (x : FVec Ideal S16384x1024 .f32) : FVec Ideal S16384 .f32 := Host.reduceAdd (mulf x x) (constant S_ .f32 0x00000000#32) reducesTo_S16384x1024_S16384_d1 h_S_

/-- The normalised rows. -/
def norm (x : FVec Ideal S16384x1024 .f32) (n : FVec Ideal S1x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (sumSq x)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast _ n shapeCasts_S1x1024_S1024)))

/-- The feed-forward's first product. -/
def wide (h : FVec Ideal S16384x1024 .f32) (w : FVec Ideal S1x1024x5632 .f32) : FVec Ideal S16384x5632 .f32 :=
  Host.dotGeneral dot_S16384x1024_S1024x5632_S16384x5632_1_0_0_1_n_n none h (shapeCast _ w shapeCasts_S1x1024x5632_S1024x5632)

/-- The hidden layer. -/
def hidden (y : FVec Ideal S16384x5632 .f32) : FVec Ideal S16384x2816 .f32 :=
  mulf (mulf (extractStridedSlice S16384x2816 ![0, 0] y slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] y slices_S16384x5632_S16384x2816_0_0))))))
    (extractStridedSlice S16384x2816 ![0, 2816] y slices_S16384x5632_S16384x2816_0_2816)

/-- The layer's result. -/
def result (x : FVec Ideal S16384x1024 .f32) (a : FVec Ideal S16384x2816 .f32) (w : FVec Ideal S1x2816x1024 .f32) : FVec Ideal S16384x1024 .f32 :=
  addf x (Host.dotGeneral dot_S16384x2816_S2816x1024_S16384x1024_1_0_0_1_n_n none a (shapeCast _ w shapeCasts_S1x2816x1024_S2816x1024))

theorem res_out (m : (ℓ : Loc nD τ sig) → Buf (Elt Ideal) ℓ) (c : Dev nD) :
    Value.res_out0 m c =
      (let x1 := resid (m ((c.tc : Thread nD τ).loc main_arg0)) (gated (mixed (lses (m ((c.tc : Thread nD τ).loc main_arg4)) (m ((c.tc : Thread nD τ).loc main_arg5)) (m ((c.tc : Thread nD τ).loc main_arg6))) (outs (m ((c.tc : Thread nD τ).loc main_arg1)) (m ((c.tc : Thread nD τ).loc main_arg2)) (m ((c.tc : Thread nD τ).loc main_arg3)))) (m ((c.tc : Thread nD τ).loc main_arg7)) (m ((c.tc : Thread nD τ).loc main_arg8)) (m ((c.tc : Thread nD τ).loc main_arg9)) (m ((c.tc : Thread nD τ).loc main_arg10))) (m ((c.tc : Thread nD τ).loc main_arg11))
      result x1 (hidden (wide (norm x1 (m ((c.tc : Thread nD τ).loc main_arg12))) (m ((c.tc : Thread nD τ).loc main_arg13)))) (m ((c.tc : Thread nD τ).loc main_arg14))) := rfl

/-- One of three, by group. -/
def pick {α : Type} (a b c : α) (g : Fin 3) : α := ![a, b, c] g

/-- The head and the coordinate that a column is. -/
def hd (j : Fin 512) : Fin 8 := ⟨j.val / 64, by omega⟩
def co (j : Fin 512) : Fin 64 := ⟨j.val % 64, by omega⟩

/-- The lane of a head. -/
def ln (h : Fin 8) : Fin 128 := ⟨h.val, by omega⟩

section
variable (i : Fin 16384) (h : Fin 8)

theorem lanes_apply (l : FVec Ideal S16384x128 .f32) : lanes l (ix3 0 i h) = l (ix2 i (ln h)) := by
  pointwise [lanes]
  rfl

theorem lses_apply (l0 l1 l2 : FVec Ideal S16384x128 .f32) (g : Fin 3) : lses l0 l1 l2 (ix3 g i h) = pick (l0 (ix2 i (ln h))) (l1 (ix2 i (ln h))) (l2 (ix2 i (ln h))) g := by
  pointwise [lses]
  fin_cases g
  · exact lanes_apply i h l0
  · exact lanes_apply i h l1
  · exact lanes_apply i h l2

theorem byHead_apply (o : FVec Ideal S16384x512 .bf16) (d : Fin 64) (j : Fin 512) (hj : j.val = 64 * h.val + d.val) : byHead o (ix4 0 i h d) = o (ix2 i j) := by
  pointwise [byHead]
  exact congrArg o (congrArg (ix2 i) (Fin.ext (by dsimp only; omega)))

theorem outs_apply (o0 o1 o2 : FVec Ideal S16384x512 .bf16) (g : Fin 3) (j : Fin 512) :
    outs o0 o1 o2 (ix4 g i (hd j) (co j)) = pick (o0 (ix2 i j)) (o1 (ix2 i j)) (o2 (ix2 i j)) g := by
  pointwise [outs]
  have hj : j.val = 64 * (hd j).val + (co j).val := by simp only [hd, co]; omega
  fin_cases g
  · exact byHead_apply i (hd j) o0 (co j) j hj
  · exact byHead_apply i (hd j) o1 (co j) j hj
  · exact byHead_apply i (hd j) o2 (co j) j hj

theorem fold_three (f : Fin 3 → EReal) : max ⊥ (Finset.univ.fold max ⊥ f) = max (max (f 0) (f 1)) (f 2) := by
  have hu : (Finset.univ : Finset (Fin 3)) = {0, 1, 2} := by decide
  rw [hu, Finset.fold_insert (by decide), Finset.fold_insert (by decide), Finset.fold_singleton, max_eq_right bot_le, max_eq_left (a := f 2) bot_le, max_assoc]

theorem most_apply (l : FVec Ideal S3x16384x8 .f32) : most l (ix2 i h) = max (max (l (ix3 0 i h)) (l (ix3 1 i h))) (l (ix3 2 i h)) := by
  pointwise [most]
  rw [show Ideal.ofBits .f32 4286578688#32 = (⊥ : EReal) from by simp [Ideal.ofBits, Ideal.ieee]]
  exact fold_three fun g => l (ix3 g i h)

theorem toGroups_apply (x : FVec Ideal S16384x8 .f32) (g : Fin 3) : toGroups x (ix3 g i h) = x (ix2 i h) := by
  pointwise [toGroups]

theorem exps_apply (l : FVec Ideal S3x16384x8 .f32) (g : Fin 3) : exps l (ix3 g i h) = Ideal.exp (l (ix3 g i h) - most l (ix2 i h)) := by
  pointwise [exps]
  rw [toGroups_apply]

theorem total_apply (e : FVec Ideal S3x16384x8 .f32) : total e (ix2 i h) = e (ix3 0 i h) + e (ix3 1 i h) + e (ix3 2 i h) := by
  pointwise [total]

  exact Fin.sum_univ_three fun g => e (ix3 g i h)

theorem shares_apply (l : FVec Ideal S3x16384x8 .f32) (g : Fin 3) :
    shares l (ix3 g i h) = share (l (ix3 g i h)) (l (ix3 0 i h)) (l (ix3 1 i h)) (l (ix3 2 i h)) := by
  pointwise [shares]
  rw [toGroups_apply, total_apply]
  simp only [exps_apply, most_apply]
  rfl

theorem weighted_apply (l : FVec Ideal S3x16384x8 .f32) (o : FVec Ideal S3x16384x8x64 .f32) (g : Fin 3) (d : Fin 64) :
    weighted l o (ix4 g i h d) = shares l (ix3 g i h) * o (ix4 g i h d) := by
  pointwise [weighted]

theorem mixed_apply (l0 l1 l2 : FVec Ideal S16384x128 .f32) (o0 o1 o2 : FVec Ideal S16384x512 .bf16) :
    row (mixed (lses l0 l1 l2) (outs o0 o1 o2)) i = attnRow (row o0 i) (row o1 i) (row o2 i) (row l0 i) (row l1 i) (row l2 i) := by
  funext j
  show mixed (lses l0 l1 l2) (outs o0 o1 o2) (ix2 i j) = _
  pointwise [mixed]
  refine (Finset.sum_congr rfl fun g _ => (weighted_apply i (hd j) (lses l0 l1 l2) (outs o0 o1 o2) g (co j)).trans
    (congrArg₂ (· * ·) (shares_apply i (hd j) _ g) (outs_apply i o0 o1 o2 g j))).trans ?_
  rw [Fin.sum_univ_three]
  simp only [lses_apply]
  rfl

theorem gated_apply (a : FVec Ideal S16384x512 .f32) (u : FVec Ideal S16384x512 .bf16) (g : FVec Ideal S16384x2048 .f32) (wo wpw : FVec Ideal S1x512x1024 .f32) :
    row (gated a u g wo wpw) i = gatedRow (row a i) (row u i) (row g i) (mat wo) (mat wpw) := by
  funext k
  show gated a u g wo wpw (ix2 i k) = _
  pointwise [gated]
  rfl

theorem resid_apply (x f : FVec Ideal S16384x1024 .f32) (w : FVec Ideal S1x1024x1024 .f32) : row (resid x f w) i = residRow (row x i) (row f i) (mat w) := by
  funext j
  show resid x f w (ix2 i j) = _
  pointwise [resid]
  rfl

theorem norm_apply (x : FVec Ideal S16384x1024 .f32) (n : FVec Ideal S1x1024 .f32) : row (norm x n) i = normRow (row x i) (row n 0) := by
  funext j
  show norm x n (ix2 i j) = _
  pointwise [norm, sumSq]
  rfl

theorem wide_apply (x : FVec Ideal S16384x1024 .f32) (w : FVec Ideal S1x1024x5632 .f32) (k : Fin 5632) : wide x w (ix2 i k) = mulVec (row x i) (mat w) k := by
  pointwise [wide]
  rfl

theorem hidden_apply (y : FVec Ideal S16384x5632 .f32) (n : Fin 2816) :
    hidden y (ix2 i n) = y (ix2 i (fLo n)) * Ideal.logistic (y (ix2 i (fLo n))) * y (ix2 i (fHi n)) := by
  pointwise [hidden]
  rfl

theorem result_apply (x : FVec Ideal S16384x1024 .f32) (a : FVec Ideal S16384x2816 .f32) (w : FVec Ideal S1x2816x1024 .f32) (j : Fin 1024) :
    result x a w (ix2 i j) = row x i j + mulVec (row a i) (mat w) j := by
  pointwise [result]
  rfl

/-- The reference's result at an index, from its arguments. -/
theorem res_apply (m' : (ℓ : Loc nD τ sig) → Buf (Elt Ideal) ℓ) (c : Dev nD) (j : Fin 1024) :
    (Value.res_out0 m' c : FVec Ideal S16384x1024 .f32) (ix2 i j) = layerRow (row (m' ((c.tc : Thread nD τ).loc main_arg0) : FVec Ideal S16384x1024 .f32) i) (attnRow (row (m' ((c.tc : Thread nD τ).loc main_arg1) : FVec Ideal S16384x512 .bf16) i) (row (m' ((c.tc : Thread nD τ).loc main_arg2) : FVec Ideal S16384x512 .bf16) i) (row (m' ((c.tc : Thread nD τ).loc main_arg3) : FVec Ideal S16384x512 .bf16) i) (row (m' ((c.tc : Thread nD τ).loc main_arg4) : FVec Ideal S16384x128 .f32) i) (row (m' ((c.tc : Thread nD τ).loc main_arg5) : FVec Ideal S16384x128 .f32) i) (row (m' ((c.tc : Thread nD τ).loc main_arg6) : FVec Ideal S16384x128 .f32) i)) (row (m' ((c.tc : Thread nD τ).loc main_arg7) : FVec Ideal S16384x512 .bf16) i) (row (m' ((c.tc : Thread nD τ).loc main_arg8) : FVec Ideal S16384x2048 .f32) i)
      (mat (m' ((c.tc : Thread nD τ).loc main_arg9) : FVec Ideal S1x512x1024 .f32)) (mat (m' ((c.tc : Thread nD τ).loc main_arg10) : FVec Ideal S1x512x1024 .f32)) (mat (m' ((c.tc : Thread nD τ).loc main_arg11) : FVec Ideal S1x1024x1024 .f32)) (row (m' ((c.tc : Thread nD τ).loc main_arg12) : FVec Ideal S1x1024 .f32) 0) (mat (m' ((c.tc : Thread nD τ).loc main_arg13) : FVec Ideal S1x1024x5632 .f32)) (mat (m' ((c.tc : Thread nD τ).loc main_arg14) : FVec Ideal S1x2816x1024 .f32)) j := by
  rw [res_out]
  refine (result_apply i _ _ _ j).trans ?_
  rw [show ∀ x w n, row (hidden (wide (norm x n) w)) i = Mix.hidden (normRow (row x i) (row n 0)) (mat w) from fun x w n => funext fun k => by
    refine (hidden_apply i _ k).trans ?_
    rw [wide_apply, wide_apply, norm_apply]; rfl]
  rw [resid_apply, gated_apply, mixed_apply]
  rfl

end

theorem res_eq (m' : (ℓ : Loc nD τ sig) → Buf (Elt Ideal) ℓ) (c : Dev nD) :
    (Value.res_out0 m' c : FVec Ideal S16384x1024 .f32) = fun i => layerRow (row (m' ((c.tc : Thread nD τ).loc main_arg0) : FVec Ideal S16384x1024 .f32) (i 0)) (attnRow (row (m' ((c.tc : Thread nD τ).loc main_arg1) : FVec Ideal S16384x512 .bf16) (i 0)) (row (m' ((c.tc : Thread nD τ).loc main_arg2) : FVec Ideal S16384x512 .bf16) (i 0)) (row (m' ((c.tc : Thread nD τ).loc main_arg3) : FVec Ideal S16384x512 .bf16) (i 0)) (row (m' ((c.tc : Thread nD τ).loc main_arg4) : FVec Ideal S16384x128 .f32) (i 0)) (row (m' ((c.tc : Thread nD τ).loc main_arg5) : FVec Ideal S16384x128 .f32) (i 0)) (row (m' ((c.tc : Thread nD τ).loc main_arg6) : FVec Ideal S16384x128 .f32) (i 0))) (row (m' ((c.tc : Thread nD τ).loc main_arg7) : FVec Ideal S16384x512 .bf16) (i 0)) (row (m' ((c.tc : Thread nD τ).loc main_arg8) : FVec Ideal S16384x2048 .f32) (i 0))
      (mat (m' ((c.tc : Thread nD τ).loc main_arg9) : FVec Ideal S1x512x1024 .f32)) (mat (m' ((c.tc : Thread nD τ).loc main_arg10) : FVec Ideal S1x512x1024 .f32)) (mat (m' ((c.tc : Thread nD τ).loc main_arg11) : FVec Ideal S1x1024x1024 .f32)) (row (m' ((c.tc : Thread nD τ).loc main_arg12) : FVec Ideal S1x1024 .f32) 0) (mat (m' ((c.tc : Thread nD τ).loc main_arg13) : FVec Ideal S1x1024x5632 .f32)) (mat (m' ((c.tc : Thread nD τ).loc main_arg14) : FVec Ideal S1x2816x1024 .f32)) (i 1) := by
  funext i
  obtain ⟨p, j, rfl⟩ : ∃ (p : Fin 16384) (j : Fin 1024), i = ix2 p j := ⟨i 0, i 1, by funext a; fin_cases a <;> rfl⟩
  exact res_apply p m' c j

end Cert.Mix.Ref

end
-- ==== Proof.MixEq.lean ====
/- The feed-forward call and its reference agree where the log-sums of the eight heads are finite. -/
module

public import proofs.«01_k».proof.Proof.MixArray
public import proofs.«01_k».proof.Proof.MixRef
public import proofs.«01_k».proof.Proof.AttnEq
public import proofs.«01_k».proof.Pre_finite_lse
public import proofs.«01_k».proof.Defs

@[expose] public section

noncomputable section

namespace Cert.Mix

open Idealize.ShloMosaic Idealize.ShloMosaic.TcCoe Idealize.SL.Sem Cert.Attn

theorem preFacts : Cert.Pre_finite_lse.Facts := ⟨by decide, by decide⟩

theorem three_true : ∀ a b c : Bool, IntOp.andi (IntOp.andi (BitVec.ofBool a) (BitVec.ofBool b)) (BitVec.ofBool c) = 1#1 → a = true ∧ b = true ∧ c = true := by decide

section
open Cert.Kernel2Ideal

/-- What the precondition says: the log-sums of the heads are finite. -/
theorem finite_lanes (a0 : FVec Ideal S16384x1024 .f32) (a1 a2 a3 : FVec Ideal S16384x512 .bf16) (l0 l1 l2 : FVec Ideal S16384x128 .f32) (a7 : FVec Ideal S16384x512 .bf16)
    (a8 : FVec Ideal S16384x2048 .f32) (a9 a10 : FVec Ideal S1x512x1024 .f32) (a11 : FVec Ideal S1x1024x1024 .f32) (a12 : FVec Ideal S1x1024 .f32)
    (a13 : FVec Ideal S1x1024x5632 .f32) (a14 : FVec Ideal S1x2816x1024 .f32)
    (h : letI := preFacts; Cert.Pre_finite_lse.fn (F := Ideal) a0 a1 a2 a3 l0 l1 l2 a7 a8 a9 a10 a11 a12 a13 a14 = fun _ => 1#1) (i : Fin 16384) :
    FinLanes i l0 ∧ FinLanes i l1 ∧ FinLanes i l2 := by
  have key : ∀ j : Fin 512, IsFin (l0 (ix2 i (lane j))) ∧ IsFin (l1 (ix2 i (lane j))) ∧ IsFin (l2 (ix2 i (lane j))) := fun j => by
    have hi := congrFun h (ix2 i (⟨j.val / 64, by omega⟩ : Fin 8))
    pointwise [Cert.Pre_finite_lse.fn] at hi
    rw [show Ideal.ofBits .f32 2139095040#32 = (⊤ : EReal) from by simp [Ideal.ofBits, Ideal.ieee]] at hi
    replace hi : IntOp.andi (IntOp.andi (BitVec.ofBool (decide (max (l0 (ix2 i (lane j))) (-(l0 (ix2 i (lane j)))) < (⊤ : EReal)))) (BitVec.ofBool (decide (max (l1 (ix2 i (lane j))) (-(l1 (ix2 i (lane j)))) < (⊤ : EReal)))))
      (BitVec.ofBool (decide (max (l2 (ix2 i (lane j))) (-(l2 (ix2 i (lane j)))) < (⊤ : EReal)))) = 1#1 := hi
    obtain ⟨h1, h2, h3⟩ := three_true _ _ _ hi
    exact ⟨Cert.Attn.isFin_of_abs _ (of_decide_eq_true h1), Cert.Attn.isFin_of_abs _ (of_decide_eq_true h2), Cert.Attn.isFin_of_abs _ (of_decide_eq_true h3)⟩
  exact ⟨fun j => (key j).1, fun j => (key j).2.1, fun j => (key j).2.2⟩

/-- The common result. -/
def resArr (m : (ℓ : Loc nD τ sig) → Buf (Elt Ideal) ℓ) (c : Dev nD) : FVec Ideal S16384x1024 .f32 := fun i => resRow m c (i 0) (i 1)

theorem arr16_eq (m : (ℓ : Loc nD τ sig) → Buf (Elt Ideal) ℓ) (c : Dev nD)
    (h : ∀ i, FinLanes i (m ((c : Thread nD τ).loc main_arg4) : FVec Ideal S16384x128 .f32) ∧ FinLanes i (m ((c : Thread nD τ).loc main_arg5) : FVec Ideal S16384x128 .f32) ∧
      FinLanes i (m ((c : Thread nD τ).loc main_arg6) : FVec Ideal S16384x128 .f32)) :
    ((Gen.dats m 0 c).arrAt 16 cfg0.N : FVec Ideal S16384x1024 .f32) = resArr m c := by
  funext i
  obtain ⟨p, j, rfl⟩ : ∃ (p : Fin 16384) (j : Fin 1024), i = ix2 p j := ⟨i 0, i 1, by funext a; fin_cases a <;> rfl⟩
  exact arr16_apply m c p j (h p).1 (h p).2.1 (h p).2.2
end

end Cert.Mix

end
-- ==== Proof.ProjTile.lean ====
/-
  The arithmetic of one grid point of the input projection: a block of two heads normalised, turned and scaled.
-/
module

public import proofs.«01_k».proof.Proof.Gen.Kernel3Ideal.Skeleton
public import Idealize.ShloMosaic.Lib.Pointwise

@[expose] public section

noncomputable section

namespace Cert.Proj

open Cert.Kernel3Ideal Cert.Kernel3Ideal.Gen Idealize.ShloMosaic

/-- Each lane over the root of its head's mean square, times the learned scale; the squares are summed over the head by
    a product with a table of zeros and ones, in two parts: their rounding and the rest. -/
def headNorm (e : FVec Ideal S128x128 .bf16) (n : FVec Ideal S1x128 .f32) (t : FVec Ideal S512x128 .f32) : FVec Ideal S512x128 .f32 :=
  mulf (mulf t (rsqrt (addf (mulf (addf
    (matmul dot_S512x128_S128x128_S512x128_1_0_0_1_n_n none (truncf .bf16 (mulf t t) bitsLt_bf16_f32) e (constant S512x128 .f32 0x00000000#32))
    (matmul dot_S512x128_S128x128_S512x128_1_0_0_1_n_n none (truncf .bf16 (subf (mulf t t) (extf .f32 (truncf .bf16 (mulf t t) bitsLt_bf16_f32) bitsLt_bf16_f32)) bitsLt_bf16_f32) e (constant S512x128 .f32 0x00000000#32)))
    (broadcast S512x128 (Scalar.ofBits (F := Ideal) .f32 0x3C800000#32))) (broadcast S512x128 (Scalar.ofBits (F := Ideal) .f32 0x358637BD#32)))))
    (broadcastTo S512x128 n broadcasts_S1x128_S512x128)

/-- The lanes turned by the tables of cosines and signed sines, and scaled. -/
def turned (c a b y : FVec Ideal S512x128 .f32) (sc : BitVec 32) : FVec Ideal S512x128 .bf16 :=
  truncf .bf16 (mulf (addf (addf (mulf y c) (mulf (dynamicRotate 1 120#32 none y rotates_S512x128_d1) a)) (mulf (dynamicRotate 1 8#32 none y rotates_S512x128_d1) b))
    (broadcast S512x128 (Scalar.ofBits (F := Ideal) .f32 sc))) bitsLt_bf16_f32

/-- Two heads of one product, from the tables as loaded. -/
def headTile (c a b : FVec Ideal S512x128 .f32) (e : FVec Ideal S128x128 .bf16) (n : FVec Ideal S1x128 .f32) (t : FVec Ideal S512x128 .f32) (sc : BitVec 32) : FVec Ideal S512x128 .bf16 :=
  turned (k0_pay4 c) (k0_pay5 a) (k0_pay6 b) (headNorm (k0_pay7 e) (k0_pay8 n) t) sc

/-- The values' product, rounded. -/
def valTile (h : FVec Ideal S512x1024 .bf16) (w : FVec Ideal S1024x512 .bf16) : FVec Ideal S512x512 .bf16 := truncf .bf16 (k0_pay9 h w) bitsLt_bf16_f32

/-- The convolution's input: one product times the logistic of another. -/
def convTile (h : FVec Ideal S512x1024 .bf16) (w w' : FVec Ideal S1024x512 .bf16) : FVec Ideal S512x512 .f32 := mulf (k0_pay9 h w) (logistic (k0_pay9 h w'))

end Cert.Proj

end
-- ==== Proof.ProjRun.lean ====
/-
  What one grid point of the input projection stores: the twelve blocks of two heads of the queries and of the keys,
  the values, the convolution's input and the gates.
-/
module

public import proofs.«01_k».proof.Proof.Gen.Kernel3Ideal.Value
public import proofs.«01_k».proof.Proof.ProjTile
public import Idealize.ShloMosaic.Lib.VecWindow

@[expose] public section

set_option maxRecDepth 65536

noncomputable section

namespace Cert.Proj

open Cert.Kernel3Ideal Cert.Kernel3Ideal.Gen Idealize.ShloMosaic

/-- A load of a rectangle of a buffer. -/
abbrev load {s : Shape} {φ : EltTy} (m : Memref sig .tc .vmem s φ) (X : BufTy.Contents (Elt Ideal) m.view.ty) (o size : Fin s.rank → Nat) (h : ∀ a, o a + size a ≤ s.size a) :=
  View.readAt (Elt Ideal) m.view (Rect.unit (s := s) o size h).toLoadRect X

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7680 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x2048 .f32) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x1536 .bf16) (harg13 : arg13.IsWhole) (arg14 : Memref sig .tc .vmem S512x512 .f32) (harg14 : arg14.IsWhole) (arg15 : Memref sig .tc .vmem S512x2048 .f32) (harg15 : arg15.IsWhole) (arg16 : Memref sig .tc .vmem S512x1024 .bf16) (harg16 : arg16.IsWhole)
    (x0 : Vec Ideal S512x1024 .f32) (x1 : Vec Ideal S1x1024 .f32) (x2 : Vec Ideal S1024x7680 .bf16) (x3 : Vec Ideal S512x128 .f32) (x4 : Vec Ideal S512x128 .f32) (x5 : Vec Ideal S512x128 .f32) (x6 : Vec Ideal S1x128 .f32) (x7 : Vec Ideal S1x128 .f32) (x8 : Vec Ideal S128x128 .bf16) (x9 : Vec Ideal S1x2048 .f32)

/-- The normalised rows, as the scratch gives them back. -/
def hOf : FVec Ideal S512x1024 .bf16 :=
  arg16.view.readCov (Val := Elt Ideal) [⟨Rect.unit ![0, 0] S512x1024.size inb_S512x1024_S512x1024_0_0, k0_pay3 (load arg1 (harg1.unread x0) ![0, 0] S512x1024.size inb_S512x1024_S512x1024_0_0) (load arg2 (harg2.unread x1) ![0, 0] S1x1024.size inb_S1x1024_S1x1024_0_0)⟩] (Rect.unit ![0, 0] S512x1024.size inb_S512x1024_S512x1024_0_0).toLoadRect

/-- 512 columns of the input weights. -/
def wOf (o : ℕ) (h : ∀ a, ![0, o] a + S1024x512.size a ≤ S1024x7680.size a) : FVec Ideal S1024x512 .bf16 := load arg3 (harg3.unread x2) ![0, o] S1024x512.size h

/-- Two heads of the queries or of the keys: columns `s` to `s + 127` of the product with the weights' columns from `o`. -/
def headPiece (argN : Memref sig .tc .vmem S1x128 .f32) (hargN : argN.IsWhole) (xN : Vec Ideal S1x128 .f32) (sc : BitVec 32) (o s : ℕ) (h : ∀ a, ![0, o] a + S1024x512.size a ≤ S1024x7680.size a) (hs : S512x512.Slices ![0, s] S512x128) : FVec Ideal S512x128 .bf16 :=
  headTile (load arg4 (harg4.unread x3) ![0, 0] S512x128.size inb_S512x128_S512x128_0_0) (load arg5 (harg5.unread x4) ![0, 0] S512x128.size inb_S512x128_S512x128_0_0) (load arg6 (harg6.unread x5) ![0, 0] S512x128.size inb_S512x128_S512x128_0_0)
    (load arg9 (harg9.unread x8) ![0, 0] S128x128.size inb_S128x128_S128x128_0_0) (load argN (hargN.unread xN) ![0, 0] S1x128.size inb_S1x128_S1x128_0_0) (extractStridedSlice S512x128 ![0, s] (k0_pay9 (hOf arg1 harg1 arg2 harg2 arg16 x0 x1) (wOf arg3 harg3 x2 o h)) hs) sc

/-- The twelve blocks of the queries or of the keys, last first: from column `base` of the weights. -/
def headPieces (argN : Memref sig .tc .vmem S1x128 .f32) (hargN : argN.IsWhole) (xN : Vec Ideal S1x128 .f32) (sc : BitVec 32) (base : ℕ) (h : ∀ j : Fin 3, ∀ a, ![0, base + 512 * j.val] a + S1024x512.size a ≤ S1024x7680.size a) : List (View.Piece (Elt Ideal) S512x1536 .bf16) :=
  [⟨Rect.unit ![0, 1408] S512x128.size inb_S512x1536_S512x128_0_1408, headPiece arg1 harg1 arg2 harg2 arg3 harg3 arg4 harg4 arg5 harg5 arg6 harg6 arg9 harg9 arg16 x0 x1 x2 x3 x4 x5 x8 argN hargN xN sc (base + 512 * 2) 384 (h 2) slices_S512x512_o0_384_S512x128⟩,
   ⟨Rect.unit ![0, 1280] S512x128.size inb_S512x1536_S512x128_0_1280, headPiece arg1 harg1 arg2 harg2 arg3 harg3 arg4 harg4 arg5 harg5 arg6 harg6 arg9 harg9 arg16 x0 x1 x2 x3 x4 x5 x8 argN hargN xN sc (base + 512 * 2) 256 (h 2) slices_S512x512_o0_256_S512x128⟩,
   ⟨Rect.unit ![0, 1152] S512x128.size inb_S512x1536_S512x128_0_1152, headPiece arg1 harg1 arg2 harg2 arg3 harg3 arg4 harg4 arg5 harg5 arg6 harg6 arg9 harg9 arg16 x0 x1 x2 x3 x4 x5 x8 argN hargN xN sc (base + 512 * 2) 128 (h 2) slices_S512x512_o0_128_S512x128⟩,
   ⟨Rect.unit ![0, 1024] S512x128.size inb_S512x1536_S512x128_0_1024, headPiece arg1 harg1 arg2 harg2 arg3 harg3 arg4 harg4 arg5 harg5 arg6 harg6 arg9 harg9 arg16 x0 x1 x2 x3 x4 x5 x8 argN hargN xN sc (base + 512 * 2) 0 (h 2) slices_S512x512_o0_0_S512x128⟩,
   ⟨Rect.unit ![0, 896] S512x128.size inb_S512x1536_S512x128_0_896, headPiece arg1 harg1 arg2 harg2 arg3 harg3 arg4 harg4 arg5 harg5 arg6 harg6 arg9 harg9 arg16 x0 x1 x2 x3 x4 x5 x8 argN hargN xN sc (base + 512 * 1) 384 (h 1) slices_S512x512_o0_384_S512x128⟩,
   ⟨Rect.unit ![0, 768] S512x128.size inb_S512x1536_S512x128_0_768, headPiece arg1 harg1 arg2 harg2 arg3 harg3 arg4 harg4 arg5 harg5 arg6 harg6 arg9 harg9 arg16 x0 x1 x2 x3 x4 x5 x8 argN hargN xN sc (base + 512 * 1) 256 (h 1) slices_S512x512_o0_256_S512x128⟩,
   ⟨Rect.unit ![0, 640] S512x128.size inb_S512x1536_S512x128_0_640, headPiece arg1 harg1 arg2 harg2 arg3 harg3 arg4 harg4 arg5 harg5 arg6 harg6 arg9 harg9 arg16 x0 x1 x2 x3 x4 x5 x8 argN hargN xN sc (base + 512 * 1) 128 (h 1) slices_S512x512_o0_128_S512x128⟩,
   ⟨Rect.unit ![0, 512] S512x128.size inb_S512x1536_S512x128_0_512, headPiece arg1 harg1 arg2 harg2 arg3 harg3 arg4 harg4 arg5 harg5 arg6 harg6 arg9 harg9 arg16 x0 x1 x2 x3 x4 x5 x8 argN hargN xN sc (base + 512 * 1) 0 (h 1) slices_S512x512_o0_0_S512x128⟩,
   ⟨Rect.unit ![0, 384] S512x128.size inb_S512x1536_S512x128_0_384, headPiece arg1 harg1 arg2 harg2 arg3 harg3 arg4 harg4 arg5 harg5 arg6 harg6 arg9 harg9 arg16 x0 x1 x2 x3 x4 x5 x8 argN hargN xN sc (base + 512 * 0) 384 (h 0) slices_S512x512_o0_384_S512x128⟩,
   ⟨Rect.unit ![0, 256] S512x128.size inb_S512x1536_S512x128_0_256, headPiece arg1 harg1 arg2 harg2 arg3 harg3 arg4 harg4 arg5 harg5 arg6 harg6 arg9 harg9 arg16 x0 x1 x2 x3 x4 x5 x8 argN hargN xN sc (base + 512 * 0) 256 (h 0) slices_S512x512_o0_256_S512x128⟩,
   ⟨Rect.unit ![0, 128] S512x128.size inb_S512x1536_S512x128_0_128, headPiece arg1 harg1 arg2 harg2 arg3 harg3 arg4 harg4 arg5 harg5 arg6 harg6 arg9 harg9 arg16 x0 x1 x2 x3 x4 x5 x8 argN hargN xN sc (base + 512 * 0) 128 (h 0) slices_S512x512_o0_128_S512x128⟩,
   ⟨Rect.unit ![0, 0] S512x128.size inb_S512x1536_S512x128_0_0, headPiece arg1 harg1 arg2 harg2 arg3 harg3 arg4 harg4 arg5 harg5 arg6 harg6 arg9 harg9 arg16 x0 x1 x2 x3 x4 x5 x8 argN hargN xN sc (base + 512 * 0) 0 (h 0) slices_S512x512_o0_0_S512x128⟩]

/-- The three blocks of the values, last first. -/
def valPieces : List (View.Piece (Elt Ideal) S512x1536 .bf16) :=
  [⟨Rect.unit ![0, 1024] S512x512.size inb_S512x1536_S512x512_0_1024, valTile (hOf arg1 harg1 arg2 harg2 arg16 x0 x1) (wOf arg3 harg3 x2 4096 inb_S1024x7680_S1024x512_0_4096)⟩,
   ⟨Rect.unit ![0, 512] S512x512.size inb_S512x1536_S512x512_0_512, valTile (hOf arg1 harg1 arg2 harg2 arg16 x0 x1) (wOf arg3 harg3 x2 3584 inb_S1024x7680_S1024x512_0_3584)⟩,
   ⟨Rect.unit ![0, 0] S512x512.size inb_S512x1536_S512x512_0_0, valTile (hOf arg1 harg1 arg2 harg2 arg16 x0 x1) (wOf arg3 harg3 x2 3072 inb_S1024x7680_S1024x512_0_3072)⟩]

/-- The one block of the convolution's input. -/
def convPieces : List (View.Piece (Elt Ideal) S512x512 .f32) :=
  [⟨Rect.unit ![0, 0] S512x512.size inb_S512x512_S512x512_0_0, convTile (hOf arg1 harg1 arg2 harg2 arg16 x0 x1) (wOf arg3 harg3 x2 4608 inb_S1024x7680_S1024x512_0_4608) (wOf arg3 harg3 x2 5120 inb_S1024x7680_S1024x512_0_5120)⟩]

/-- The four blocks of the gates, last first. -/
def gatePieces : List (View.Piece (Elt Ideal) S512x2048 .f32) :=
  [⟨Rect.unit ![0, 1536] S512x512.size inb_S512x2048_S512x512_0_1536, k0_pay2 (hOf arg1 harg1 arg2 harg2 arg16 x0 x1) (wOf arg3 harg3 x2 7168 inb_S1024x7680_S1024x512_0_7168) (load arg10 (harg10.unread x9) ![0, 1536] S1x512.size inb_S1x2048_S1x512_0_1536)⟩,
   ⟨Rect.unit ![0, 1024] S512x512.size inb_S512x2048_S512x512_0_1024, k0_pay2 (hOf arg1 harg1 arg2 harg2 arg16 x0 x1) (wOf arg3 harg3 x2 6656 inb_S1024x7680_S1024x512_0_6656) (load arg10 (harg10.unread x9) ![0, 1024] S1x512.size inb_S1x2048_S1x512_0_1024)⟩,
   ⟨Rect.unit ![0, 512] S512x512.size inb_S512x2048_S512x512_0_512, k0_pay2 (hOf arg1 harg1 arg2 harg2 arg16 x0 x1) (wOf arg3 harg3 x2 6144 inb_S1024x7680_S1024x512_0_6144) (load arg10 (harg10.unread x9) ![0, 512] S1x512.size inb_S1x2048_S1x512_0_512)⟩,
   ⟨Rect.unit ![0, 0] S512x512.size inb_S512x2048_S512x512_0_0, k0_pay2 (hOf arg1 harg1 arg2 harg2 arg16 x0 x1) (wOf arg3 harg3 x2 5632 inb_S1024x7680_S1024x512_0_5632) (load arg10 (harg10.unread x9) ![0, 0] S1x512.size inb_S1x2048_S1x512_0_0)⟩]

theorem keyCols : ∀ j : Fin 3, ∀ a, ![0, 1536 + 512 * j.val] a + S1024x512.size a ≤ S1024x7680.size a := by decide
theorem queryCols : ∀ j : Fin 3, ∀ a, ![0, 0 + 512 * j.val] a + S1024x512.size a ≤ S1024x7680.size a := by decide

theorem run_q : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).1 = headPieces arg1 harg1 arg2 harg2 arg3 harg3 arg4 harg4 arg5 harg5 arg6 harg6 arg9 harg9 arg16 x0 x1 x2 x3 x4 x5 x8 arg7 harg7 x6 0x3E000000#32 0 queryCols := by
  unfold kernelRun0_A
  dsimp only
  sl_unfold_run_names
  rfl

theorem run_k : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.1 = headPieces arg1 harg1 arg2 harg2 arg3 harg3 arg4 harg4 arg5 harg5 arg6 harg6 arg9 harg9 arg16 x0 x1 x2 x3 x4 x5 x8 arg8 harg8 x7 0x3F800000#32 1536 keyCols := by
  unfold kernelRun0_A
  dsimp only
  sl_unfold_run_names
  rfl

theorem run_v : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.2.1 = valPieces arg1 harg1 arg2 harg2 arg3 harg3 arg16 x0 x1 x2 := by
  unfold kernelRun0_A
  dsimp only
  sl_unfold_run_names
  rfl

theorem run_u : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.2.2.1 = convPieces arg1 harg1 arg2 harg2 arg3 harg3 arg16 x0 x1 x2 := by
  unfold kernelRun0_A
  dsimp only
  sl_unfold_run_names
  rfl

theorem run_g : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9).2.2.2.2.1 = gatePieces arg1 harg1 arg2 harg2 arg3 harg3 arg10 harg10 arg16 x0 x1 x2 x9 := by
  unfold kernelRun0_A
  dsimp only
  sl_unfold_run_names
  rfl

end

end Cert.Proj

end
-- ==== Proof.ProjMath.lean ====
/-
  One row of the input projection: a head of 64 lanes over the root of its mean square, and its first sixteen lanes
  turned by the row's angles; and the facts about lanes that the proof rests on.
-/
module

public import proofs.«01_k».proof.Proof.MixMath
public import Idealize.ShloMosaic.Lib.Pointwise

@[expose] public section

noncomputable section

namespace Cert.Proj

open Idealize.ShloMosaic Cert.Attn

/-- Row `k` of an array. -/
def row {a b : ℕ} (w : ((⟨2, ![a, b]⟩ : Shape)).Idx → EReal) (k : Fin a) (j : Fin b) : EReal := w (ix2 k j)

/-- A head over the root of its mean square, times the learned scale. -/
def headRow (t n : Fin 64 → EReal) (d : Fin 64) : EReal :=
  t d * Ideal.rsqrt (Ideal.div (∑ e, t e * t e) (Ideal.ofBits .f32 0x42800000#32) + Ideal.ofBits .f32 0x358637BD#32) * n d

/-- Lanes 0 to 7 and 8 to 15 of a head turned by the angles, the rest kept. -/
def rope (cs sn : Fin 8 → EReal) (y : Fin 64 → EReal) (d : Fin 64) : EReal :=
  if h : d.val < 8 then y d * cs ⟨d.val, h⟩ - y ⟨d.val + 8, by omega⟩ * sn ⟨d.val, h⟩
  else if h' : d.val < 16 then y d * cs ⟨d.val - 8, by omega⟩ + y ⟨d.val - 8, by omega⟩ * sn ⟨d.val - 8, by omega⟩
  else y d

/-- A lane's place in its head, and the lanes of a lane's head. -/
def place (l : Fin 128) : Fin 64 := ⟨l.val % 64, by omega⟩
def headLane (l : Fin 128) (d : Fin 64) : Fin 128 := ⟨l.val / 64 * 64 + d.val, by omega⟩

/-- The tables of cosines and signed sines over two heads' lanes. -/
def cosLane (cs : Fin 8 → EReal) (d : Fin 64) : EReal :=
  if h : d.val < 8 then cs ⟨d.val, h⟩ else if h' : d.val < 16 then cs ⟨d.val - 8, by omega⟩ else 1
def saLane (sn : Fin 8 → EReal) (d : Fin 64) : EReal := if h : d.val < 8 then -sn ⟨d.val, h⟩ else 0
def sbLane (sn : Fin 8 → EReal) (d : Fin 64) : EReal :=
  if d.val < 8 then 0 else if h' : d.val < 16 then sn ⟨d.val - 8, by omega⟩ else 0

/-- The lane eight further on, and the lane eight back, around the end. -/
def fwd (l : Fin 128) : Fin 128 := ⟨(l.val + 128 - 120) % 128, by omega⟩
def back (l : Fin 128) : Fin 128 := ⟨(l.val + 128 - 8) % 128, by omega⟩

theorem headLane_place (l : Fin 128) : headLane l (place l) = l := Fin.ext (by show l.val / 64 * 64 + l.val % 64 = l.val; omega)

theorem rope_lane (cs sn : Fin 8 → EReal) (y : Fin 128 → EReal) (l : Fin 128) :
    y l * cosLane cs (place l) + y (fwd l) * saLane sn (place l) + y (back l) * sbLane sn (place l) = rope cs sn (fun d => y (headLane l d)) (place l) := by
  have hp : (place l).val = l.val % 64 := rfl
  unfold cosLane saLane sbLane rope
  by_cases h : (place l).val < 8
  · have e : fwd l = headLane l ⟨(place l).val + 8, by omega⟩ :=
      Fin.ext (by show (l.val + 128 - 120) % 128 = l.val / 64 * 64 + (l.val % 64 + 8); omega)
    rw [dif_pos h, dif_pos h, if_pos h, dif_pos h, mul_zero, add_zero, mul_neg, ← sub_eq_add_neg, e]
    dsimp only; rw [headLane_place]
  · by_cases h' : (place l).val < 16
    · have e : back l = headLane l ⟨(place l).val - 8, by omega⟩ :=
        Fin.ext (by show (l.val + 128 - 8) % 128 = l.val / 64 * 64 + (l.val % 64 - 8); omega)
      rw [dif_neg h, dif_pos h', dif_neg h, if_neg h, dif_pos h', dif_neg h, dif_pos h', mul_zero, add_zero, e]
      dsimp only; rw [headLane_place]
    · rw [dif_neg h, dif_neg h', dif_neg h, if_neg h, dif_neg h', dif_neg h, dif_neg h', mul_zero, mul_zero, add_zero, add_zero, mul_one]
      dsimp only; rw [headLane_place]

/-- A sum over all lanes with the other head's set to zero is the sum over the head. -/
theorem sum_head (a : Fin 128 → EReal) (l : Fin 128) : ∑ k, a k * (if k.val / 64 = l.val / 64 then 1 else 0) = ∑ d, a (headLane l d) := by
  simp only [mul_ite, mul_one, mul_zero]
  rw [← Finset.sum_filter]
  refine Finset.sum_nbij' place (headLane l) (fun _ _ => Finset.mem_univ _) (fun d _ => ?_) (fun k hk => ?_) (fun d _ => ?_) (fun k hk => ?_)
  · exact Finset.mem_filter.mpr ⟨Finset.mem_univ _, by show (l.val / 64 * 64 + d.val) / 64 = _; omega⟩
  · have := (Finset.mem_filter.mp hk).2
    exact Fin.ext (by show l.val / 64 * 64 + k.val % 64 = k.val; omega)
  · exact Fin.ext (by show (l.val / 64 * 64 + d.val) % 64 = d.val; omega)
  · have := (Finset.mem_filter.mp hk).2
    exact congrArg a (Fin.ext (by show k.val = l.val / 64 * 64 + k.val % 64; omega))

theorem div_64 (x : EReal) : Ideal.div x (Ideal.ofBits .f32 0x42800000#32) = x * Ideal.ofBits .f32 0x3C800000#32 := by
  have h : Ideal.ofBits .f32 0x42800000#32 = ((64 : ℝ) : EReal) := by simp [Ideal.ofBits, Ideal.ieee]; rw [← EReal.coe_mul]; norm_num
  have h' : Ideal.ofBits .f32 0x3C800000#32 = ((64⁻¹ : ℝ) : EReal) := by simp [Ideal.ofBits, Ideal.ieee]; rw [← EReal.coe_mul]; norm_num
  rw [h, h', Ideal.div, if_neg (by simp), EReal.coe_inv]

theorem one_f32 : Ideal.ofBits .f32 0x3F800000#32 = 1 := by simp [Ideal.ofBits, Ideal.ieee]; rw [← EReal.coe_mul]; norm_num

/-- The head's mean square as two products with the table of zeros and ones, of the rounded squares and of the rest. -/
theorem meanSq_head (t : Fin 128 → EReal) (ht : ∀ k, IsFin (t k)) (l : Fin 128) :
    (∑ k, t k * t k * (if k.val / 64 = l.val / 64 then 1 else 0) + ∑ k, (t k * t k - t k * t k) * (if k.val / 64 = l.val / 64 then 1 else 0)) * Ideal.ofBits .f32 0x3C800000#32
      = Ideal.div (∑ d, t (headLane l d) * t (headLane l d)) (Ideal.ofBits .f32 0x42800000#32) := by
  have hz : ∀ k, t k * t k - t k * t k = 0 := fun k => Mix.sub_self_fin ((ht k).mul (ht k))
  simp only [hz, zero_mul, Finset.sum_const_zero, add_zero]
  rw [sum_head (fun k => t k * t k), div_64]

/-- A column's place in its head, and the columns of a column's head. -/
def placeOf (j : Fin 1536) : Fin 64 := ⟨j.val % 64, by omega⟩
def colOf (j : Fin 1536) (d : Fin 64) : Fin 1536 := ⟨j.val / 64 * 64 + d.val, by omega⟩

/-- A row of queries or keys from the projected columns: each head normalised, turned and scaled. -/
def headsRow (p : Fin 1536 → EReal) (w : Fin 64 → EReal) (cs sn : Fin 8 → EReal) (sc : BitVec 32) (j : Fin 1536) : EReal :=
  rope cs sn (headRow (fun d => p (colOf j d)) w) (placeOf j) * Ideal.ofBits .f32 sc

/-- The columns of the input projection from `b` on. -/
def from' {n : ℕ} (b : ℕ) (h : b + n ≤ 7680) (j : Fin n) : Fin 7680 := ⟨b + j.val, by omega⟩

/-- A row of the input projection. -/
def projRow (x n : Fin 1024 → EReal) (w : Fin 1024 → Fin 7680 → EReal) (j : Fin 7680) : EReal := Mix.mulVec (Mix.normRow x n) w j

/-- A row of the convolution's input. -/
def convRow (p : Fin 7680 → EReal) (j : Fin 512) : EReal := p (from' 4608 (by omega) j) * Ideal.logistic (p (from' 5120 (by omega) j))

/-- A row of the gates. -/
def gateRow (p : Fin 7680 → EReal) (b : Fin 2048 → EReal) (j : Fin 2048) : EReal := Ideal.logistic (p (from' 5632 (by omega) j) + b j)

end Cert.Proj

end
-- ==== Proof.ProjRead.lean ====
/-
  The stages of one grid point of the input projection read at an index.
-/
module

public import proofs.«01_k».proof.Proof.ProjTile
public import proofs.«01_k».proof.Proof.ProjMath
public import Idealize.ShloMosaic.Lib.Pointwise
public import Idealize.ShloMosaic.Lib.Tactic
public import Idealize.ShloMosaic.Lib.KernelVsHost

@[expose] public section

noncomputable section

namespace Cert.Proj

open Cert.Kernel3Ideal Cert.Kernel3Ideal.Gen Idealize.ShloMosaic Cert.Attn
open Cert.Mix (mulVec normRow)

/-- The table of zeros and ones that sums a head's lanes. -/
def IsTable (e : FVec Ideal S128x128 .bf16) : Prop := ∀ k l : Fin 128, e (ix2 k l) = if k.val / 64 = l.val / 64 then 1 else 0

theorem prod_apply (h : FVec Ideal S512x1024 .bf16) (w : FVec Ideal S1024x512 .bf16) (r j : Fin 512) : k0_pay9 (F := Ideal) h w (ix2 r j) = mulVec (row h r) (row w) j := by
  pointwise [k0_pay9]
  rfl

theorem val_apply (h : FVec Ideal S512x1024 .bf16) (w : FVec Ideal S1024x512 .bf16) (r j : Fin 512) : valTile h w (ix2 r j) = mulVec (row h r) (row w) j :=
  prod_apply h w r j

theorem conv_apply (h : FVec Ideal S512x1024 .bf16) (w w' : FVec Ideal S1024x512 .bf16) (r j : Fin 512) :
    convTile h w w' (ix2 r j) = mulVec (row h r) (row w) j * Ideal.logistic (mulVec (row h r) (row w') j) := by
  pointwise [convTile]
  exact congrArg₂ (fun a b => a * Ideal.logistic b) (prod_apply h w r j) (prod_apply h w' r j)

theorem gate_apply (h : FVec Ideal S512x1024 .bf16) (w : FVec Ideal S1024x512 .bf16) (b : FVec Ideal S1x512 .f32) (r j : Fin 512) :
    k0_pay2 (F := Ideal) h w b (ix2 r j) = Ideal.logistic (mulVec (row h r) (row w) j + b (ix2 0 j)) := by
  pointwise [k0_pay2]
  rfl

theorem norm_apply (x : FVec Ideal S512x1024 .f32) (n : FVec Ideal S1x1024 .f32) (r : Fin 512) (j : Fin 1024) :
    k0_pay3 (F := Ideal) x n (ix2 r j) = normRow (row x r) (row n 0) j := by
  pointwise [k0_pay3]
  rfl

theorem headNorm_apply (e : FVec Ideal S128x128 .bf16) (he : IsTable e) (n : FVec Ideal S1x128 .f32) (w : Fin 64 → EReal) (hn : ∀ l, n (ix2 0 l) = w (place l))
    (t : FVec Ideal S512x128 .f32) (r : Fin 512) (ht : ∀ k, IsFin (t (ix2 r k))) (l : Fin 128) :
    headNorm e n t (ix2 r l) = headRow (fun d => t (ix2 r (headLane l d))) w (place l) := by
  pointwise [headNorm]
  simp only [he _ l]
  have hm := meanSq_head (fun k => t (ix2 r k)) ht l
  unfold headRow
  dsimp only
  rw [headLane_place, hn, ← hm]

theorem turned_apply (c a b y : FVec Ideal S512x128 .f32) (sc : BitVec 32) (r : Fin 512) (l : Fin 128) :
    turned c a b y sc (ix2 r l) = (y (ix2 r l) * c (ix2 r l) + y (ix2 r (fwd l)) * a (ix2 r l) + y (ix2 r (back l)) * b (ix2 r l)) * Ideal.ofBits .f32 sc := by
  have h1 : dynamicRotate 1 120#32 none y rotates_S512x128_d1 (ix2 r l) = y (ix2 r (fwd l)) :=
    dynamicRotate_apply _ _ _ _ _ _ fun d => by fin_cases d <;> rfl
  have h2 : dynamicRotate 1 8#32 none y rotates_S512x128_d1 (ix2 r l) = y (ix2 r (back l)) :=
    dynamicRotate_apply _ _ _ _ _ _ fun d => by fin_cases d <;> rfl
  show (y (ix2 r l) * c (ix2 r l) + dynamicRotate 1 120#32 none y rotates_S512x128_d1 (ix2 r l) * a (ix2 r l) + dynamicRotate 1 8#32 none y rotates_S512x128_d1 (ix2 r l) * b (ix2 r l)) * Ideal.ofBits .f32 sc = _
  rw [h1, h2]

theorem pay4_apply (x : FVec Ideal S512x128 .f32) (r : Fin 512) (l : Fin 128) : k0_pay4 (F := Ideal) x (ix2 r l) = x (ix2 r l) := by
  pointwise [k0_pay4]
theorem pay7_apply (x : FVec Ideal S128x128 .bf16) (r l : Fin 128) : k0_pay7 (F := Ideal) x (ix2 r l) = x (ix2 r l) := by
  pointwise [k0_pay7]
theorem pay8_apply (x : FVec Ideal S1x128 .f32) (l : Fin 128) : k0_pay8 (F := Ideal) x (ix2 0 l) = x (ix2 0 l) := by
  pointwise [k0_pay8]

theorem headTile_apply (c a b : FVec Ideal S512x128 .f32) (e : FVec Ideal S128x128 .bf16) (he : IsTable e) (n : FVec Ideal S1x128 .f32) (w : Fin 64 → EReal)
    (hn : ∀ l, n (ix2 0 l) = w (place l)) (t : FVec Ideal S512x128 .f32) (sc : BitVec 32) (r : Fin 512) (cs sn : Fin 8 → EReal)
    (hc : ∀ l, c (ix2 r l) = cosLane cs (place l)) (ha : ∀ l, a (ix2 r l) = saLane sn (place l)) (hb : ∀ l, b (ix2 r l) = sbLane sn (place l))
    (ht : ∀ k, IsFin (t (ix2 r k))) (l : Fin 128) :
    headTile c a b e n t sc (ix2 r l) = rope cs sn (headRow (fun d => t (ix2 r (headLane l d))) w) (place l) * Ideal.ofBits .f32 sc := by
  have he' : IsTable (k0_pay7 e) := fun k l => (pay7_apply e k l).trans (he k l)
  have hn' : ∀ l, k0_pay8 (F := Ideal) n (ix2 0 l) = w (place l) := fun l => (pay8_apply n l).trans (hn l)
  unfold headTile
  rw [turned_apply, pay4_apply, show k0_pay5 (F := Ideal) a = k0_pay4 (F := Ideal) a from rfl, show k0_pay6 (F := Ideal) b = k0_pay4 (F := Ideal) b from rfl, pay4_apply, pay4_apply, hc, ha, hb,
    rope_lane cs sn (fun k => headNorm (k0_pay7 e) (k0_pay8 n) t (ix2 r k)) l]
  refine congrArg (fun y => rope cs sn y (place l) * _) (funext fun d => ?_)
  refine (headNorm_apply _ he' _ w hn' t r ht (headLane l d)).trans ?_
  have h1 : ∀ d', headLane (headLane l d) d' = headLane l d' := fun d' => Fin.ext (by show (l.val / 64 * 64 + d.val) / 64 * 64 + d'.val = l.val / 64 * 64 + d'.val; omega)
  have h2 : place (headLane l d) = d := Fin.ext (by show (l.val / 64 * 64 + d.val) % 64 = d.val; omega)
  simp only [h1, h2]

end Cert.Proj

end
-- ==== Proof.ProjBlock.lean ====
/-
  What the input projection leaves in its five output blocks, as a function of its input blocks.
-/
module

public import proofs.«01_k».proof.Proof.ProjRun
public import proofs.«01_k».proof.Proof.ProjRead

@[expose] public section

set_option maxRecDepth 65536

noncomputable section

namespace Cert.Proj

open Cert.Kernel3Ideal Cert.Kernel3Ideal.Gen Idealize.ShloMosaic Cert.Attn
open Cert.Mix (mulVec normRow)

theorem load_full {a b : ℕ} {φ : EltTy} (m : Memref sig .tc .vmem ⟨2, ![a, b]⟩ φ) (hm : m.IsWhole) (x : ((⟨2, ![a, b]⟩ : Shape)).Idx → Elt Ideal φ) (o : Fin 2 → Nat)
    (h : ∀ i, o i + ![a, b] i ≤ ![a, b] i) : load m (hm.unread x) o ![a, b] h = x := by
  refine (View.readAt_full m.view (hm.unread x) h).trans ?_
  rw [hm.read_unread]

/-- An entry of a load of a rectangle: the buffer's entry at the offsets plus the coordinates. -/
theorem load_apply {a b p q : ℕ} {φ : EltTy} (m : Memref sig .tc .vmem ⟨2, ![a, b]⟩ φ) (hm : m.IsWhole) (x : ((⟨2, ![a, b]⟩ : Shape)).Idx → Elt Ideal φ) (o o' : ℕ)
    (h : ∀ i, ![o, o'] i + ![p, q] i ≤ ![a, b] i) (r : Fin p) (l : Fin q) (hr : o + r.val < a) (hl : o' + l.val < b) :
    load m (hm.unread x) ![o, o'] ![p, q] h (ix2 r l) = x (ix2 ⟨o + r.val, hr⟩ ⟨o' + l.val, hl⟩) := by
  rw [load, View.readAt_eq_ld, hm.read_unread]
  refine congrArg x (funext fun i => ?_)
  fin_cases i <;> exact Fin.ext (by show _ + 1 * _ = _; simp [ix2])

/-- A block of columns of the output lies at its offset. -/
theorem emb_eq {b n : ℕ} (o : ℕ) (h : ∀ a, ![0, o] a + ![512, n] a ≤ ![512, b] a) (r : Fin 512) (l : Fin n) (hl : o + l.val < b) :
    (Rect.unit (s := ⟨2, ![512, b]⟩) ![0, o] ![512, n] h).emb (ix2 r l) = ix2 r ⟨o + l.val, hl⟩ := by
  funext a; refine Fin.ext ?_
  fin_cases a
  · show 0 + 1 * r.val = r.val; omega
  · show o + 1 * l.val = o + l.val; omega

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S1024x7680 .bf16) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S128x128 .bf16) (harg9 : arg9.IsWhole) (arg10 : Memref sig .tc .vmem S1x2048 .f32) (harg10 : arg10.IsWhole) (arg11 : Memref sig .tc .vmem S512x1536 .bf16) (harg11 : arg11.IsWhole) (arg12 : Memref sig .tc .vmem S512x1536 .bf16) (harg12 : arg12.IsWhole) (arg13 : Memref sig .tc .vmem S512x1536 .bf16) (harg13 : arg13.IsWhole) (arg14 : Memref sig .tc .vmem S512x512 .f32) (harg14 : arg14.IsWhole) (arg15 : Memref sig .tc .vmem S512x2048 .f32) (harg15 : arg15.IsWhole) (arg16 : Memref sig .tc .vmem S512x1024 .bf16) (harg16 : arg16.IsWhole)
    (x0 : Vec Ideal S512x1024 .f32) (x1 : Vec Ideal S1x1024 .f32) (x2 : Vec Ideal S1024x7680 .bf16) (x3 : Vec Ideal S512x128 .f32) (x4 : Vec Ideal S512x128 .f32) (x5 : Vec Ideal S512x128 .f32) (x6 : Vec Ideal S1x128 .f32) (x7 : Vec Ideal S1x128 .f32) (x8 : Vec Ideal S128x128 .bf16) (x9 : Vec Ideal S1x2048 .f32)

/-- The projection's row of the grid point. -/
def pRow (r : Fin 512) : Fin 7680 → EReal := projRow (row x0 r) (row x1 0) (row x2)

theorem h_row (r : Fin 512) : row (hOf arg1 harg1 arg2 harg2 arg16 x0 x1) r = normRow (row x0 r) (row x1 0) := by
  funext j
  unfold hOf
  rw [View.readCov_full, load_full, load_full]
  exact norm_apply _ _ r j

theorem prod_eq (o : ℕ) (h : ∀ a, ![0, o] a + S1024x512.size a ≤ S1024x7680.size a) (ho : o + 512 ≤ 7680) (r j : Fin 512) :
    mulVec (row (hOf arg1 harg1 arg2 harg2 arg16 x0 x1) r) (row (wOf arg3 harg3 x2 o h)) j = pRow x0 x1 x2 r (from' o ho j) := by
  rw [h_row]
  unfold pRow projRow mulVec
  refine Finset.sum_congr rfl fun k _ => congrArg (normRow (row x0 r) (row x1 0) k * ·) ?_
  exact (load_apply arg3 harg3 x2 0 o h k j (by omega) (by omega)).trans (congrArg x2 (congrArg₂ ix2 (Fin.ext (Nat.zero_add _)) rfl))

section
variable (cs sn : Fin 512 → Fin 8 → EReal) (h3 : ∀ r l, x3 (ix2 r l) = cosLane (cs r) (place l)) (h4 : ∀ r l, x4 (ix2 r l) = saLane (sn r) (place l)) (h5 : ∀ r l, x5 (ix2 r l) = sbLane (sn r) (place l)) (h8 : IsTable x8)
    (argN : Memref sig .tc .vmem S1x128 .f32) (hargN : argN.IsWhole) (xN : Vec Ideal S1x128 .f32) (sc : BitVec 32) (wN : Fin 64 → EReal) (hN : ∀ l, xN (ix2 0 l) = wN (place l))
    (base : ℕ) (hb : base + 1536 ≤ 7680) (hf : ∀ r (j : Fin 1536), IsFin (pRow x0 x1 x2 r (from' base hb j)))

/-- The queries or the keys of the grid point. -/
def heads (y : S512x1536.Idx) : EReal := headsRow (fun j => pRow x0 x1 x2 (y 0) (from' base hb j)) wN (cs (y 0)) (sn (y 0)) sc (y 1)

include h3 h4 h5 h8 hN hf in
/-- A block of two heads is the queries or the keys at its columns. -/
theorem headPiece_eq (j : Fin 3) (s : Fin 4) (h : ∀ a, ![0, base + 512 * j.val] a + S1024x512.size a ≤ S1024x7680.size a) (hs : S512x512.Slices ![0, 128 * s.val] S512x128)
    (hi : ∀ a, ![0, 512 * j.val + 128 * s.val] a + S512x128.size a ≤ S512x1536.size a) (x : (Rect.unit (s := S512x1536) ![0, 512 * j.val + 128 * s.val] S512x128.size hi).shape.Idx) :
    headPiece arg1 harg1 arg2 harg2 arg3 harg3 arg4 harg4 arg5 harg5 arg6 harg6 arg9 harg9 arg16 x0 x1 x2 x3 x4 x5 x8 argN hargN xN sc (base + 512 * j.val) (128 * s.val) h hs x
      = heads x0 x1 x2 cs sn sc wN base hb ((Rect.unit (s := S512x1536) ![0, 512 * j.val + 128 * s.val] S512x128.size hi).emb x) := by
  obtain ⟨r, l, rfl⟩ : ∃ (r : Fin 512) (l : Fin 128), x = ix2 r l := ⟨x 0, x 1, by funext a; fin_cases a <;> rfl⟩
  refine Eq.trans ?_ (congrArg (heads x0 x1 x2 cs sn sc wN base hb) (emb_eq (b := 1536) (n := 128) (512 * j.val + 128 * s.val) hi r l (by omega)).symm)
  have ht (k : Fin 128) : extractStridedSlice S512x128 ![0, 128 * s.val] (k0_pay9 (F := Ideal) (hOf arg1 harg1 arg2 harg2 arg16 x0 x1) (wOf arg3 harg3 x2 (base + 512 * j.val) h)) hs (ix2 r k)
      = pRow x0 x1 x2 r (from' base hb ⟨512 * j.val + 128 * s.val + k.val, by omega⟩) := by
    have e : extractStridedSlice S512x128 ![0, 128 * s.val] (k0_pay9 (F := Ideal) (hOf arg1 harg1 arg2 harg2 arg16 x0 x1) (wOf arg3 harg3 x2 (base + 512 * j.val) h)) hs (ix2 r k)
        = k0_pay9 (F := Ideal) (hOf arg1 harg1 arg2 harg2 arg16 x0 x1) (wOf arg3 harg3 x2 (base + 512 * j.val) h) (ix2 r ⟨128 * s.val + k.val, by omega⟩) := by
      refine congrArg (k0_pay9 (F := Ideal) (hOf arg1 harg1 arg2 harg2 arg16 x0 x1) (wOf arg3 harg3 x2 (base + 512 * j.val) h)) (funext fun a => Fin.ext ?_)
      fin_cases a
      · show 0 + r.val = r.val; omega
      · rfl
    rw [e, prod_apply, prod_eq arg1 harg1 arg2 harg2 arg3 harg3 arg16 x0 x1 x2 _ h (by omega)]
    exact congrArg (pRow x0 x1 x2 r) (Fin.ext (by show base + 512 * j.val + (128 * s.val + k.val) = base + (512 * j.val + 128 * s.val + k.val); omega))
  unfold headPiece
  rw [load_full, load_full, load_full, load_full, load_full]
  refine (headTile_apply x3 x4 x5 x8 h8 xN wN hN _ sc r (cs r) (sn r) (h3 r) (h4 r) (h5 r) (fun k => by rw [ht k]; exact hf r _) l).trans ?_
  have hp : place l = placeOf ⟨512 * j.val + 128 * s.val + l.val, by omega⟩ := Fin.ext (by show l.val % 64 = (512 * j.val + 128 * s.val + l.val) % 64; omega)
  show _ = headsRow (fun j => pRow x0 x1 x2 r (from' base hb j)) wN (cs r) (sn r) sc ⟨512 * j.val + 128 * s.val + l.val, by omega⟩
  unfold headsRow
  rw [hp]
  refine congrArg (fun t => rope (cs r) (sn r) (headRow t wN) _ * _) (funext fun d => (ht (headLane l d)).trans ?_)
  exact congrArg (fun q => pRow x0 x1 x2 r (from' base hb q)) (Fin.ext (by show 512 * j.val + 128 * s.val + (l.val / 64 * 64 + d.val) = (512 * j.val + 128 * s.val + l.val) / 64 * 64 + d.val; omega))

include h3 h4 h5 h8 hN hf in
theorem heads_agree (h : ∀ j : Fin 3, ∀ a, ![0, base + 512 * j.val] a + S1024x512.size a ≤ S1024x7680.size a) :
    ∀ p ∈ headPieces arg1 harg1 arg2 harg2 arg3 harg3 arg4 harg4 arg5 harg5 arg6 harg6 arg9 harg9 arg16 x0 x1 x2 x3 x4 x5 x8 argN hargN xN sc base h, ∀ x, p.2 x = heads x0 x1 x2 cs sn sc wN base hb (p.1.emb x) := by
  intro p hp
  simp only [headPieces, List.mem_cons, List.not_mem_nil, or_false] at hp
  have key := headPiece_eq arg1 harg1 arg2 harg2 arg3 harg3 arg4 harg4 arg5 harg5 arg6 harg6 arg9 harg9 arg16 x0 x1 x2 x3 x4 x5 x8 cs sn h3 h4 h5 h8 argN hargN xN sc wN hN base hb hf
  rcases hp with rfl | rfl | rfl | rfl | rfl | rfl | rfl | rfl | rfl | rfl | rfl | rfl
  · exact key 2 3 (h 2) slices_S512x512_o0_384_S512x128 inb_S512x1536_S512x128_0_1408
  · exact key 2 2 (h 2) slices_S512x512_o0_256_S512x128 inb_S512x1536_S512x128_0_1280
  · exact key 2 1 (h 2) slices_S512x512_o0_128_S512x128 inb_S512x1536_S512x128_0_1152
  · exact key 2 0 (h 2) slices_S512x512_o0_0_S512x128 inb_S512x1536_S512x128_0_1024
  · exact key 1 3 (h 1) slices_S512x512_o0_384_S512x128 inb_S512x1536_S512x128_0_896
  · exact key 1 2 (h 1) slices_S512x512_o0_256_S512x128 inb_S512x1536_S512x128_0_768
  · exact key 1 1 (h 1) slices_S512x512_o0_128_S512x128 inb_S512x1536_S512x128_0_640
  · exact key 1 0 (h 1) slices_S512x512_o0_0_S512x128 inb_S512x1536_S512x128_0_512
  · exact key 0 3 (h 0) slices_S512x512_o0_384_S512x128 inb_S512x1536_S512x128_0_384
  · exact key 0 2 (h 0) slices_S512x512_o0_256_S512x128 inb_S512x1536_S512x128_0_256
  · exact key 0 1 (h 0) slices_S512x512_o0_128_S512x128 inb_S512x1536_S512x128_0_128
  · exact key 0 0 (h 0) slices_S512x512_o0_0_S512x128 inb_S512x1536_S512x128_0_0
end

/-- The values of the grid point. -/
def vals (y : S512x1536.Idx) : EReal := pRow x0 x1 x2 (y 0) (from' (n := 1536) 3072 (by omega) (y 1))

theorem valPiece_eq (j : Fin 3) (h : ∀ a, ![0, 3072 + 512 * j.val] a + S1024x512.size a ≤ S1024x7680.size a) (hi : ∀ a, ![0, 512 * j.val] a + S512x512.size a ≤ S512x1536.size a)
    (x : (Rect.unit (s := S512x1536) ![0, 512 * j.val] S512x512.size hi).shape.Idx) :
    valTile (hOf arg1 harg1 arg2 harg2 arg16 x0 x1) (wOf arg3 harg3 x2 (3072 + 512 * j.val) h) x = vals x0 x1 x2 ((Rect.unit (s := S512x1536) ![0, 512 * j.val] S512x512.size hi).emb x) := by
  obtain ⟨r, l, rfl⟩ : ∃ (r : Fin 512) (l : Fin 512), x = ix2 r l := ⟨x 0, x 1, by funext a; fin_cases a <;> rfl⟩
  refine Eq.trans ?_ (congrArg (vals x0 x1 x2) (emb_eq (b := 1536) (n := 512) (512 * j.val) hi r l (by omega)).symm)
  refine (val_apply _ _ r l).trans ((prod_eq arg1 harg1 arg2 harg2 arg3 harg3 arg16 x0 x1 x2 _ h (by omega) r l).trans ?_)
  exact congrArg (pRow x0 x1 x2 r) (Fin.ext (by show 3072 + 512 * j.val + l.val = 3072 + (512 * j.val + l.val); omega))

theorem vals_agree : ∀ p ∈ valPieces arg1 harg1 arg2 harg2 arg3 harg3 arg16 x0 x1 x2, ∀ x, p.2 x = vals x0 x1 x2 (p.1.emb x) := by
  intro p hp
  simp only [valPieces, List.mem_cons, List.not_mem_nil, or_false] at hp
  rcases hp with rfl | rfl | rfl
  · exact valPiece_eq arg1 harg1 arg2 harg2 arg3 harg3 arg16 x0 x1 x2 2 inb_S1024x7680_S1024x512_0_4096 inb_S512x1536_S512x512_0_1024
  · exact valPiece_eq arg1 harg1 arg2 harg2 arg3 harg3 arg16 x0 x1 x2 1 inb_S1024x7680_S1024x512_0_3584 inb_S512x1536_S512x512_0_512
  · exact valPiece_eq arg1 harg1 arg2 harg2 arg3 harg3 arg16 x0 x1 x2 0 inb_S1024x7680_S1024x512_0_3072 inb_S512x1536_S512x512_0_0

/-- The gates of the grid point. -/
def gates (y : S512x2048.Idx) : EReal := gateRow (pRow x0 x1 x2 (y 0)) (row x9 0) (y 1)

theorem gatePiece_eq (j : Fin 4) (h : ∀ a, ![0, 5632 + 512 * j.val] a + S1024x512.size a ≤ S1024x7680.size a) (h' : ∀ a, ![0, 512 * j.val] a + S1x512.size a ≤ S1x2048.size a)
    (hi : ∀ a, ![0, 512 * j.val] a + S512x512.size a ≤ S512x2048.size a) (x : (Rect.unit (s := S512x2048) ![0, 512 * j.val] S512x512.size hi).shape.Idx) :
    k0_pay2 (F := Ideal) (hOf arg1 harg1 arg2 harg2 arg16 x0 x1) (wOf arg3 harg3 x2 (5632 + 512 * j.val) h) (load arg10 (harg10.unread x9) ![0, 512 * j.val] S1x512.size h') x
      = gates x0 x1 x2 x9 ((Rect.unit (s := S512x2048) ![0, 512 * j.val] S512x512.size hi).emb x) := by
  obtain ⟨r, l, rfl⟩ : ∃ (r : Fin 512) (l : Fin 512), x = ix2 r l := ⟨x 0, x 1, by funext a; fin_cases a <;> rfl⟩
  refine Eq.trans ?_ (congrArg (gates x0 x1 x2 x9) (emb_eq (b := 2048) (n := 512) (512 * j.val) hi r l (by omega)).symm)
  refine (gate_apply _ _ _ r l).trans (congrArg Ideal.logistic (congrArg₂ (· + ·) ?_ ?_))
  · refine (prod_eq arg1 harg1 arg2 harg2 arg3 harg3 arg16 x0 x1 x2 _ h (by omega) r l).trans ?_
    exact congrArg (pRow x0 x1 x2 r) (Fin.ext (by show 5632 + 512 * j.val + l.val = 5632 + (512 * j.val + l.val); omega))
  · exact (load_apply arg10 harg10 x9 0 (512 * j.val) h' 0 l (by omega) (by omega)).trans (congrArg x9 (congrArg₂ ix2 (Fin.ext rfl) rfl))

theorem gates_agree : ∀ p ∈ gatePieces arg1 harg1 arg2 harg2 arg3 harg3 arg10 harg10 arg16 x0 x1 x2 x9, ∀ x, p.2 x = gates x0 x1 x2 x9 (p.1.emb x) := by
  intro p hp
  simp only [gatePieces, List.mem_cons, List.not_mem_nil, or_false] at hp
  rcases hp with rfl | rfl | rfl | rfl
  · exact gatePiece_eq arg1 harg1 arg2 harg2 arg3 harg3 arg10 harg10 arg16 x0 x1 x2 x9 3 inb_S1024x7680_S1024x512_0_7168 inb_S1x2048_S1x512_0_1536 inb_S512x2048_S512x512_0_1536
  · exact gatePiece_eq arg1 harg1 arg2 harg2 arg3 harg3 arg10 harg10 arg16 x0 x1 x2 x9 2 inb_S1024x7680_S1024x512_0_6656 inb_S1x2048_S1x512_0_1024 inb_S512x2048_S512x512_0_1024
  · exact gatePiece_eq arg1 harg1 arg2 harg2 arg3 harg3 arg10 harg10 arg16 x0 x1 x2 x9 1 inb_S1024x7680_S1024x512_0_6144 inb_S1x2048_S1x512_0_512 inb_S512x2048_S512x512_0_512
  · exact gatePiece_eq arg1 harg1 arg2 harg2 arg3 harg3 arg10 harg10 arg16 x0 x1 x2 x9 0 inb_S1024x7680_S1024x512_0_5632 inb_S1x2048_S1x512_0_0 inb_S512x2048_S512x512_0_0

/-! What the body leaves in the five output blocks. -/

theorem out_q (cs sn : Fin 512 → Fin 8 → EReal) (h3 : ∀ r l, x3 (ix2 r l) = cosLane (cs r) (place l)) (h4 : ∀ r l, x4 (ix2 r l) = saLane (sn r) (place l)) (h5 : ∀ r l, x5 (ix2 r l) = sbLane (sn r) (place l)) (h8 : IsTable x8)
    (wN : Fin 64 → EReal) (hN : ∀ l, x6 (ix2 0 l) = wN (place l)) (hf : ∀ r (j : Fin 1536), IsFin (pRow x0 x1 x2 r (from' 0 (by omega) j))) (y : S512x1536.Idx) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 y = heads x0 x1 x2 cs sn 0x3E000000#32 wN 0 (by omega) y := by
  have hc := cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9
  rw [out0_A_10, View.read_writes_eq_canon _ _ _ hc]
  rw [run_q] at hc ⊢
  exact View.canon_apply_of_pieces (Val := Elt Ideal) (heads x0 x1 x2 cs sn 0x3E000000#32 wN 0 (by omega)) _ (heads_agree arg1 harg1 arg2 harg2 arg3 harg3 arg4 harg4 arg5 harg5 arg6 harg6 arg9 harg9 arg16 x0 x1 x2 x3 x4 x5 x8 cs sn h3 h4 h5 h8 arg7 harg7 x6 0x3E000000#32 wN hN 0 (by omega) hf queryCols) y (hc y)

theorem out_k (cs sn : Fin 512 → Fin 8 → EReal) (h3 : ∀ r l, x3 (ix2 r l) = cosLane (cs r) (place l)) (h4 : ∀ r l, x4 (ix2 r l) = saLane (sn r) (place l)) (h5 : ∀ r l, x5 (ix2 r l) = sbLane (sn r) (place l)) (h8 : IsTable x8)
    (wN : Fin 64 → EReal) (hN : ∀ l, x7 (ix2 0 l) = wN (place l)) (hf : ∀ r (j : Fin 1536), IsFin (pRow x0 x1 x2 r (from' 1536 (by omega) j))) (y : S512x1536.Idx) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 y = heads x0 x1 x2 cs sn 0x3F800000#32 wN 1536 (by omega) y := by
  have hc := cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9
  rw [out0_A_11, View.read_writes_eq_canon _ _ _ hc]
  rw [run_k] at hc ⊢
  exact View.canon_apply_of_pieces (Val := Elt Ideal) (heads x0 x1 x2 cs sn 0x3F800000#32 wN 1536 (by omega)) _ (heads_agree arg1 harg1 arg2 harg2 arg3 harg3 arg4 harg4 arg5 harg5 arg6 harg6 arg9 harg9 arg16 x0 x1 x2 x3 x4 x5 x8 cs sn h3 h4 h5 h8 arg8 harg8 x7 0x3F800000#32 wN hN 1536 (by omega) hf keyCols) y (hc y)

theorem out_v (y : S512x1536.Idx) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 y = vals x0 x1 x2 y := by
  have hc := cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9
  rw [out0_A_12, View.read_writes_eq_canon _ _ _ hc]
  rw [run_v] at hc ⊢
  exact View.canon_apply_of_pieces (Val := Elt Ideal) (vals x0 x1 x2) _ (vals_agree arg1 harg1 arg2 harg2 arg3 harg3 arg16 x0 x1 x2) y (hc y)

theorem out_g (y : S512x2048.Idx) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 y = gates x0 x1 x2 x9 y := by
  have hc := cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9
  rw [out0_A_14, View.read_writes_eq_canon _ _ _ hc]
  rw [run_g] at hc ⊢
  exact View.canon_apply_of_pieces (Val := Elt Ideal) (gates x0 x1 x2 x9) _ (gates_agree arg1 harg1 arg2 harg2 arg3 harg3 arg10 harg10 arg16 x0 x1 x2 x9) y (hc y)

theorem out_u (r j : Fin 512) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r j) = convRow (pRow x0 x1 x2 r) j := by
  rw [out0_A_13, run_u, convPieces, View.read_writes_full, conv_apply]
  exact congrArg₂ (fun a b => a * Ideal.logistic b) (prod_eq arg1 harg1 arg2 harg2 arg3 harg3 arg16 x0 x1 x2 4608 _ (by omega) r j) (prod_eq arg1 harg1 arg2 harg2 arg3 harg3 arg16 x0 x1 x2 5120 _ (by omega) r j)
end

end Cert.Proj

end
-- ==== Proof.ProjHost.lean ====
/-
  The arrays the program builds before the input projection: the tables of cosines and signed sines, the table of zeros
  and ones that sums a head's lanes, and the learned scales set twice side by side.
-/
module

public import proofs.«01_k».proof.Proof.Gen.Kernel3Ideal.Value
public import proofs.«01_k».proof.Proof.ProjRead

@[expose] public section

set_option maxRecDepth 65536

noncomputable section

namespace Cert.Proj

open Cert.Kernel3Ideal Cert.Kernel3Ideal.Gen Idealize.ShloMosaic Idealize.ShloMosaic.TcCoe Idealize.SL.Sem Cert.Attn

/-- The eight frequencies. -/
def freq : FVec Ideal S8 .f32 :=
  Host.powf (broadcastInDim S8 ![] bcast_S_S8 (constant S_ .f32 0x48F42400#32))
    (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0)))))
      (broadcastInDim S8 ![] bcast_S_S8 (constant S_ .f32 0x41800000#32)))

/-- Each position's eight angles. -/
def angles (p : IVec S16384 32) : FVec Ideal S16384x8 .f32 :=
  mulf (broadcastInDim S16384x8 ![0, 1] bcast_S16384x1_S16384x8_0_1 (broadcastInDim S16384x1 ![0] bcast_S16384_S16384x1_0 (sitofp .f32 p)))
    (broadcastInDim S16384x8 ![0, 1] bcast_S1x8_S16384x8_0_1 (broadcastInDim S1x8 ![1] bcast_S8_S1x8_1 freq))

/-- The cosines and the sines of the angles. -/
def cosines (p : IVec S16384 32) : FVec Ideal S16384x8 .f32 := Host.cos (angles p)
def sines (p : IVec S16384 32) : FVec Ideal S16384x8 .f32 := Host.sin (angles p)

/-- A table of 64 lanes set twice side by side. -/
def twice (x : FVec Ideal S16384x64 .f32) : FVec Ideal S16384x128 .f32 :=
  shapeCast S16384x128 (broadcastInDim S1x16384x2x64 ![0, 1, 2, 3] bcast_S1x16384x1x64_S1x16384x2x64_0_1_2_3 (shapeCast S1x16384x1x64 x shapeCasts_S16384x64_S1x16384x1x64)) shapeCasts_S1x16384x2x64_S16384x128

/-- One number on every lane of 8, 48 and 56. -/
def on8 (b : BitVec 32) : FVec Ideal S16384x8 .f32 := broadcastInDim S16384x8 ![] bcast_S_S16384x8 (constant S_ .f32 b)
def on48 (b : BitVec 32) : FVec Ideal S16384x48 .f32 := broadcastInDim S16384x48 ![] bcast_S_S16384x48 (constant S_ .f32 b)
def on56 (b : BitVec 32) : FVec Ideal S16384x56 .f32 := broadcastInDim S16384x56 ![] bcast_S_S16384x56 (constant S_ .f32 b)

def cosTab (x : FVec Ideal S16384x8 .f32) : FVec Ideal S16384x64 .f32 :=
  concatenate S16384x64 1 [⟨S16384x8, x⟩, ⟨S16384x8, x⟩, ⟨S16384x48, on48 0x3F800000#32⟩] concatenates_S16384x8_S16384x8_S16384x48_S16384x64_d1
def saTab (x : FVec Ideal S16384x8 .f32) : FVec Ideal S16384x64 .f32 :=
  concatenate S16384x64 1 [⟨S16384x8, Host.negf x⟩, ⟨S16384x56, on56 0x00000000#32⟩] concatenates_S16384x8_S16384x56_S16384x64_d1
def sbTab (x : FVec Ideal S16384x8 .f32) : FVec Ideal S16384x64 .f32 :=
  concatenate S16384x64 1 [⟨S16384x8, on8 0x00000000#32⟩, ⟨S16384x8, x⟩, ⟨S16384x48, on48 0x00000000#32⟩] concatenates_S16384x8_S16384x8_S16384x48_S16384x64_d1

/-- The lanes' numbers down a column and along a row. -/
def down : IVec S128x1 32 := broadcastInDim S128x1 ![0] bcast_S128_S128x1_0 (iotaInDim S128 32 0)
def along : IVec S1x128 32 := broadcastInDim S1x128 ![1] bcast_S128_S1x128_1 (iotaInDim S128 32 0)
def allDown (x : IVec S_ 32) : IVec S128x1 32 := broadcastInDim S128x1 ![] bcast_S_S128x1 x
def allAlong (x : IVec S_ 32) : IVec S1x128 32 := broadcastInDim S1x128 ![] bcast_S_S1x128 x

/-- The lanes' heads: the numbers divided by 64, rounded down. -/
def headDown : IVec S128x1 32 :=
  select (andi (cmpi .ne (signi down) (allDown (signi (constantI S_ 32 64#32)))) (cmpi .ne (Host.remsi down (allDown (constantI S_ 32 64#32))) (allDown (constantI S_ 32 0#32))))
    (subi (Host.divsi down (allDown (constantI S_ 32 64#32))) (allDown (constantI S_ 32 1#32))) (Host.divsi down (allDown (constantI S_ 32 64#32)))
def headAlong : IVec S1x128 32 :=
  select (andi (cmpi .ne (signi along) (allAlong (signi (constantI S_ 32 64#32)))) (cmpi .ne (Host.remsi along (allAlong (constantI S_ 32 64#32))) (allAlong (constantI S_ 32 0#32))))
    (subi (Host.divsi along (allAlong (constantI S_ 32 64#32))) (allAlong (constantI S_ 32 1#32))) (Host.divsi along (allAlong (constantI S_ 32 64#32)))

/-- The table of zeros and ones. -/
def table : FVec Ideal S128x128 .bf16 :=
  uitofp .bf16 (cmpi .eq (broadcastInDim S128x128 ![0, 1] bcast_S128x1_S128x128_0_1 headDown) (broadcastInDim S128x128 ![0, 1] bcast_S1x128_S128x128_0_1 headAlong))

/-- A learned scale set twice side by side. -/
def scaleTwice (w : FVec Ideal S1x64 .f32) : FVec Ideal S1x128 .f32 :=
  shapeCast S1x128 (shapeCast S128 (broadcastInDim S2x64 ![0, 1] bcast_S1x64_S2x64_0_1 (shapeCast S1x64 (shapeCast S64 w shapeCasts_S1x64_S64) shapeCasts_S64_S1x64)) shapeCasts_S2x64_S128) shapeCasts_S128_S1x128

/-- The two gates' biases side by side. -/
def biasRow (w : FVec Ideal S1x2x1024 .f32) : FVec Ideal S1x2048 .f32 := shapeCast S1x2048 (shapeCast S2x1024 w shapeCasts_S1x2x1024_S2x1024) shapeCasts_S2x1024_S1x2048

def weights (w : FVec Ideal S1x1024x7680 .f32) : FVec Ideal S1024x7680 .bf16 := truncf .bf16 (shapeCast S1024x7680 w shapeCasts_S1x1024x7680_S1024x7680) bitsLt_bf16_f32
def scaleRow (w : FVec Ideal S1x1024 .f32) : FVec Ideal S1x1024 .f32 := shapeCast S1x1024 (shapeCast S1024 w shapeCasts_S1x1024_S1024) shapeCasts_S1024_S1x1024

section
variable (m : (ℓ : Loc nD τ sig) → Buf (Elt Ideal) ℓ) (c : Dev nD)

theorem V_cos : V m c main_v28 = twice (cosTab (cosines (m ((c : Thread nD τ).loc main_arg1) : IVec S16384 32))) := by
  unfold_abbrev_sides
  simp only [List.flatten_cons, List.flatten_nil, List.append_nil, List.cons_append, List.nil_append]
  after_results
  rfl

theorem V_sa : V m c main_v31 = twice (saTab (sines (m ((c : Thread nD τ).loc main_arg1) : IVec S16384 32))) := by
  unfold_abbrev_sides
  simp only [List.flatten_cons, List.flatten_nil, List.append_nil, List.cons_append, List.nil_append]
  after_results
  rfl

theorem V_sb : V m c main_v34 = twice (sbTab (sines (m ((c : Thread nD τ).loc main_arg1) : IVec S16384 32))) := by
  unfold_abbrev_sides
  simp only [List.flatten_cons, List.flatten_nil, List.append_nil, List.cons_append, List.nil_append]
  after_results
  rfl

theorem V_table : V m c main_v43 = table := by
  unfold_abbrev_sides
  simp only [List.flatten_cons, List.flatten_nil, List.append_nil, List.cons_append, List.nil_append]
  after_results
  rfl

theorem V_n1 : V m c main_v45 = scaleRow (m ((c : Thread nD τ).loc main_arg2) : FVec Ideal S1x1024 .f32) := by
  unfold_abbrev_sides
  simp only [List.flatten_cons, List.flatten_nil, List.append_nil, List.cons_append, List.nil_append]
  after_results
  rfl

theorem V_w : V m c main_v47 = weights (m ((c : Thread nD τ).loc main_arg3) : FVec Ideal S1x1024x7680 .f32) := by
  unfold_abbrev_sides
  simp only [List.flatten_cons, List.flatten_nil, List.append_nil, List.cons_append, List.nil_append]
  after_results
  rfl

theorem V_qn : V m c main_v52 = scaleTwice (m ((c : Thread nD τ).loc main_arg5) : FVec Ideal S1x64 .f32) := by
  unfold_abbrev_sides
  simp only [List.flatten_cons, List.flatten_nil, List.append_nil, List.cons_append, List.nil_append]
  after_results
  rfl

theorem V_kn : V m c main_v57 = scaleTwice (m ((c : Thread nD τ).loc main_arg6) : FVec Ideal S1x64 .f32) := by
  unfold_abbrev_sides
  simp only [List.flatten_cons, List.flatten_nil, List.append_nil, List.cons_append, List.nil_append]
  after_results
  rfl

theorem V_bg : V m c main_v59 = biasRow (m ((c : Thread nD τ).loc main_arg4) : FVec Ideal S1x2x1024 .f32) := by
  unfold_abbrev_sides
  simp only [List.flatten_cons, List.flatten_nil, List.append_nil, List.cons_append, List.nil_append]
  after_results
  rfl

end

/-- The one matrix of an array with a leading axis of one; the biases by column. -/
def mat (w : FVec Ideal S1x1024x7680 .f32) (k : Fin 1024) (j : Fin 7680) : EReal := w (ix3 0 k j)
def bias (w : FVec Ideal S1x2x1024 .f32) (j : Fin 2048) : EReal := w (ix3 0 (⟨j.val / 1024, by omega⟩ : Fin 2) (⟨j.val % 1024, by omega⟩ : Fin 1024))

theorem weights_row (w : FVec Ideal S1x1024x7680 .f32) : row (weights w) = mat w := by
  funext k j
  show weights w (ix2 k j) = w (ix3 0 k j)
  pointwise [weights]

theorem scaleRow_row (w : FVec Ideal S1x1024 .f32) : row (scaleRow w) 0 = row w 0 := by
  funext j
  show scaleRow w (ix2 0 j) = w (ix2 0 j)
  pointwise [scaleRow]

theorem biasRow_row (w : FVec Ideal S1x2x1024 .f32) : row (biasRow w) 0 = bias w := by
  funext j
  show biasRow w (ix2 0 j) = bias w j
  pointwise [biasRow]
  rfl

theorem scaleTwice_apply (w : FVec Ideal S1x64 .f32) (l : Fin 128) : scaleTwice w (ix2 0 l) = row w 0 (place l) := by
  pointwise [scaleTwice]
  rfl

theorem twice_apply (x : FVec Ideal S16384x64 .f32) (i : Fin 16384) (l : Fin 128) : twice x (ix2 i l) = x (ix2 i (place l)) := by
  pointwise [twice]
  rfl

theorem cosTab_apply (x : FVec Ideal S16384x8 .f32) (i : Fin 16384) (d : Fin 64) : cosTab x (ix2 i d) = cosLane (row x i) d := by
  unfold cosTab
  pointwise [on48]
  show (if h : d.val < 8 then x (ix2 i ⟨d.val, h⟩) else if h' : d.val - 8 < 8 then x (ix2 i ⟨d.val - 8, h'⟩) else 1) = _
  unfold cosLane
  split_ifs <;> first | rfl | omega

theorem saTab_apply (x : FVec Ideal S16384x8 .f32) (i : Fin 16384) (d : Fin 64) : saTab x (ix2 i d) = saLane (row x i) d := by
  unfold saTab
  pointwise [on56]
  unfold saLane
  split_ifs <;> first | rfl | omega

theorem sbTab_apply (x : FVec Ideal S16384x8 .f32) (i : Fin 16384) (d : Fin 64) : sbTab x (ix2 i d) = sbLane (row x i) d := by
  unfold sbTab
  pointwise [on48, on8]
  show (if d.val < 8 then 0 else if h' : d.val - 8 < 8 then x (ix2 i ⟨d.val - 8, h'⟩) else 0) = _
  unfold sbLane
  split_ifs <;> first | rfl | omega

theorem headDown_apply (k : Fin 128) : headDown (ix2 k 0) = BitVec.ofNat 32 (k.val / 64) := by
  pointwise [headDown, allDown, down]
  revert k; decide +kernel

theorem headAlong_apply (k : Fin 128) : headAlong (ix2 0 k) = BitVec.ofNat 32 (k.val / 64) := by
  pointwise [headAlong, allAlong, along]
  revert k; decide +kernel

theorem isTable : IsTable table := by
  intro k l
  pointwise [table]
  rw [headDown_apply, headAlong_apply]
  have hl : BitVec.ofNat 32 (k.val / 64) = BitVec.ofNat 32 (l.val / 64) ↔ k.val / 64 = l.val / 64 := by
    rw [← BitVec.toNat_inj, BitVec.toNat_ofNat, BitVec.toNat_ofNat, Nat.mod_eq_of_lt (by omega), Nat.mod_eq_of_lt (by omega)]
  by_cases h : k.val / 64 = l.val / 64
  · rw [if_pos h]; simp only [IntOp.cmpi, hl.mpr h, beq_self_eq_true]; show ((BitVec.toNat 1#1 : ℝ) : EReal) = 1; simp
  · rw [if_neg h]; simp only [IntOp.cmpi, beq_eq_false_iff_ne.mpr (fun e => h (hl.mp e))]; show ((BitVec.toNat 0#1 : ℝ) : EReal) = 0; simp

end Cert.Proj

end
-- ==== Proof.ProjArray.lean ====
/-
  The result arrays of the projection call, entry by entry: grid point `t` reads 512 rows of the activations and of
  the tables and the whole of every other argument, and writes the same 512 rows of the five results.
-/
module

public import proofs.«01_k».proof.Proof.ProjBlock
public import proofs.«01_k».proof.Proof.ProjHost

@[expose] public section

noncomputable section

namespace Cert.Proj

open Cert.Kernel3Ideal Cert.Kernel3Ideal.Gen Idealize.ShloMosaic Idealize.ShloMosaic.TcCoe Idealize.SL.Sem Cert.Attn

theorem point_lt (t : Fin cfg0.N) : t.val < 32 := lt_of_lt_of_eq t.isLt N_0

/-- The array's row that is row `r` of grid point `t`'s block; a row's grid point, and its place in the block. -/
def rowAt (t : Fin cfg0.N) (r : Fin 512) : Fin 16384 := ⟨t.val * 512 + r.val, by have := point_lt t; omega⟩
def pt (i : Fin 16384) : Fin cfg0.N := ⟨i.val / 512, by rw [show cfg0.N = 32 from N_0]; omega⟩
def at' (i : Fin 16384) : Fin 512 := ⟨i.val % 512, by omega⟩

theorem rowAt_at (i : Fin 16384) : rowAt (pt i) (at' i) = i := Fin.ext (by simp only [rowAt, pt, at']; omega)

theorem index_rows : ∀ t : Fin grid0.N, (win0_0.index t = ![t.val, 0] ∧ win0_3.index t = ![t.val, 0] ∧ win0_4.index t = ![t.val, 0] ∧ win0_5.index t = ![t.val, 0] ∧ win0_10.index t = ![t.val, 0] ∧ win0_11.index t = ![t.val, 0] ∧ win0_12.index t = ![t.val, 0] ∧ win0_13.index t = ![t.val, 0] ∧ win0_14.index t = ![t.val, 0]) := by decide +kernel

theorem index_whole : ∀ t : Fin grid0.N, (win0_1.index t = ![0, 0] ∧ win0_2.index t = ![0, 0] ∧ win0_6.index t = ![0, 0] ∧ win0_7.index t = ![0, 0] ∧ win0_8.index t = ![0, 0] ∧ win0_9.index t = ![0, 0]) := by decide +kernel

/-- An entry of a block of 512 whole rows lies in the array at the point's first row plus the entry's row. -/
theorem rows_idx {n : ℕ} (t : Fin cfg0.N) (r : Fin 512) (j : Fin n) (y : ((⟨2, ![16384, n]⟩ : Shape)).Idx) (h0 : (y 0).val = t.val * 512 + r.val) (h1 : (y 1).val = 0 * n + j.val) : y = ix2 (rowAt t r) j := by
  funext a; refine Fin.ext ?_
  fin_cases a
  · exact h0
  · exact h1.trans (by show _ = j.val; omega)

/-- A block that is the whole array. -/
theorem whole_idx {a b : ℕ} (x : ((⟨2, ![a, b]⟩ : Shape)).Idx) (y : ((⟨2, ![a, b]⟩ : Shape)).Idx) (h0 : (y 0).val = 0 * a + (x 0).val) (h1 : (y 1).val = 0 * b + (x 1).val) : y = x := by
  funext d; refine Fin.ext ?_
  fin_cases d
  · exact h0.trans (by show _ = (x 0).val; omega)
  · exact h1.trans (by show _ = (x 1).val; omega)

section
variable (m : (ℓ : Loc nD τ sig) → Buf (Elt Ideal) ℓ) (c : Dev nD) (t : Fin cfg0.N) (r : Fin 512)

theorem blk0_row : row (iblk m c 0 t : FVec Ideal S512x1024 .f32) r = row (m ((c : Thread nD τ).loc main_arg0) : FVec Ideal S16384x1024 .f32) (rowAt t r) := by
  have h := (index_rows t).1
  funext j
  refine (congrFun (V_main_arg0 m c) _).trans (congrArg (m ((c : Thread nD τ).loc main_arg0)) (rows_idx t r j _ ?_ ?_))
  · exact (Pipeline.Window.rect_emb_val win0_0 t (ix2 r j : S512x1024.Idx) 0).trans (by rw [h]; rfl)
  · exact (Pipeline.Window.rect_emb_val win0_0 t (ix2 r j : S512x1024.Idx) 1).trans (by rw [h]; rfl)

theorem blk3_apply (l : Fin 128) : (iblk m c 3 t : FVec Ideal S512x128 .f32) (ix2 r l) = V m c main_v28 (ix2 (rowAt t r) l : S16384x128.Idx) := by
  have h := (index_rows t).2.1
  refine congrArg (V m c main_v28) (rows_idx t r l _ ?_ ?_)
  · exact (Pipeline.Window.rect_emb_val win0_3 t (ix2 r l : S512x128.Idx) 0).trans (by rw [h]; rfl)
  · exact (Pipeline.Window.rect_emb_val win0_3 t (ix2 r l : S512x128.Idx) 1).trans (by rw [h]; rfl)

theorem blk4_apply (l : Fin 128) : (iblk m c 4 t : FVec Ideal S512x128 .f32) (ix2 r l) = V m c main_v31 (ix2 (rowAt t r) l : S16384x128.Idx) := by
  have h := (index_rows t).2.2.1
  refine congrArg (V m c main_v31) (rows_idx t r l _ ?_ ?_)
  · exact (Pipeline.Window.rect_emb_val win0_4 t (ix2 r l : S512x128.Idx) 0).trans (by rw [h]; rfl)
  · exact (Pipeline.Window.rect_emb_val win0_4 t (ix2 r l : S512x128.Idx) 1).trans (by rw [h]; rfl)

theorem blk5_apply (l : Fin 128) : (iblk m c 5 t : FVec Ideal S512x128 .f32) (ix2 r l) = V m c main_v34 (ix2 (rowAt t r) l : S16384x128.Idx) := by
  have h := (index_rows t).2.2.2.1
  refine congrArg (V m c main_v34) (rows_idx t r l _ ?_ ?_)
  · exact (Pipeline.Window.rect_emb_val win0_5 t (ix2 r l : S512x128.Idx) 0).trans (by rw [h]; rfl)
  · exact (Pipeline.Window.rect_emb_val win0_5 t (ix2 r l : S512x128.Idx) 1).trans (by rw [h]; rfl)

theorem blk1_eq : (iblk m c 1 t : FVec Ideal S1x1024 .f32) = V m c main_v45 := by
  have h := (index_whole t).1
  funext x
  refine congrArg (V m c main_v45) (whole_idx x _ ?_ ?_)
  · exact (Pipeline.Window.rect_emb_val win0_1 t (x : S1x1024.Idx) 0).trans (by rw [h]; rfl)
  · exact (Pipeline.Window.rect_emb_val win0_1 t (x : S1x1024.Idx) 1).trans (by rw [h]; rfl)

theorem blk2_eq : (iblk m c 2 t : FVec Ideal S1024x7680 .bf16) = V m c main_v47 := by
  have h := (index_whole t).2.1
  funext x
  refine congrArg (V m c main_v47) (whole_idx x _ ?_ ?_)
  · exact (Pipeline.Window.rect_emb_val win0_2 t (x : S1024x7680.Idx) 0).trans (by rw [h]; rfl)
  · exact (Pipeline.Window.rect_emb_val win0_2 t (x : S1024x7680.Idx) 1).trans (by rw [h]; rfl)

theorem blk6_eq : (iblk m c 6 t : FVec Ideal S1x128 .f32) = V m c main_v52 := by
  have h := (index_whole t).2.2.1
  funext x
  refine congrArg (V m c main_v52) (whole_idx x _ ?_ ?_)
  · exact (Pipeline.Window.rect_emb_val win0_6 t (x : S1x128.Idx) 0).trans (by rw [h]; rfl)
  · exact (Pipeline.Window.rect_emb_val win0_6 t (x : S1x128.Idx) 1).trans (by rw [h]; rfl)

theorem blk7_eq : (iblk m c 7 t : FVec Ideal S1x128 .f32) = V m c main_v57 := by
  have h := (index_whole t).2.2.2.1
  funext x
  refine congrArg (V m c main_v57) (whole_idx x _ ?_ ?_)
  · exact (Pipeline.Window.rect_emb_val win0_7 t (x : S1x128.Idx) 0).trans (by rw [h]; rfl)
  · exact (Pipeline.Window.rect_emb_val win0_7 t (x : S1x128.Idx) 1).trans (by rw [h]; rfl)

theorem blk8_eq : (iblk m c 8 t : FVec Ideal S128x128 .bf16) = V m c main_v43 := by
  have h := (index_whole t).2.2.2.2.1
  funext x
  refine congrArg (V m c main_v43) (whole_idx x _ ?_ ?_)
  · exact (Pipeline.Window.rect_emb_val win0_8 t (x : S128x128.Idx) 0).trans (by rw [h]; rfl)
  · exact (Pipeline.Window.rect_emb_val win0_8 t (x : S128x128.Idx) 1).trans (by rw [h]; rfl)

theorem blk9_eq : (iblk m c 9 t : FVec Ideal S1x2048 .f32) = V m c main_v59 := by
  have h := (index_whole t).2.2.2.2.2
  funext x
  refine congrArg (V m c main_v59) (whole_idx x _ ?_ ?_)
  · exact (Pipeline.Window.rect_emb_val win0_9 t (x : S1x2048.Idx) 0).trans (by rw [h]; rfl)
  · exact (Pipeline.Window.rect_emb_val win0_9 t (x : S1x2048.Idx) 1).trans (by rw [h]; rfl)

theorem emb10 (j : Fin 1536) : ((cfg0.win 10).blk t).view.emb (ix2 r j : S512x1536.Idx) = (ix2 (rowAt t r) j : S16384x1536.Idx) := by
  have h := (index_rows t).2.2.2.2.1
  refine rows_idx t r j _ ?_ ?_
  · exact (Pipeline.Window.rect_emb_val win0_10 t (ix2 r j : S512x1536.Idx) 0).trans (by rw [h]; rfl)
  · exact (Pipeline.Window.rect_emb_val win0_10 t (ix2 r j : S512x1536.Idx) 1).trans (by rw [h]; rfl)

theorem emb11 (j : Fin 1536) : ((cfg0.win 11).blk t).view.emb (ix2 r j : S512x1536.Idx) = (ix2 (rowAt t r) j : S16384x1536.Idx) := by
  have h := (index_rows t).2.2.2.2.2.1
  refine rows_idx t r j _ ?_ ?_
  · exact (Pipeline.Window.rect_emb_val win0_11 t (ix2 r j : S512x1536.Idx) 0).trans (by rw [h]; rfl)
  · exact (Pipeline.Window.rect_emb_val win0_11 t (ix2 r j : S512x1536.Idx) 1).trans (by rw [h]; rfl)

theorem emb12 (j : Fin 1536) : ((cfg0.win 12).blk t).view.emb (ix2 r j : S512x1536.Idx) = (ix2 (rowAt t r) j : S16384x1536.Idx) := by
  have h := (index_rows t).2.2.2.2.2.2.1
  refine rows_idx t r j _ ?_ ?_
  · exact (Pipeline.Window.rect_emb_val win0_12 t (ix2 r j : S512x1536.Idx) 0).trans (by rw [h]; rfl)
  · exact (Pipeline.Window.rect_emb_val win0_12 t (ix2 r j : S512x1536.Idx) 1).trans (by rw [h]; rfl)

theorem emb13 (j : Fin 512) : ((cfg0.win 13).blk t).view.emb (ix2 r j : S512x512.Idx) = (ix2 (rowAt t r) j : S16384x512.Idx) := by
  have h := (index_rows t).2.2.2.2.2.2.2.1
  refine rows_idx t r j _ ?_ ?_
  · exact (Pipeline.Window.rect_emb_val win0_13 t (ix2 r j : S512x512.Idx) 0).trans (by rw [h]; rfl)
  · exact (Pipeline.Window.rect_emb_val win0_13 t (ix2 r j : S512x512.Idx) 1).trans (by rw [h]; rfl)

theorem emb14 (j : Fin 2048) : ((cfg0.win 14).blk t).view.emb (ix2 r j : S512x2048.Idx) = (ix2 (rowAt t r) j : S16384x2048.Idx) := by
  have h := (index_rows t).2.2.2.2.2.2.2.2
  refine rows_idx t r j _ ?_ ?_
  · exact (Pipeline.Window.rect_emb_val win0_14 t (ix2 r j : S512x2048.Idx) 0).trans (by rw [h]; rfl)
  · exact (Pipeline.Window.rect_emb_val win0_14 t (ix2 r j : S512x2048.Idx) 1).trans (by rw [h]; rfl)

end

/-- The projected row `i`. -/
def projAt (x : FVec Ideal S16384x1024 .f32) (n : FVec Ideal S1x1024 .f32) (w : FVec Ideal S1x1024x7680 .f32) (i : Fin 16384) : Fin 7680 → EReal :=
  projRow (row x i) (row n 0) (mat w)

/-- The queries or the keys, from the arguments. -/
def headsAt (x : FVec Ideal S16384x1024 .f32) (n : FVec Ideal S1x1024 .f32) (w : FVec Ideal S1x1024x7680 .f32) (s : FVec Ideal S1x64 .f32) (p : IVec S16384 32) (sc : BitVec 32) (b : ℕ) (hb : b + 1536 ≤ 7680) (i : Fin 16384) : Fin 1536 → EReal :=
  headsRow (fun l => projAt x n w i (from' b hb l)) (row s 0) (row (cosines p) i) (row (sines p) i) sc

/-- The projected queries and keys of every row are finite. -/
def FinCols (b : ℕ) (hb : b + 1536 ≤ 7680) (x : FVec Ideal S16384x1024 .f32) (n : FVec Ideal S1x1024 .f32) (w : FVec Ideal S1x1024x7680 .f32) : Prop :=
  ∀ (i : Fin 16384) (j : Fin 1536), IsFin (projAt x n w i (from' b hb j))

section
variable (m : (ℓ : Loc nD τ sig) → Buf (Elt Ideal) ℓ) (c : Dev nD)

/-- The call's arguments. -/
abbrev argX : FVec Ideal S16384x1024 .f32 := m ((c : Thread nD τ).loc main_arg0)
abbrev argP : IVec S16384 32 := m ((c : Thread nD τ).loc main_arg1)
abbrev argN : FVec Ideal S1x1024 .f32 := m ((c : Thread nD τ).loc main_arg2)
abbrev argW : FVec Ideal S1x1024x7680 .f32 := m ((c : Thread nD τ).loc main_arg3)
abbrev argB : FVec Ideal S1x2x1024 .f32 := m ((c : Thread nD τ).loc main_arg4)
abbrev argSq : FVec Ideal S1x64 .f32 := m ((c : Thread nD τ).loc main_arg5)
abbrev argSk : FVec Ideal S1x64 .f32 := m ((c : Thread nD τ).loc main_arg6)

theorem pRow_eq (t : Fin cfg0.N) (r : Fin 512) : pRow (iblk m c 0 t) (iblk m c 1 t) (iblk m c 2 t) r = projAt (argX m c) (argN m c) (argW m c) (rowAt t r) := by
  unfold pRow projAt
  rw [blk0_row, blk1_eq, V_n1, scaleRow_row, blk2_eq, V_w, weights_row]

theorem cos_read (t : Fin cfg0.N) (r : Fin 512) (l : Fin 128) : (iblk m c 3 t : FVec Ideal S512x128 .f32) (ix2 r l) = cosLane (row (cosines (argP m c)) (rowAt t r)) (place l) := by
  rw [blk3_apply, V_cos, twice_apply, cosTab_apply]

theorem sa_read (t : Fin cfg0.N) (r : Fin 512) (l : Fin 128) : (iblk m c 4 t : FVec Ideal S512x128 .f32) (ix2 r l) = saLane (row (sines (argP m c)) (rowAt t r)) (place l) := by
  rw [blk4_apply, V_sa, twice_apply, saTab_apply]

theorem sb_read (t : Fin cfg0.N) (r : Fin 512) (l : Fin 128) : (iblk m c 5 t : FVec Ideal S512x128 .f32) (ix2 r l) = sbLane (row (sines (argP m c)) (rowAt t r)) (place l) := by
  rw [blk5_apply, V_sb, twice_apply, sbTab_apply]

theorem table_read (t : Fin cfg0.N) : IsTable (iblk m c 8 t) := by rw [blk8_eq, V_table]; exact isTable

theorem sq_read (t : Fin cfg0.N) (l : Fin 128) : (iblk m c 6 t : FVec Ideal S1x128 .f32) (ix2 0 l) = row (argSq m c) 0 (place l) := by
  rw [blk6_eq, V_qn, scaleTwice_apply]

theorem sk_read (t : Fin cfg0.N) (l : Fin 128) : (iblk m c 7 t : FVec Ideal S1x128 .f32) (ix2 0 l) = row (argSk m c) 0 (place l) := by
  rw [blk7_eq, V_kn, scaleTwice_apply]

theorem arr10_apply (hf : FinCols 0 (by omega) (argX m c) (argN m c) (argW m c)) (i : Fin 16384) (j : Fin 1536) :
    ((dats m 0 c).arrAt 10 cfg0.N : FVec Ideal S16384x1536 .bf16) (ix2 i j) = headsAt (argX m c) (argN m c) (argW m c) (argSq m c) (argP m c) 0x3E000000#32 0 (by omega) i j := by
  have hx := emb10 (pt i) (at' i) j
  rw [rowAt_at] at hx
  rw [← hx]
  refine (congrFun (Value.blocks10 m c (pt i) (flush0_10 (pt i))) (ix2 (at' i) j : S512x1536.Idx)).trans ?_
  rw [Value.flushed10_A]
  refine (out_q _ _ _ _ _ _ _ _ _ _ _ _ _ _ _ _ _ _ _ _ _ _ _ _ _ _ _ _ _ _ _ _ _ _ _ _ _ _ _ _ _ _ _ _ (fun r => row (cosines (argP m c)) (rowAt (pt i) r)) (fun r => row (sines (argP m c)) (rowAt (pt i) r))
    (cos_read m c (pt i)) (sa_read m c (pt i)) (sb_read m c (pt i)) (table_read m c (pt i)) (row (argSq m c) 0) (sq_read m c (pt i)) ?_ (ix2 (at' i) j : S512x1536.Idx)).trans ?_
  · intro r l; rw [pRow_eq]; exact hf _ l
  · show headsRow (fun l => pRow _ _ _ (at' i) (from' 0 _ l)) _ (row (cosines (argP m c)) (rowAt (pt i) (at' i))) (row (sines (argP m c)) (rowAt (pt i) (at' i))) _ j = _
    simp only [pRow_eq, rowAt_at]
    rfl

theorem arr11_apply (hf : FinCols 1536 (by omega) (argX m c) (argN m c) (argW m c)) (i : Fin 16384) (j : Fin 1536) :
    ((dats m 0 c).arrAt 11 cfg0.N : FVec Ideal S16384x1536 .bf16) (ix2 i j) = headsAt (argX m c) (argN m c) (argW m c) (argSk m c) (argP m c) 0x3F800000#32 1536 (by omega) i j := by
  have hx := emb11 (pt i) (at' i) j
  rw [rowAt_at] at hx
  rw [← hx]
  refine (congrFun (Value.blocks11 m c (pt i) (flush0_11 (pt i))) (ix2 (at' i) j : S512x1536.Idx)).trans ?_
  rw [Value.flushed11_A]
  refine (out_k _ _ _ _ _ _ _ _ _ _ _ _ _ _ _ _ _ _ _ _ _ _ _ _ _ _ _ _ _ _ _ _ _ _ _ _ _ _ _ _ _ _ _ _ (fun r => row (cosines (argP m c)) (rowAt (pt i) r)) (fun r => row (sines (argP m c)) (rowAt (pt i) r))
    (cos_read m c (pt i)) (sa_read m c (pt i)) (sb_read m c (pt i)) (table_read m c (pt i)) (row (argSk m c) 0) (sk_read m c (pt i)) ?_ (ix2 (at' i) j : S512x1536.Idx)).trans ?_
  · intro r l; rw [pRow_eq]; exact hf _ l
  · show headsRow (fun l => pRow _ _ _ (at' i) (from' 1536 _ l)) _ (row (cosines (argP m c)) (rowAt (pt i) (at' i))) (row (sines (argP m c)) (rowAt (pt i) (at' i))) _ j = _
    simp only [pRow_eq, rowAt_at]
    rfl

theorem arr12_apply (i : Fin 16384) (j : Fin 1536) :
    ((dats m 0 c).arrAt 12 cfg0.N : FVec Ideal S16384x1536 .bf16) (ix2 i j) = projAt (argX m c) (argN m c) (argW m c) i (from' (n := 1536) 3072 (by omega) j) := by
  have hx := emb12 (pt i) (at' i) j
  rw [rowAt_at] at hx
  rw [← hx]
  refine (congrFun (Value.blocks12 m c (pt i) (flush0_12 (pt i))) (ix2 (at' i) j : S512x1536.Idx)).trans ?_
  rw [Value.flushed12_A]
  refine (out_v _ _ _ _ _ _ _ _ _ _ _ _ _ _ _ _ _ _ _ _ _ _ _ _ _ _ _ _ _ _ _ _ _ _ _ _ _ _ _ _ _ _ _ _ (ix2 (at' i) j : S512x1536.Idx)).trans ?_
  show pRow _ _ _ (at' i) (from' (n := 1536) 3072 _ j) = _
  rw [pRow_eq, rowAt_at]

theorem arr14_apply (i : Fin 16384) (j : Fin 2048) :
    ((dats m 0 c).arrAt 14 cfg0.N : FVec Ideal S16384x2048 .f32) (ix2 i j) = gateRow (projAt (argX m c) (argN m c) (argW m c) i) (bias (argB m c)) j := by
  have hx := emb14 (pt i) (at' i) j
  rw [rowAt_at] at hx
  rw [← hx]
  refine (congrFun (Value.blocks14 m c (pt i) (flush0_14 (pt i))) (ix2 (at' i) j : S512x2048.Idx)).trans ?_
  rw [Value.flushed14_A]
  refine (out_g _ _ _ _ _ _ _ _ _ _ _ _ _ _ _ _ _ _ _ _ _ _ _ _ _ _ _ _ _ _ _ _ _ _ _ _ _ _ _ _ _ _ _ _ (ix2 (at' i) j : S512x2048.Idx)).trans ?_
  show gateRow (pRow _ _ _ (at' i)) (row (iblk m c 9 (pt i) : FVec Ideal S1x2048 .f32) 0) j = _
  rw [pRow_eq, rowAt_at, blk9_eq, V_bg, biasRow_row]

theorem arr13_apply (i : Fin 16384) (j : Fin 512) :
    ((dats m 0 c).arrAt 13 cfg0.N : FVec Ideal S16384x512 .f32) (ix2 i j) = convRow (projAt (argX m c) (argN m c) (argW m c) i) j := by
  have hx := emb13 (pt i) (at' i) j
  rw [rowAt_at] at hx
  rw [← hx]
  refine (congrFun (Value.blocks13 m c (pt i) (flush0_13 (pt i))) (ix2 (at' i) j : S512x512.Idx)).trans ?_
  rw [Value.flushed13_A]
  refine (out_u _ _ _ _ _ _ _ _ _ _ _ _ _ _ _ _ _ _ _ _ _ _ _ _ _ _ _ _ _ _ _ _ _ _ _ _ _ _ _ _ _ _ _ _ (at' i) j).trans ?_
  show convRow (pRow _ _ _ (at' i)) j = _
  rw [pRow_eq, rowAt_at]

end

end Cert.Proj

end
-- ==== Proof.ProjRef.lean ====
/-
  The reference's own steps, named, and each read at an index: the normalised rows and their product with the
  weights, the heads normalised and turned, the convolution branch and the gates.
-/
module

public import proofs.«01_k».proof.Proof.ProjHost
public import proofs.«01_k».proof.Proof.Gen.Reference3Ideal.Run
public import Idealize.ShloMosaic.Lib.Pointwise
public import Idealize.ShloMosaic.Lib.Tactic

@[expose] public section

noncomputable section

namespace Cert.Proj.Ref

open Cert.Reference3Ideal Cert.Reference3Ideal.Gen Idealize.ShloMosaic Idealize.ShloMosaic.TcCoe
open Cert.Mix (mulVec normRow)

/-- The normalised rows. -/
def norm (x : FVec Ideal S16384x1024 .f32) (n : FVec Ideal S1x1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 (shapeCast _ n shapeCasts_S1x1024_S1024)))

/-- The input projection. -/
def proj (x : FVec Ideal S16384x1024 .f32) (n : FVec Ideal S1x1024 .f32) (w : FVec Ideal S1x1024x7680 .f32) : FVec Ideal S16384x7680 .f32 :=
  Host.dotGeneral dot_S16384x1024_S1024x7680_S16384x7680_1_0_0_1_n_n none (norm x n) (shapeCast _ w shapeCasts_S1x1024x7680_S1024x7680)

/-- The columns of the queries and of the keys, by group, head and coordinate. -/
def queries (y : FVec Ideal S16384x7680 .f32) : FVec Ideal S16384x3x8x64 .f32 :=
  shapeCast _ (extractStridedSlice S16384x1536 ![0, 0] y slices_S16384x7680_S16384x1536_0_0) shapeCasts_S16384x1536_S16384x3x8x64
def keys (y : FVec Ideal S16384x7680 .f32) : FVec Ideal S16384x3x8x64 .f32 :=
  shapeCast _ (extractStridedSlice S16384x1536 ![0, 1536] y slices_S16384x7680_S16384x1536_0_1536) shapeCasts_S16384x1536_S16384x3x8x64

/-- Each head's sum of squares, and each head normalised. -/
def headSq (y : FVec Ideal S16384x3x8x64 .f32) : FVec Ideal S16384x3x8 .f32 :=
  Host.reduceAdd (mulf y y) (constant S_ .f32 0x00000000#32) reducesTo_S16384x3x8x64_S16384x3x8_d3 h_S_
def headNorm (y : FVec Ideal S16384x3x8x64 .f32) (w : FVec Ideal S1x64 .f32) : FVec Ideal S16384x3x8x64 .f32 :=
  mulf (mulf y (broadcastInDim S16384x3x8x64 ![0, 1, 2, 3] bcast_S16384x3x8x1_S16384x3x8x64_0_1_2_3 (Host.rsqrt (addf (Host.divf (broadcastInDim S16384x3x8x1 ![0, 1, 2] bcast_S16384x3x8_S16384x3x8x1_0_1_2 (headSq y)) (broadcastInDim S16384x3x8x1 ![] bcast_S_S16384x3x8x1 (constant S_ .f32 0x42800000#32))) (broadcastInDim S16384x3x8x1 ![] bcast_S_S16384x3x8x1 (constant S_ .f32 0x358637BD#32))))))
    (broadcastInDim S16384x3x8x64 ![0, 1, 2, 3] bcast_S1x1x1x64_S16384x3x8x64_0_1_2_3 (broadcastInDim S1x1x1x64 ![3] bcast_S64_S1x1x1x64_3 (shapeCast _ w shapeCasts_S1x64_S64)))

/-- The angles' cosines or sines given to every head. -/
def toHeads (x : FVec Ideal S16384x8 .f32) : FVec Ideal S16384x3x8x8 .f32 :=
  broadcastInDim S16384x3x8x8 ![0, 1, 2, 3] bcast_S16384x1x1x8_S16384x3x8x8_0_1_2_3 (broadcastInDim S16384x1x1x8 ![0, 3] bcast_S16384x8_S16384x1x1x8_0_3 x)

/-- Coordinates 0 to 7, 8 to 15, and the rest. -/
def lo (y : FVec Ideal S16384x3x8x64 .f32) : FVec Ideal S16384x3x8x8 .f32 := extractStridedSlice S16384x3x8x8 ![0, 0, 0, 0] y slices_S16384x3x8x64_S16384x3x8x8_0_0_0_0
def hi (y : FVec Ideal S16384x3x8x64 .f32) : FVec Ideal S16384x3x8x8 .f32 := extractStridedSlice S16384x3x8x8 ![0, 0, 0, 8] y slices_S16384x3x8x64_S16384x3x8x8_0_0_0_8
def rest (y : FVec Ideal S16384x3x8x64 .f32) : FVec Ideal S16384x3x8x48 .f32 := extractStridedSlice S16384x3x8x48 ![0, 0, 0, 16] y slices_S16384x3x8x64_S16384x3x8x48_0_0_0_16

def turnedLo (y : FVec Ideal S16384x3x8x64 .f32) (cs sn : FVec Ideal S16384x8 .f32) : FVec Ideal S16384x3x8x8 .f32 :=
  subf (mulf (lo y) (toHeads cs)) (mulf (hi y) (toHeads sn))
def turnedHi (y : FVec Ideal S16384x3x8x64 .f32) (cs sn : FVec Ideal S16384x8 .f32) : FVec Ideal S16384x3x8x8 .f32 :=
  addf (mulf (hi y) (toHeads cs)) (mulf (lo y) (toHeads sn))

/-- The heads turned. -/
def turned (y : FVec Ideal S16384x3x8x64 .f32) (cs sn : FVec Ideal S16384x8 .f32) : FVec Ideal S16384x3x8x64 .f32 :=
  concatenate S16384x3x8x64 3 [⟨S16384x3x8x8, turnedLo y cs sn⟩, ⟨S16384x3x8x8, turnedHi y cs sn⟩, ⟨S16384x3x8x48, rest y⟩] concatenates_S16384x3x8x8_S16384x3x8x8_S16384x3x8x48_S16384x3x8x64_d3

/-- By group, head and coordinate, as columns. -/
def flat (y : FVec Ideal S16384x3x8x64 .f32) : FVec Ideal S16384x1536 .bf16 := truncf .bf16 (shapeCast _ y shapeCasts_S16384x3x8x64_S16384x1536) bitsLt_bf16_f32

/-- The queries times an eighth. -/
def eighth (y : FVec Ideal S16384x3x8x64 .f32) : FVec Ideal S16384x3x8x64 .f32 := mulf y (broadcastInDim S16384x3x8x64 ![] bcast_S_S16384x3x8x64 (constant S_ .f32 0x3E000000#32))

def values (y : FVec Ideal S16384x7680 .f32) : FVec Ideal S16384x1536 .bf16 := truncf .bf16 (extractStridedSlice S16384x1536 ![0, 3072] y slices_S16384x7680_S16384x1536_0_3072) bitsLt_bf16_f32

/-- The convolution branch's input. -/
def branch (y : FVec Ideal S16384x7680 .f32) : FVec Ideal S16384x512 .f32 :=
  mulf (extractStridedSlice S16384x512 ![0, 0] (extractStridedSlice S16384x1024 ![0, 4608] y slices_S16384x7680_S16384x1024_0_4608) slices_S16384x1024_S16384x512_0_0) (Host.divf (broadcastInDim S16384x512 ![] bcast_S_S16384x512 (constant S_ .f32 0x3F800000#32)) (addf (broadcastInDim S16384x512 ![] bcast_S_S16384x512 (constant S_ .f32 0x3F800000#32)) (Host.exp (Host.negf (extractStridedSlice S16384x512 ![0, 512] (extractStridedSlice S16384x1024 ![0, 4608] y slices_S16384x7680_S16384x1024_0_4608) slices_S16384x1024_S16384x512_0_512)))))

/-- The gates. -/
def gatesOf (y : FVec Ideal S16384x7680 .f32) (b : FVec Ideal S1x2x1024 .f32) : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32)) (Host.exp (Host.negf (addf (extractStridedSlice S16384x2048 ![0, 5632] y slices_S16384x7680_S16384x2048_0_5632) (broadcastInDim S16384x2048 ![0, 1] bcast_S1x2048_S16384x2048_0_1 (broadcastInDim S1x2048 ![1] bcast_S2048_S1x2048_1 (shapeCast _ (shapeCast _ b shapeCasts_S1x2x1024_S2x1024) shapeCasts_S2x1024_S2048)))))))

theorem res_q (m : (ℓ : Loc nD τ sig) → Buf (Elt Ideal) ℓ) (c : Dev nD) :
    Value.res_out0 m c = flat (eighth (turned (headNorm (queries (proj (m ((c.tc : Thread nD τ).loc main_arg0)) (m ((c.tc : Thread nD τ).loc main_arg2)) (m ((c.tc : Thread nD τ).loc main_arg3)))) (m ((c.tc : Thread nD τ).loc main_arg5))) (cosines (m ((c.tc : Thread nD τ).loc main_arg1))) (sines (m ((c.tc : Thread nD τ).loc main_arg1))))) := rfl

theorem res_k (m : (ℓ : Loc nD τ sig) → Buf (Elt Ideal) ℓ) (c : Dev nD) :
    Value.res_out1 m c = flat (turned (headNorm (keys (proj (m ((c.tc : Thread nD τ).loc main_arg0)) (m ((c.tc : Thread nD τ).loc main_arg2)) (m ((c.tc : Thread nD τ).loc main_arg3)))) (m ((c.tc : Thread nD τ).loc main_arg6))) (cosines (m ((c.tc : Thread nD τ).loc main_arg1))) (sines (m ((c.tc : Thread nD τ).loc main_arg1)))) := rfl

section
variable (i : Fin 16384)

theorem norm_apply (x : FVec Ideal S16384x1024 .f32) (n : FVec Ideal S1x1024 .f32) : row (norm x n) i = normRow (row x i) (row n 0) := by
  funext j
  show norm x n (ix2 i j) = _
  pointwise [norm]
  rfl

theorem proj_apply (x : FVec Ideal S16384x1024 .f32) (n : FVec Ideal S1x1024 .f32) (w : FVec Ideal S1x1024x7680 .f32) : row (proj x n w) i = projRow (row x i) (row n 0) (mat w) := by
  funext j
  show proj x n w (ix2 i j) = mulVec (normRow (row x i) (row n 0)) (mat w) j
  rw [← norm_apply]
  pointwise [proj]
  rfl

theorem headNorm_apply (y : FVec Ideal S16384x3x8x64 .f32) (w : FVec Ideal S1x64 .f32) (g : Fin 3) (h : Fin 8) (d : Fin 64) :
    headNorm y w (ix4 i g h d) = headRow (fun e => y (ix4 i g h e)) (row w 0) d := by
  pointwise [headNorm, headSq]
  rfl

theorem turnedLo_apply (y : FVec Ideal S16384x3x8x64 .f32) (cs sn : FVec Ideal S16384x8 .f32) (g : Fin 3) (h : Fin 8) (d : Fin 8) :
    turnedLo y cs sn (ix4 i g h d) = y (ix4 i g h (⟨d.val, by omega⟩ : Fin 64)) * cs (ix2 i d) - y (ix4 i g h (⟨d.val + 8, by omega⟩ : Fin 64)) * sn (ix2 i d) := by
  pointwise [turnedLo, lo, hi, toHeads]
  exact congrArg (fun e => _ - y (ix4 i g h e) * _) (Fin.ext (by dsimp only; omega))

theorem turnedHi_apply (y : FVec Ideal S16384x3x8x64 .f32) (cs sn : FVec Ideal S16384x8 .f32) (g : Fin 3) (h : Fin 8) (d : Fin 8) :
    turnedHi y cs sn (ix4 i g h d) = y (ix4 i g h (⟨d.val + 8, by omega⟩ : Fin 64)) * cs (ix2 i d) + y (ix4 i g h (⟨d.val, by omega⟩ : Fin 64)) * sn (ix2 i d) := by
  pointwise [turnedHi, lo, hi, toHeads]
  exact congrArg (fun e => y (ix4 i g h e) * _ + _) (Fin.ext (by dsimp only; omega))

theorem rest_apply (y : FVec Ideal S16384x3x8x64 .f32) (g : Fin 3) (h : Fin 8) (d : Fin 48) : rest y (ix4 i g h d) = y (ix4 i g h (⟨d.val + 16, by omega⟩ : Fin 64)) := by
  pointwise [rest]
  exact congrArg (fun e => y (ix4 i g h e)) (Fin.ext (by dsimp only; omega))

theorem turned_apply (y : FVec Ideal S16384x3x8x64 .f32) (cs sn : FVec Ideal S16384x8 .f32) (g : Fin 3) (h : Fin 8) (d : Fin 64) :
    turned y cs sn (ix4 i g h d) = rope (row cs i) (row sn i) (fun e => y (ix4 i g h e)) d := by
  pointwise [turned]
  show (if h8 : d.val < 8 then turnedLo y cs sn (ix4 i g h ⟨d.val, h8⟩) else if h16 : d.val - 8 < 8 then turnedHi y cs sn (ix4 i g h ⟨d.val - 8, h16⟩)
    else rest y (ix4 i g h (⟨d.val - 8 - 8, by omega⟩ : Fin 48))) = _
  unfold rope
  by_cases h8 : d.val < 8
  · rw [dif_pos h8, dif_pos h8, turnedLo_apply]; rfl
  · rw [dif_neg h8, dif_neg h8]
    by_cases h16 : d.val < 16
    · have hd : (⟨d.val - 8 + 8, by omega⟩ : Fin 64) = d := Fin.ext (by dsimp only; omega)
      rw [dif_pos (by omega), dif_pos h16, turnedHi_apply]
      exact congrArg (fun e => y (ix4 i g h e) * _ + _) hd
    · rw [dif_neg (by omega), dif_neg h16, rest_apply]
      exact congrArg (fun e => y (ix4 i g h e)) (Fin.ext (by dsimp only; omega))

/-- The group and the head that a column lies in. -/
def grp (j : Fin 1536) : Fin 3 := ⟨j.val / 512, by omega⟩
def hd (j : Fin 1536) : Fin 8 := ⟨j.val / 64 % 8, by omega⟩

theorem flat_apply (y : FVec Ideal S16384x3x8x64 .f32) (j : Fin 1536) : flat y (ix2 i j) = y (ix4 i (grp j) (hd j) (placeOf j)) := by
  pointwise [flat]
  refine congrArg y ?_
  funext a; fin_cases a <;> first | rfl | exact Fin.ext (by simp [grp, hd, placeOf]; omega)

theorem queries_apply (y : FVec Ideal S16384x7680 .f32) (j : Fin 1536) (e : Fin 64) : queries y (ix4 i (grp j) (hd j) e) = y (ix2 i (from' 0 (by omega) (colOf j e))) := by
  pointwise [queries]
  exact congrArg y (congrArg (ix2 i) (Fin.ext (by simp only [grp, hd, colOf, from']; omega)))

theorem keys_apply (y : FVec Ideal S16384x7680 .f32) (j : Fin 1536) (e : Fin 64) : keys y (ix4 i (grp j) (hd j) e) = y (ix2 i (from' 1536 (by omega) (colOf j e))) := by
  pointwise [keys]
  exact congrArg y (congrArg (ix2 i) (Fin.ext (by simp only [grp, hd, colOf, from']; omega)))

theorem eighth_apply (y : FVec Ideal S16384x3x8x64 .f32) (g : Fin 3) (h : Fin 8) (d : Fin 64) : eighth y (ix4 i g h d) = y (ix4 i g h d) * Ideal.ofBits .f32 0x3E000000#32 := by
  unfold eighth
  rfl

theorem q_apply (y : FVec Ideal S16384x7680 .f32) (w : FVec Ideal S1x64 .f32) (cs sn : FVec Ideal S16384x8 .f32) (j : Fin 1536) :
    flat (eighth (turned (headNorm (queries y) w) cs sn)) (ix2 i j) = headsRow (fun l => row y i (from' 0 (by omega) l)) (row w 0) (row cs i) (row sn i) 0x3E000000#32 j := by
  rw [flat_apply, eighth_apply, turned_apply]
  simp only [headNorm_apply, queries_apply]
  rfl

theorem k_apply (y : FVec Ideal S16384x7680 .f32) (w : FVec Ideal S1x64 .f32) (cs sn : FVec Ideal S16384x8 .f32) (j : Fin 1536) :
    flat (turned (headNorm (keys y) w) cs sn) (ix2 i j) = headsRow (fun l => row y i (from' 1536 (by omega) l)) (row w 0) (row cs i) (row sn i) 0x3F800000#32 j := by
  rw [flat_apply, turned_apply]
  simp only [headNorm_apply, keys_apply]
  rw [headsRow, one_f32, mul_one]
  rfl

theorem values_apply (y : FVec Ideal S16384x7680 .f32) (j : Fin 1536) : values y (ix2 i j) = row y i (from' 3072 (by omega) j) := by
  pointwise [values]
  rfl

theorem branch_apply (y : FVec Ideal S16384x7680 .f32) (j : Fin 512) : branch y (ix2 i j) = convRow (row y i) j := by
  pointwise [branch]
  refine (congrArg₂ (fun a b => y a * Ideal.logistic (y b)) (congrArg (ix2 i) (Fin.ext ?_)) (congrArg (ix2 i) (Fin.ext ?_)) : _ = y (ix2 i (from' 4608 (by omega) j)) * Ideal.logistic (y (ix2 i (from' 5120 (by omega) j))))
  · simp only [from']
  · simp only [from']; omega

theorem gates_apply (y : FVec Ideal S16384x7680 .f32) (b : FVec Ideal S1x2x1024 .f32) (j : Fin 2048) : gatesOf y b (ix2 i j) = gateRow (row y i) (bias b) j := by
  pointwise [gatesOf]
  rfl
end

end Cert.Proj.Ref

end
-- ==== Proof.ProjEq.lean ====
/- The projection call and its reference agree where every projected query and key is finite. -/
module

public import proofs.«01_k».proof.Proof.ProjArray
public import proofs.«01_k».proof.Proof.ProjRef
public import proofs.«01_k».proof.Proof.AttnEq
public import proofs.«01_k».proof.Pre_finite_qk
public import proofs.«01_k».proof.Defs

@[expose] public section

noncomputable section

namespace Cert.Proj

open Idealize.ShloMosaic Idealize.ShloMosaic.TcCoe Idealize.SL.Sem Cert.Attn
open Cert.Mix (mulVec normRow)

theorem preFacts : Cert.Pre_finite_qk.Facts := by constructor <;> decide

theorem one_true : ∀ a : Bool, BitVec.ofBool a = 1#1 → a = true := by decide

section
open Cert.Kernel3Ideal

/-- A column of the queries and keys among the projected columns. -/
def qkCol (j : Fin 3072) : Fin 7680 := ⟨j.val, by omega⟩

/-- What the precondition says: the projected queries and keys are finite. -/
theorem finite_cols (x : FVec Ideal S16384x1024 .f32) (p : IVec S16384 32) (n : FVec Ideal S1x1024 .f32) (w : FVec Ideal S1x1024x7680 .f32) (b : FVec Ideal S1x2x1024 .f32) (sq sk : FVec Ideal S1x64 .f32)
    (h : letI := preFacts; Cert.Pre_finite_qk.fn (F := Ideal) x p n w b sq sk = fun _ => 1#1) (i : Fin 16384) (j : Fin 3072) :
    IsFin (projAt x n w i (qkCol j)) := by
  have hi := congrFun h (ix2 i j)
  pointwise [Cert.Pre_finite_qk.fn] at hi
  rw [show Ideal.ofBits .f32 2139095040#32 = (⊤ : EReal) from by simp [Ideal.ofBits, Ideal.ieee]] at hi
  replace hi : BitVec.ofBool (decide (max (projAt x n w i (qkCol j)) (-(projAt x n w i (qkCol j))) < (⊤ : EReal))) = 1#1 := hi
  exact Cert.Attn.isFin_of_abs _ (of_decide_eq_true (one_true _ hi))

/-- The common results, from the arguments. -/
def qArr (x : FVec Ideal S16384x1024 .f32) (p : IVec S16384 32) (n : FVec Ideal S1x1024 .f32) (w : FVec Ideal S1x1024x7680 .f32) (s : FVec Ideal S1x64 .f32) : FVec Ideal S16384x1536 .bf16 :=
  fun y => headsAt x n w s p 0x3E000000#32 0 (by omega) (y 0) (y 1)
def kArr (x : FVec Ideal S16384x1024 .f32) (p : IVec S16384 32) (n : FVec Ideal S1x1024 .f32) (w : FVec Ideal S1x1024x7680 .f32) (s : FVec Ideal S1x64 .f32) : FVec Ideal S16384x1536 .bf16 :=
  fun y => headsAt x n w s p 0x3F800000#32 1536 (by omega) (y 0) (y 1)
def vArr (x : FVec Ideal S16384x1024 .f32) (n : FVec Ideal S1x1024 .f32) (w : FVec Ideal S1x1024x7680 .f32) : FVec Ideal S16384x1536 .bf16 :=
  fun y => projAt x n w (y 0) (from' (n := 1536) 3072 (by omega) (y 1))
def uArr (x : FVec Ideal S16384x1024 .f32) (n : FVec Ideal S1x1024 .f32) (w : FVec Ideal S1x1024x7680 .f32) : FVec Ideal S16384x512 .f32 :=
  fun y => convRow (projAt x n w (y 0)) (y 1)
def gArr (x : FVec Ideal S16384x1024 .f32) (n : FVec Ideal S1x1024 .f32) (w : FVec Ideal S1x1024x7680 .f32) (b : FVec Ideal S1x2x1024 .f32) : FVec Ideal S16384x2048 .f32 :=
  fun y => gateRow (projAt x n w (y 0)) (bias b) (y 1)

/-- Two arrays of rows agree where they agree at every row and column. -/
theorem ext_rows {n : ℕ} {f g : ((⟨2, ![16384, n]⟩ : Shape)).Idx → EReal} (h : ∀ (i : Fin 16384) (j : Fin n), f (ix2 i j) = g (ix2 i j)) : f = g := by
  funext y
  obtain ⟨i, j, rfl⟩ : ∃ (i : Fin 16384) (j : Fin n), y = ix2 i j := ⟨y 0, y 1, by funext a; fin_cases a <;> rfl⟩
  exact h i j

section
variable (m : (ℓ : Loc nD τ sig) → Buf (Elt Ideal) ℓ) (c : Dev nD)
  (h : ∀ (i : Fin 16384) (j : Fin 3072), IsFin (projAt (argX m c) (argN m c) (argW m c) i (qkCol j)))

include h in
theorem arr10_eq : ((Gen.dats m 0 c).arrAt 10 cfg0.N : FVec Ideal S16384x1536 .bf16) = qArr (argX m c) (argP m c) (argN m c) (argW m c) (argSq m c) :=
  ext_rows fun i j => arr10_apply m c (fun i j => (congrArg (fun k => IsFin (projAt (argX m c) (argN m c) (argW m c) i k)) (Fin.ext (by simp only [qkCol, from']; omega))).mp (h i (⟨j.val, by omega⟩ : Fin 3072))) i j

include h in
theorem arr11_eq : ((Gen.dats m 0 c).arrAt 11 cfg0.N : FVec Ideal S16384x1536 .bf16) = kArr (argX m c) (argP m c) (argN m c) (argW m c) (argSk m c) :=
  ext_rows fun i j => arr11_apply m c (fun i j => (congrArg (fun k => IsFin (projAt (argX m c) (argN m c) (argW m c) i k)) (Fin.ext (by simp only [qkCol, from']))).mp (h i (⟨1536 + j.val, by omega⟩ : Fin 3072))) i j

theorem arr12_eq : ((Gen.dats m 0 c).arrAt 12 cfg0.N : FVec Ideal S16384x1536 .bf16) = vArr (argX m c) (argN m c) (argW m c) := ext_rows (arr12_apply m c)

theorem arr13_eq : ((Gen.dats m 0 c).arrAt 13 cfg0.N : FVec Ideal S16384x512 .f32) = uArr (argX m c) (argN m c) (argW m c) := ext_rows (arr13_apply m c)

theorem arr14_eq : ((Gen.dats m 0 c).arrAt 14 cfg0.N : FVec Ideal S16384x2048 .f32) = gArr (argX m c) (argN m c) (argW m c) (argB m c) := ext_rows (arr14_apply m c)
end
end

/-! The reference's results. -/

section
open Cert.Reference3Ideal
variable (x : FVec Ideal S16384x1024 .f32) (p : IVec S16384 32) (n : FVec Ideal S1x1024 .f32) (w : FVec Ideal S1x1024x7680 .f32)

theorem ref_q (s : FVec Ideal S1x64 .f32) : Ref.flat (Ref.eighth (Ref.turned (Ref.headNorm (Ref.queries (Ref.proj x n w)) s) (cosines p) (sines p))) = qArr x p n w s :=
  ext_rows fun i j => by rw [Ref.q_apply, Ref.proj_apply]; rfl

theorem ref_k (s : FVec Ideal S1x64 .f32) : Ref.flat (Ref.turned (Ref.headNorm (Ref.keys (Ref.proj x n w)) s) (cosines p) (sines p)) = kArr x p n w s :=
  ext_rows fun i j => by rw [Ref.k_apply, Ref.proj_apply]; rfl

theorem ref_v : Ref.values (Ref.proj x n w) = vArr x n w := ext_rows fun i j => by rw [Ref.values_apply, Ref.proj_apply]; rfl

theorem ref_u : Ref.branch (Ref.proj x n w) = uArr x n w := ext_rows fun i j => by rw [Ref.branch_apply, Ref.proj_apply]; rfl

theorem ref_g (b : FVec Ideal S1x2x1024 .f32) : Ref.gatesOf (Ref.proj x n w) b = gArr x n w b := ext_rows fun i j => by rw [Ref.gates_apply, Ref.proj_apply]; rfl
end

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.AttnEq
public import proofs.«01_k».proof.Proof.MixEq
public import proofs.«01_k».proof.Proof.ProjEq
public import Idealize.ShloMosaic.Adequacy
public import Idealize.ShloMosaic.Init

@[expose] public section

noncomputable section

namespace Cert.Proof

open Idealize.ShloMosaic Idealize.ShloMosaic.TcCoe Idealize.SL.Sem

theorem frame_ri : Cert.quiescent_ReferenceIdeal := fun m g _ =>
  (θ_run (Cert.ReferenceIdeal.defs (F := Ideal)) _ _).mono (fun r h => And.intro (fun c => (h c).2.2) (sem_eq_zero_of_no_sems (by decide) r.2))
    (Cert.ReferenceIdeal.Value.run (F := Ideal) m g)

/-- The attention call. -/
theorem attention : letI := Cert.Attn.preFacts; Cert.algebraic_KernelIdeal_ReferenceIdeal_pre_finite := by
  intro m g m' g' hpre hagree
  refine ⟨fun c => Cert.Attn.outArr (Cert.Attn.argQ m c) (Cert.Attn.argK m c) (Cert.Attn.argV m c), fun c => Cert.Attn.lseArr (Cert.Attn.argQ m c) (Cert.Attn.argK m c), ?_, ?_⟩
  · exact (θ_run Cert.KernelIdeal.defs _ _).mono
      (fun r h c => ⟨(h c).1.trans (Cert.Attn.arr3_eq m c), (h c).2.1.trans (Cert.Attn.arr4_eq m c), (h c).2.2⟩) (Cert.KernelIdeal.Value.run_blocks m g)
  · refine (θ_run Cert.ReferenceIdeal.defs _ _).mono (fun r h c => ?_) (Cert.ReferenceIdeal.Value.run m' g')
    obtain ⟨h0, h1, h2, h3, h4⟩ := h c
    obtain ⟨e0, e1, e2⟩ := hagree c
    obtain ⟨hq, hk⟩ := Cert.Attn.finite_args _ _ _ (hpre c)
    refine ⟨h0.trans ((Cert.Attn.Ref.res_out m' c).trans ?_), h1.trans ((Cert.Attn.Ref.res_lse m' c).trans ?_), h2, h3, h4⟩
    · rw [e0, e1, e2]; exact (Cert.Attn.out_agree _ _ _ hq hk).symm
    · rw [e0, e1]; exact (Cert.Attn.lse_agree _ _).symm

theorem frame_r2i : Cert.quiescent_Reference2Ideal := fun m g _ =>
  (θ_run (Cert.Reference2Ideal.defs (F := Ideal)) _ _).mono (fun r h => And.intro (fun c => (h c).2) (sem_eq_zero_of_no_sems (by decide) r.2))
    (Cert.Reference2Ideal.Value.run (F := Ideal) m g)

/-- The feed-forward call. -/
theorem feedForward : letI := Cert.Mix.preFacts; Cert.algebraic_Kernel2Ideal_Reference2Ideal_pre_finite_lse := by
  intro m g m' g' hpre hagree
  refine ⟨fun c => Cert.Mix.resArr m c, ?_, ?_⟩
  · refine (θ_run Cert.Kernel2Ideal.defs _ _).mono (fun r h c => ⟨(h c).1.trans ?_, (h c).2⟩) (Cert.Kernel2Ideal.Value.run_blocks m g)
    exact Cert.Mix.arr16_eq m c (Cert.Mix.finite_lanes _ _ _ _ _ _ _ _ _ _ _ _ _ _ _ (hpre c))
  · refine (θ_run Cert.Reference2Ideal.defs _ _).mono (fun r h c => ⟨(h c).1.trans ?_, (h c).2⟩) (Cert.Reference2Ideal.Value.run m' g')
    obtain ⟨e0, e1, e2, e3, e4, e5, e6, e7, e8, e9, e10, e11, e12, e13, e14⟩ := hagree c
    refine (Cert.Mix.Ref.res_eq m' c).trans ?_
    rw [e0, e1, e2, e3, e4, e5, e6, e7, e8, e9, e10, e11, e12, e13, e14]
    rfl

theorem frame_r3i : Cert.quiescent_Reference3Ideal := fun m g _ =>
  (θ_run (Cert.Reference3Ideal.defs (F := Ideal)) _ _).mono (fun r h => And.intro (fun c => (h c).2.2.2.2.2) (sem_eq_zero_of_no_sems (by decide) r.2))
    (Cert.Reference3Ideal.Value.run (F := Ideal) m g)

/-- The input projection's call. -/
theorem projection : letI := Cert.Proj.preFacts; Cert.algebraic_Kernel3Ideal_Reference3Ideal_pre_finite_qk := by
  intro m g m' g' hpre hagree
  refine ⟨fun c => Cert.Proj.qArr (Cert.Proj.argX m c) (Cert.Proj.argP m c) (Cert.Proj.argN m c) (Cert.Proj.argW m c) (Cert.Proj.argSq m c),
    fun c => Cert.Proj.kArr (Cert.Proj.argX m c) (Cert.Proj.argP m c) (Cert.Proj.argN m c) (Cert.Proj.argW m c) (Cert.Proj.argSk m c),
    fun c => Cert.Proj.vArr (Cert.Proj.argX m c) (Cert.Proj.argN m c) (Cert.Proj.argW m c),
    fun c => Cert.Proj.uArr (Cert.Proj.argX m c) (Cert.Proj.argN m c) (Cert.Proj.argW m c),
    fun c => Cert.Proj.gArr (Cert.Proj.argX m c) (Cert.Proj.argN m c) (Cert.Proj.argW m c) (Cert.Proj.argB m c), ?_, ?_⟩
  · refine (θ_run Cert.Kernel3Ideal.defs _ _).mono (fun r h c => ?_) (Cert.Kernel3Ideal.Value.run_blocks m g)
    obtain ⟨h0, h1, h2, h3, h4, h5⟩ := h c
    have hf := Cert.Proj.finite_cols _ _ _ _ _ _ _ (hpre c)
    exact ⟨h0.trans (Cert.Proj.arr10_eq m c hf), h1.trans (Cert.Proj.arr11_eq m c hf), h2.trans (Cert.Proj.arr12_eq m c), h3.trans (Cert.Proj.arr13_eq m c), h4.trans (Cert.Proj.arr14_eq m c), h5⟩
  · refine (θ_run Cert.Reference3Ideal.defs _ _).mono (fun r h c => ?_) (Cert.Reference3Ideal.Value.run m' g')
    obtain ⟨h0, h1, h2, h3, h4, h5⟩ := h c
    obtain ⟨e0, e1, e2, e3, e4, e5, e6⟩ := hagree c
    refine ⟨h0.trans ((Cert.Proj.Ref.res_q m' c).trans ?_), h1.trans ((Cert.Proj.Ref.res_k m' c).trans ?_), h2.trans ?_, h3.trans ?_, h4.trans ?_, h5⟩
    · rw [e0, e1, e2, e3, e5]; exact Cert.Proj.ref_q _ _ _ _ _
    · rw [e0, e1, e2, e3, e6]; exact Cert.Proj.ref_k _ _ _ _ _
    · rw [e0, e2, e3]; exact Cert.Proj.ref_v _ _ _
    · rw [e0, e2, e3]; exact Cert.Proj.ref_u _ _ _
    · rw [e0, e2, e3, e4]; exact Cert.Proj.ref_g _ _ _ _

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts,
    Cert.Attn.preFacts, Cert.Mix.preFacts, Cert.Proj.preFacts,
    fun m g _ => Cert.Kernel.Gen.frame m g, fun m g _ => Cert.KernelIdeal.Gen.frame m g, fun m g _ => Cert.KernelIdeal.Gen.frame m g,
    frame_ri, fun m g _ => frame_ri m g trivial,
    fun m g _ => Cert.Kernel2.Gen.frame m g, fun m g _ => Cert.Kernel2Ideal.Gen.frame m g, fun m g _ => Cert.Kernel2Ideal.Gen.frame m g,
    frame_r2i, fun m g _ => frame_r2i m g trivial,
    fun m g _ => Cert.Kernel3.Gen.frame m g, fun m g _ => Cert.Kernel3Ideal.Gen.frame m g, fun m g _ => Cert.Kernel3Ideal.Gen.frame m g,
    frame_r3i, fun m g _ => frame_r3i m g trivial,
    IdealRules.named_const.statement Cert.KernelIdeal.κ "mask" .f32 0xF149F2CA#32 ⊥ rfl,
    attention, trivial, feedForward, trivial, projection⟩

end Cert.Proof

end
